-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_experts_named : Cert.Pre_experts_named.Facts] (m : (ℓ : Loc Cert.Kernel7.nD Cert.Kernel7.τ Cert.Kernel7.sig) → Buf (Elt Bits) ℓ) : Prop :=
  ∀ c : Dev Cert.Kernel7.nD,
    (Cert.Pre_experts_named.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5))) = (fun _ => 1#1)

def Pre_Kernel7Ideal [hPre_experts_named : Cert.Pre_experts_named.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_experts_named.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_experts_named [hPre_experts_named : Cert.Pre_experts_named.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_experts_named.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def Pre_Kernel8 [hPre_down_experts_named : Cert.Pre_down_experts_named.Facts] (m : (ℓ : Loc Cert.Kernel8.nD Cert.Kernel8.τ Cert.Kernel8.sig) → Buf (Elt Bits) ℓ) : Prop :=
  ∀ c : Dev Cert.Kernel8.nD,
    (Cert.Pre_down_experts_named.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3))) = (fun _ => 1#1)

def Pre_Kernel8Ideal [hPre_down_experts_named : Cert.Pre_down_experts_named.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_down_experts_named.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_down_experts_named [hPre_down_experts_named : Cert.Pre_down_experts_named.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_down_experts_named.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] [hPre_experts_named : Cert.Pre_experts_named.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] [hPre_experts_named : Cert.Pre_experts_named.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_experts_named [hReference7Ideal : Cert.Reference7Ideal.Facts] [hPre_experts_named : Cert.Pre_experts_named.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_experts_named m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] [hPre_down_experts_named : Cert.Pre_down_experts_named.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] [hPre_down_experts_named : Cert.Pre_down_experts_named.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_down_experts_named [hReference8Ideal : Cert.Reference8Ideal.Facts] [hPre_down_experts_named : Cert.Pre_down_experts_named.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_down_experts_named m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v103_7) = v3 c
          ∧ r.2.mem ((c.tc : Thread Cert.ReferenceIdeal.nD Cert.ReferenceIdeal.τ).loc Cert.ReferenceIdeal.main_v116) = v4 c
          ∧ r.2.mem ((c.tc : Thread Cert.ReferenceIdeal.nD Cert.ReferenceIdeal.τ).loc Cert.ReferenceIdeal.main_v118) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] [hPre_experts_named : Cert.Pre_experts_named.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] [hPre_down_experts_named : Cert.Pre_down_experts_named.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_experts_named : Cert.Pre_experts_named.Facts) (hPre_down_experts_named : Cert.Pre_down_experts_named.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_experts_named := hPre_experts_named)
    ∧ quiescent_Kernel7Ideal (hKernel7Ideal := hKernel7Ideal) (hPre_experts_named := hPre_experts_named)
    ∧ quiescent_Reference7Ideal (hReference7Ideal := hReference7Ideal)
    ∧ quiescent_Reference7Ideal_pre_experts_named (hReference7Ideal := hReference7Ideal) (hPre_experts_named := hPre_experts_named)
    ∧ quiescent_Kernel8 (hKernel8 := hKernel8) (hPre_down_experts_named := hPre_down_experts_named)
    ∧ quiescent_Kernel8Ideal (hKernel8Ideal := hKernel8Ideal) (hPre_down_experts_named := hPre_down_experts_named)
    ∧ quiescent_Reference8Ideal (hReference8Ideal := hReference8Ideal)
    ∧ quiescent_Reference8Ideal_pre_down_experts_named (hReference8Ideal := hReference8Ideal) (hPre_down_experts_named := hPre_down_experts_named)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_experts_named := hPre_experts_named)
    ∧ preserves_Kernel8_Kernel8Ideal
    ∧ algebraic_Kernel8Ideal_Reference8Ideal (hKernel8Ideal := hKernel8Ideal) (hReference8Ideal := hReference8Ideal) (hPre_down_experts_named := hPre_down_experts_named)
-- ==== Pre_down_experts_named.lean ====
abbrev S36864x2048 : Shape := ⟨2, ![36864, 2048]⟩
abbrev S8x2048x4096 : Shape := ⟨3, ![8, 2048, 4096]⟩
abbrev S72 : Shape := ⟨1, ![72]⟩
abbrev S1 : Shape := ⟨1, ![1]⟩
abbrev S_ : Shape := ⟨0, ![]⟩

class Facts : Prop where
  bcast_S_S72 : S_.BroadcastsInDim S72 (![] : Fin 0 → Fin S72.rank)

variable [Facts]

def fn {F : FTy → Type} [FloatOps F] (main_arg0 : FVec F S36864x2048 .bf16) (main_arg1 : FVec F S8x2048x4096 .f32) (main_arg2 : IVec S72 32) (main_arg3 : IVec S1 32) : IVec S72 1 :=
  let main_c : IVec S_ 32 := constantI S_ 32 0#32
  let main_v0 : IVec S72 32 := broadcastInDim S72 ![] bcast_S_S72 main_c
  let main_v1 : IVec S72 1 := cmpi .sge main_arg2 main_v0
  let main_c_0 : IVec S_ 32 := constantI S_ 32 8#32
  let main_v2 : IVec S72 32 := broadcastInDim S72 ![] bcast_S_S72 main_c_0
  let main_v3 : IVec S72 1 := cmpi .slt main_arg2 main_v2
  let main_v4 : IVec S72 1 := andi main_v1 main_v3
  main_v4
-- ==== Pre_experts_named.lean ====
abbrev S36864x4096 : Shape := ⟨2, ![36864, 4096]⟩
abbrev S8x4096x2048 : Shape := ⟨3, ![8, 4096, 2048]⟩
abbrev S36864 : Shape := ⟨1, ![36864]⟩
abbrev S72 : Shape := ⟨1, ![72]⟩
abbrev S1 : Shape := ⟨1, ![1]⟩
abbrev S_ : Shape := ⟨0, ![]⟩

class Facts : Prop where
  bcast_S_S72 : S_.BroadcastsInDim S72 (![] : Fin 0 → Fin S72.rank)

variable [Facts]

def fn {F : FTy → Type} [FloatOps F] (main_arg0 : FVec F S36864x4096 .f32) (main_arg1 : FVec F S8x4096x2048 .f32) (main_arg2 : FVec F S8x4096x2048 .f32) (main_arg3 : FVec F S36864 .f32) (main_arg4 : IVec S72 32) (main_arg5 : IVec S1 32) : IVec S72 1 :=
  let main_c : IVec S_ 32 := constantI S_ 32 0#32
  let main_v0 : IVec S72 32 := broadcastInDim S72 ![] bcast_S_S72 main_c
  let main_v1 : IVec S72 1 := cmpi .sge main_arg4 main_v0
  let main_c_0 : IVec S_ 32 := constantI S_ 32 8#32
  let main_v2 : IVec S72 32 := broadcastInDim S72 ![] bcast_S_S72 main_c_0
  let main_v3 : IVec S72 1 := cmpi .slt main_arg4 main_v2
  let main_v4 : IVec S72 1 := andi main_v1 main_v3
  main_v4
-- ==== Pre_finite.lean ====
abbrev S4x4096x28672 : Shape := ⟨3, ![4, 4096, 28672]⟩
abbrev S4x4096x128 : Shape := ⟨3, ![4, 4096, 128]⟩
abbrev S32 : Shape := ⟨1, ![32]⟩
abbrev S2x3x4096 : Shape := ⟨3, ![2, 3, 4096]⟩
abbrev S2x4096 : Shape := ⟨2, ![2, 4096]⟩
abbrev S4x8x256x256 : Shape := ⟨4, ![4, 8, 256, 256]⟩
abbrev S4x8x1x256 : Shape := ⟨4, ![4, 8, 1, 256]⟩
abbrev S4x8x8x128 : Shape := ⟨4, ![4, 8, 8, 128]⟩
abbrev S_ : Shape := ⟨0, ![]⟩

class Facts : Prop where
  bitsLt_bf16_f32 : FTy.bits .bf16 < FTy.bits .f32
  bcast_S_S4x4096x28672 : S_.BroadcastsInDim S4x4096x28672 (![] : Fin 0 → Fin S4x4096x28672.rank)
  bcast_S_S4x4096x128 : S_.BroadcastsInDim S4x4096x128 (![] : Fin 0 → Fin S4x4096x128.rank)
  bcast_S_S32 : S_.BroadcastsInDim S32 (![] : Fin 0 → Fin S32.rank)
  bcast_S_S2x3x4096 : S_.BroadcastsInDim S2x3x4096 (![] : Fin 0 → Fin S2x3x4096.rank)
  bcast_S_S2x4096 : S_.BroadcastsInDim S2x4096 (![] : Fin 0 → Fin S2x4096.rank)
  bcast_S_S4x8x256x256 : S_.BroadcastsInDim S4x8x256x256 (![] : Fin 0 → Fin S4x8x256x256.rank)
  bcast_S_S4x8x1x256 : S_.BroadcastsInDim S4x8x1x256 (![] : Fin 0 → Fin S4x8x1x256.rank)
  bcast_S_S4x8x8x128 : S_.BroadcastsInDim S4x8x8x128 (![] : Fin 0 → Fin S4x8x8x128.rank)

variable [Facts]

def fn_part1 {F : FTy → Type} [FloatOps F] (main_arg6 : FVec F S4x8x1x256 .f32) (main_arg7 : FVec F S4x8x8x128 .f32) (main_v3 : IVec S4x4096x28672 1) (main_v6 : IVec S4x4096x128 1) (main_v9 : IVec S32 1) (main_v12 : IVec S2x3x4096 1) (main_v15 : IVec S2x4096 1) (main_v16 : FVec F S4x8x256x256 .f32) (main_v17 : FVec F S4x8x256x256 .f32) : IVec S4x4096x28672 1 × IVec S4x4096x128 1 × IVec S32 1 × IVec S2x3x4096 1 × IVec S2x4096 1 × IVec S4x8x256x256 1 × IVec S4x8x1x256 1 × IVec S4x8x8x128 1 :=
  let main_v18 : IVec S4x8x256x256 1 := cmpf .olt main_v16 main_v17
  let main_v19 : FVec F S4x8x1x256 .f32 := Host.absf main_arg6
  let main_cst_5 : FVec F S_ .f32 := constant S_ .f32 0x7F800000#32
  let main_v20 : FVec F S4x8x1x256 .f32 := broadcastInDim S4x8x1x256 ![] bcast_S_S4x8x1x256 main_cst_5
  let main_v21 : IVec S4x8x1x256 1 := cmpf .olt main_v19 main_v20
  let main_v22 : FVec F S4x8x8x128 .f32 := Host.absf main_arg7
  let main_cst_6 : FVec F S_ .f32 := constant S_ .f32 0x7F800000#32
  let main_v23 : FVec F S4x8x8x128 .f32 := broadcastInDim S4x8x8x128 ![] bcast_S_S4x8x8x128 main_cst_6
  let main_v24 : IVec S4x8x8x128 1 := cmpf .olt main_v22 main_v23
  (main_v3, main_v6, main_v9, main_v12, main_v15, main_v18, main_v21, main_v24)

def fn {F : FTy → Type} [FloatOps F] (main_arg0 : FVec F S4x4096x28672 .bf16) (main_arg1 : FVec F S4x4096x128 .f32) (main_arg2 : FVec F S32 .f32) (main_arg3 : FVec F S2x3x4096 .f32) (main_arg4 : FVec F S2x4096 .f32) (main_arg5 : FVec F S4x8x256x256 .f32) (main_arg6 : FVec F S4x8x1x256 .f32) (main_arg7 : FVec F S4x8x8x128 .f32) : IVec S4x4096x28672 1 × IVec S4x4096x128 1 × IVec S32 1 × IVec S2x3x4096 1 × IVec S2x4096 1 × IVec S4x8x256x256 1 × IVec S4x8x1x256 1 × IVec S4x8x8x128 1 :=
  let main_v0 : FVec F S4x4096x28672 .f32 := (extf .f32 · bitsLt_bf16_f32) main_arg0
  let main_v1 : FVec F S4x4096x28672 .f32 := Host.absf main_v0
  let main_cst : FVec F S_ .f32 := constant S_ .f32 0x7F800000#32
  let main_v2 : FVec F S4x4096x28672 .f32 := broadcastInDim S4x4096x28672 ![] bcast_S_S4x4096x28672 main_cst
  let main_v3 : IVec S4x4096x28672 1 := cmpf .olt main_v1 main_v2
  let main_v4 : FVec F S4x4096x128 .f32 := Host.absf main_arg1
  let main_cst_0 : FVec F S_ .f32 := constant S_ .f32 0x7F800000#32
  let main_v5 : FVec F S4x4096x128 .f32 := broadcastInDim S4x4096x128 ![] bcast_S_S4x4096x128 main_cst_0
  let main_v6 : IVec S4x4096x128 1 := cmpf .olt main_v4 main_v5
  let main_v7 : FVec F S32 .f32 := Host.absf main_arg2
  let main_cst_1 : FVec F S_ .f32 := constant S_ .f32 0x7F800000#32
  let main_v8 : FVec F S32 .f32 := broadcastInDim S32 ![] bcast_S_S32 main_cst_1
  let main_v9 : IVec S32 1 := cmpf .olt main_v7 main_v8
  let main_v10 : FVec F S2x3x4096 .f32 := Host.absf main_arg3
  let main_cst_2 : FVec F S_ .f32 := constant S_ .f32 0x7F800000#32
  let main_v11 : FVec F S2x3x4096 .f32 := broadcastInDim S2x3x4096 ![] bcast_S_S2x3x4096 main_cst_2
  let main_v12 : IVec S2x3x4096 1 := cmpf .olt main_v10 main_v11
  let main_v13 : FVec F S2x4096 .f32 := Host.absf main_arg4
  let main_cst_3 : FVec F S_ .f32 := constant S_ .f32 0x7F800000#32
  let main_v14 : FVec F S2x4096 .f32 := broadcastInDim S2x4096 ![] bcast_S_S2x4096 main_cst_3
  let main_v15 : IVec S2x4096 1 := cmpf .olt main_v13 main_v14
  let main_v16 : FVec F S4x8x256x256 .f32 := Host.absf main_arg5
  let main_cst_4 : FVec F S_ .f32 := constant S_ .f32 0x7F800000#32
  let main_v17 : FVec F S4x8x256x256 .f32 := broadcastInDim S4x8x256x256 ![] bcast_S_S4x8x256x256 main_cst_4
  fn_part1 (F := F) main_arg6 main_arg7 main_v3 main_v6 main_v9 main_v12 main_v15 main_v16 main_v17
-- ==== Kernel.lean ====
abbrev S4x4096x28672 : Shape := ⟨3, ![4, 4096, 28672]⟩
abbrev S4x4096x128 : Shape := ⟨3, ![4, 4096, 128]⟩
abbrev S32 : Shape := ⟨1, ![32]⟩
abbrev S2x3x4096 : Shape := ⟨3, ![2, 3, 4096]⟩
abbrev S2x4096 : Shape := ⟨2, ![2, 4096]⟩
abbrev S4x8x256x256 : Shape := ⟨4, ![4, 8, 256, 256]⟩
abbrev S4x8x1x256 : Shape := ⟨4, ![4, 8, 1, 256]⟩
abbrev S4x8x8x128 : Shape := ⟨4, ![4, 8, 8, 128]⟩
abbrev S4x4096x32 : Shape := ⟨3, ![4, 4096, 32]⟩
abbrev S1x1x32 : Shape := ⟨3, ![1, 1, 32]⟩
abbrev S4x4096x4x8 : Shape := ⟨4, ![4, 4096, 4, 8]⟩
abbrev S4x8x4x4096 : Shape := ⟨4, ![4, 8, 4, 4096]⟩
abbrev S_ : Shape := ⟨0, ![]⟩
abbrev S4x8x8x4096 : Shape := ⟨4, ![4, 8, 8, 4096]⟩
abbrev S2x1x4096 : Shape := ⟨3, ![2, 1, 4096]⟩
abbrev S4x4096x2048 : Shape := ⟨3, ![4, 4096, 2048]⟩
abbrev S1x256x256 : Shape := ⟨3, ![1, 256, 256]⟩
abbrev S1x1x8x256 : Shape := ⟨4, ![1, 1, 8, 256]⟩
abbrev S1x3x256 : Shape := ⟨3, ![1, 3, 256]⟩
abbrev S1x1x256 : Shape := ⟨3, ![1, 1, 256]⟩
abbrev S1x1x256x256 : Shape := ⟨4, ![1, 1, 256, 256]⟩
abbrev S1x1x1x256 : Shape := ⟨4, ![1, 1, 1, 256]⟩
abbrev S1x1x8x128 : Shape := ⟨4, ![1, 1, 8, 128]⟩
abbrev S8x256 : Shape := ⟨2, ![8, 256]⟩
abbrev S1x256 : Shape := ⟨2, ![1, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1 : Shape := ⟨2, ![1, 1]⟩
abbrev S8x128 : Shape := ⟨2, ![8, 128]⟩
abbrev S3x256 : Shape := ⟨2, ![3, 256]⟩

abbrev nBuf : Space → Nat
  | .hbm => 24
  | .vmem => 34
  | .smem => 0
  | _ => 0

abbrev bufTy : (tb : Table) → Fin (tcTables nBuf tb) → BufTy
  | .hbm, ⟨0, _⟩ => ⟨S4x4096x28672, .bf16⟩
  | .hbm, ⟨1, _⟩ => ⟨S4x4096x128, .f32⟩
  | .hbm, ⟨2, _⟩ => ⟨S32, .f32⟩
  | .hbm, ⟨3, _⟩ => ⟨S2x3x4096, .f32⟩
  | .hbm, ⟨4, _⟩ => ⟨S2x4096, .f32⟩
  | .hbm, ⟨5, _⟩ => ⟨S4x8x256x256, .f32⟩
  | .hbm, ⟨6, _⟩ => ⟨S4x8x1x256, .f32⟩
  | .hbm, ⟨7, _⟩ => ⟨S4x8x8x128, .f32⟩
  | .hbm, ⟨8, _⟩ => ⟨S4x4096x32, .f32⟩
  | .hbm, ⟨9, _⟩ => ⟨S1x1x32, .f32⟩
  | .hbm, ⟨10, _⟩ => ⟨S4x4096x32, .f32⟩
  | .hbm, ⟨11, _⟩ => ⟨S4x4096x32, .f32⟩
  | .hbm, ⟨12, _⟩ => ⟨S4x4096x4x8, .f32⟩
  | .hbm, ⟨13, _⟩ => ⟨S4x8x4x4096, .f32⟩
  | .hbm, ⟨14, _⟩ => ⟨S_, .i32⟩
  | .hbm, ⟨15, _⟩ => ⟨S_, .f32⟩
  | .hbm, ⟨16, _⟩ => ⟨S4x8x8x4096, .f32⟩
  | .hbm, ⟨17, _⟩ => ⟨S2x1x4096, .f32⟩
  | .hbm, ⟨18, _⟩ => ⟨S4x4096x2048, .f32⟩
  | .hbm, ⟨19, _⟩ => ⟨S4x4096x2048, .bf16⟩
  | .hbm, ⟨20, _⟩ => ⟨S4x4096x2048, .bf16⟩
  | .hbm, ⟨21, _⟩ => ⟨S4x8x256x256, .f32⟩
  | .hbm, ⟨22, _⟩ => ⟨S4x8x1x256, .f32⟩
  | .hbm, ⟨23, _⟩ => ⟨S4x8x8x128, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x1x8x256, .f32⟩
  | .local _ .vmem, ⟨7, _⟩ => ⟨S1x1x8x256, .f32⟩
  | .local _ .vmem, ⟨8, _⟩ => ⟨S1x3x256, .f32⟩
  | .local _ .vmem, ⟨9, _⟩ => ⟨S1x3x256, .f32⟩
  | .local _ .vmem, ⟨10, _⟩ => ⟨S1x1x256, .f32⟩
  | .local _ .vmem, ⟨11, _⟩ => ⟨S1x1x256, .f32⟩
  | .local _ .vmem, ⟨12, _⟩ => ⟨S1x3x256, .f32⟩
  | .local _ .vmem, ⟨13, _⟩ => ⟨S1x3x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256x256, .f32⟩
  | .local _ .vmem, ⟨17, _⟩ => ⟨S1x1x256x256, .f32⟩
  | .local _ .vmem, ⟨18, _⟩ => ⟨S1x1x1x256, .f32⟩
  | .local _ .vmem, ⟨19, _⟩ => ⟨S1x1x1x256, .f32⟩
  | .local _ .vmem, ⟨20, _⟩ => ⟨S1x1x8x128, .f32⟩
  | .local _ .vmem, ⟨21, _⟩ => ⟨S1x1x8x128, .f32⟩
  | .local _ .vmem, ⟨22, _⟩ => ⟨S1x256x256, .f32⟩
  | .local _ .vmem, ⟨23, _⟩ => ⟨S1x256x256, .f32⟩
  | .local _ .vmem, ⟨24, _⟩ => ⟨S1x256x256, .bf16⟩
  | .local _ .vmem, ⟨25, _⟩ => ⟨S1x256x256, .bf16⟩
  | .local _ .vmem, ⟨26, _⟩ => ⟨S1x256x256, .bf16⟩
  | .local _ .vmem, ⟨27, _⟩ => ⟨S1x256x256, .bf16⟩
  | .local _ .vmem, ⟨28, _⟩ => ⟨S1x1x256x256, .f32⟩
  | .local _ .vmem, ⟨29, _⟩ => ⟨S1x1x256x256, .f32⟩
  | .local _ .vmem, ⟨30, _⟩ => ⟨S1x1x1x256, .f32⟩
  | .local _ .vmem, ⟨31, _⟩ => ⟨S1x1x1x256, .f32⟩
  | .local _ .vmem, ⟨32, _⟩ => ⟨S1x1x8x128, .f32⟩
  | .local _ .vmem, ⟨33, _⟩ => ⟨S1x1x8x128, .f32⟩
  | _, _ => ⟨S4x4096x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  ![arg0.toNat, arg2.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1x1x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S1x1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S4x4096x28672 : Shape := ⟨3, ![4, 4096, 28672]⟩
abbrev S4x4096x128 : Shape := ⟨3, ![4, 4096, 128]⟩
abbrev S32 : Shape := ⟨1, ![32]⟩
abbrev S2x3x4096 : Shape := ⟨3, ![2, 3, 4096]⟩
abbrev S2x4096 : Shape := ⟨2, ![2, 4096]⟩
abbrev S4x8x256x256 : Shape := ⟨4, ![4, 8, 256, 256]⟩
abbrev S4x8x1x256 : Shape := ⟨4, ![4, 8, 1, 256]⟩
abbrev S4x8x8x128 : Shape := ⟨4, ![4, 8, 8, 128]⟩
abbrev S1x3x4096 : Shape := ⟨3, ![1, 3, 4096]⟩
abbrev S3x4096 : Shape := ⟨2, ![3, 4096]⟩
abbrev S1x4096 : Shape := ⟨2, ![1, 4096]⟩
abbrev S4096 : Shape := ⟨1, ![4096]⟩
abbrev S4x4096x2048 : Shape := ⟨3, ![4, 4096, 2048]⟩
abbrev S3x2048 : Shape := ⟨2, ![3, 2048]⟩
abbrev S2048 : Shape := ⟨1, ![2048]⟩
abbrev S4x64x64x2048 : Shape := ⟨4, ![4, 64, 64, 2048]⟩
abbrev S_ : Shape := ⟨0, ![]⟩
abbrev S4x64x66x2048 : Shape := ⟨4, ![4, 64, 66, 2048]⟩
abbrev S1x2048 : Shape := ⟨2, ![1, 2048]⟩
abbrev S1x1x1x2048 : Shape := ⟨4, ![1, 1, 1, 2048]⟩
abbrev S4x4096x8x256 : Shape := ⟨4, ![4, 4096, 8, 256]⟩
abbrev S4x8x4096x256 : Shape := ⟨4, ![4, 8, 4096, 256]⟩
abbrev S4x4096x32 : Shape := ⟨3, ![4, 4096, 32]⟩
abbrev S1x1x32 : Shape := ⟨3, ![1, 1, 32]⟩
abbrev S4x4096x2x2x8 : Shape := ⟨5, ![4, 4096, 2, 2, 8]⟩
abbrev S2x2x4x8x4096 : Shape := ⟨5, ![2, 2, 4, 8, 4096]⟩
abbrev S1x1x4x8x4096 : Shape := ⟨5, ![1, 1, 4, 8, 4096]⟩
abbrev S4x8x4096 : Shape := ⟨3, ![4, 8, 4096]⟩
abbrev S64x64 : Shape := ⟨2, ![64, 64]⟩
abbrev S4x8x256 : Shape := ⟨3, ![4, 8, 256]⟩
abbrev S4x8x1x1 : Shape := ⟨4, ![4, 8, 1, 1]⟩
abbrev S4x8 : Shape := ⟨2, ![4, 8]⟩
abbrev S4x8x64x64x256 : Shape := ⟨5, ![4, 8, 64, 64, 256]⟩
abbrev S64x4x8x64x256 : Shape := ⟨5, ![64, 4, 8, 64, 256]⟩
abbrev S4x8x64x64 : Shape := ⟨4, ![4, 8, 64, 64]⟩
abbrev S64x4x8x64 : Shape := ⟨4, ![64, 4, 8, 64]⟩
abbrev S1x4x8x64x256 : Shape := ⟨5, ![1, 4, 8, 64, 256]⟩
abbrev S4x8x64x256 : Shape := ⟨4, ![4, 8, 64, 256]⟩
abbrev S1x4x8x64 : Shape := ⟨4, ![1, 4, 8, 64]⟩
abbrev S4x8x64 : Shape := ⟨3, ![4, 8, 64]⟩
abbrev S4x8x1 : Shape := ⟨3, ![4, 8, 1]⟩
abbrev S4x8x64x1 : Shape := ⟨4, ![4, 8, 64, 1]⟩
abbrev S4x8x1x64 : Shape := ⟨4, ![4, 8, 1, 64]⟩

abbrev nBuf : Space → Nat
  | .hbm => 328
  | .vmem => 0
  | .smem => 0
  | _ => 0

abbrev hbmTy0_0 (i : Nat) : BufTy := match i % 128 with
  | 0 => ⟨S4x4096x28672, .bf16⟩
  | 1 => ⟨S4x4096x128, .f32⟩
  | 2 => ⟨S32, .f32⟩
  | 3 => ⟨S2x3x4096, .f32⟩
  | 4 => ⟨S2x4096, .f32⟩
  | 5 => ⟨S4x8x256x256, .f32⟩
  | 6 => ⟨S4x8x1x256, .f32⟩
  | 7 => ⟨S4x8x8x128, .f32⟩
  | 8 => ⟨S4x4096x28672, .f32⟩
  | 9 => ⟨S1x3x4096, .f32⟩
  | 10 => ⟨S3x4096, .f32⟩
  | 11 => ⟨S1x4096, .f32⟩
  | 12 => ⟨S4096, .f32⟩
  | 13 => ⟨S4x4096x2048, .f32⟩
  | 14 => ⟨S3x2048, .f32⟩
  | 15 => ⟨S2048, .f32⟩
  | 16 => ⟨S4x64x64x2048, .f32⟩
  | 17 => ⟨S_, .i32⟩
  | 18 => ⟨S_, .f32⟩
  | 19 => ⟨S4x64x66x2048, .f32⟩
  | 20 => ⟨S1x2048, .f32⟩
  | 21 => ⟨S2048, .f32⟩
  | 22 => ⟨S4x64x64x2048, .f32⟩
  | 23 => ⟨S1x1x1x2048, .f32⟩
  | 24 => ⟨S4x64x64x2048, .f32⟩
  | 25 => ⟨S4x64x64x2048, .f32⟩
  | 26 => ⟨S1x1x1x2048, .f32⟩
  | 27 => ⟨S4x64x64x2048, .f32⟩
  | 28 => ⟨S4x64x64x2048, .f32⟩
  | 29 => ⟨S1x2048, .f32⟩
  | 30 => ⟨S2048, .f32⟩
  | 31 => ⟨S4x64x64x2048, .f32⟩
  | 32 => ⟨S1x1x1x2048, .f32⟩
  | 33 => ⟨S4x64x64x2048, .f32⟩
  | 34 => ⟨S4x64x64x2048, .f32⟩
  | 35 => ⟨S4x64x64x2048, .f32⟩
  | 36 => ⟨S1x2048, .f32⟩
  | 37 => ⟨S2048, .f32⟩
  | 38 => ⟨S4x64x64x2048, .f32⟩
  | 39 => ⟨S1x1x1x2048, .f32⟩
  | 40 => ⟨S4x64x64x2048, .f32⟩
  | 41 => ⟨S4x64x64x2048, .f32⟩
  | 42 => ⟨S4x64x64x2048, .f32⟩
  | 43 => ⟨S4x4096x2048, .f32⟩
  | 44 => ⟨S4x4096x2048, .f32⟩
  | 45 => ⟨S4x4096x2048, .f32⟩
  | 46 => ⟨S_, .f32⟩
  | 47 => ⟨S4x4096x2048, .f32⟩
  | 48 => ⟨S4x4096x2048, .f32⟩
  | 49 => ⟨S_, .f32⟩
  | 50 => ⟨S4x4096x2048, .f32⟩
  | 51 => ⟨S4x4096x2048, .f32⟩
  | 52 => ⟨S4x4096x2048, .f32⟩
  | 53 => ⟨S_, .f32⟩
  | 54 => ⟨S4x4096x2048, .f32⟩
  | 55 => ⟨S4x4096x2048, .f32⟩
  | 56 => ⟨S4x4096x2048, .f32⟩
  | 57 => ⟨S3x2048, .f32⟩
  | 58 => ⟨S2048, .f32⟩
  | 59 => ⟨S4x64x64x2048, .f32⟩
  | 60 => ⟨S_, .i32⟩
  | 61 => ⟨S_, .f32⟩
  | 62 => ⟨S4x64x66x2048, .f32⟩
  | 63 => ⟨S1x2048, .f32⟩
  | 64 => ⟨S2048, .f32⟩
  | 65 => ⟨S4x64x64x2048, .f32⟩
  | 66 => ⟨S1x1x1x2048, .f32⟩
  | 67 => ⟨S4x64x64x2048, .f32⟩
  | 68 => ⟨S4x64x64x2048, .f32⟩
  | 69 => ⟨S1x1x1x2048, .f32⟩
  | 70 => ⟨S4x64x64x2048, .f32⟩
  | 71 => ⟨S4x64x64x2048, .f32⟩
  | 72 => ⟨S1x2048, .f32⟩
  | 73 => ⟨S2048, .f32⟩
  | 74 => ⟨S4x64x64x2048, .f32⟩
  | 75 => ⟨S1x1x1x2048, .f32⟩
  | 76 => ⟨S4x64x64x2048, .f32⟩
  | 77 => ⟨S4x64x64x2048, .f32⟩
  | 78 => ⟨S4x64x64x2048, .f32⟩
  | 79 => ⟨S1x2048, .f32⟩
  | 80 => ⟨S2048, .f32⟩
  | 81 => ⟨S4x64x64x2048, .f32⟩
  | 82 => ⟨S1x1x1x2048, .f32⟩
  | 83 => ⟨S4x64x64x2048, .f32⟩
  | 84 => ⟨S4x64x64x2048, .f32⟩
  | 85 => ⟨S4x64x64x2048, .f32⟩
  | 86 => ⟨S4x4096x2048, .f32⟩
  | 87 => ⟨S4x4096x2048, .f32⟩
  | 88 => ⟨S4x4096x2048, .f32⟩
  | 89 => ⟨S_, .f32⟩
  | 90 => ⟨S4x4096x2048, .f32⟩
  | 91 => ⟨S4x4096x2048, .f32⟩
  | 92 => ⟨S_, .f32⟩
  | 93 => ⟨S4x4096x2048, .f32⟩
  | 94 => ⟨S4x4096x2048, .f32⟩
  | 95 => ⟨S4x4096x2048, .f32⟩
  | 96 => ⟨S4x4096x8x256, .f32⟩
  | 97 => ⟨S4x8x4096x256, .f32⟩
  | 98 => ⟨S4x4096x8x256, .f32⟩
  | 99 => ⟨S4x8x4096x256, .f32⟩
  | 100 => ⟨S4x4096x2048, .f32⟩
  | 101 => ⟨S4x4096x8x256, .f32⟩
  | 102 => ⟨S4x8x4096x256, .f32⟩
  | 103 => ⟨S4x4096x32, .f32⟩
  | 104 => ⟨S1x1x32, .f32⟩
  | 105 => ⟨S4x4096x32, .f32⟩
  | 106 => ⟨S4x4096x32, .f32⟩
  | 107 => ⟨S4x4096x2x2x8, .f32⟩
  | 108 => ⟨S2x2x4x8x4096, .f32⟩
  | 109 => ⟨S1x1x4x8x4096, .f32⟩
  | 110 => ⟨S4x8x4096, .f32⟩
  | 111 => ⟨S1x1x4x8x4096, .f32⟩
  | 112 => ⟨S4x8x4096, .f32⟩
  | 113 => ⟨S4x8x4096, .f32⟩
  | 114 => ⟨S_, .f32⟩
  | 115 => ⟨S4x8x4096, .f32⟩
  | 116 => ⟨S4x8x4096, .f32⟩
  | 117 => ⟨S4x8x4096, .f32⟩
  | 118 => ⟨S4x8x4096, .f32⟩
  | 119 => ⟨S4x8x4096, .i1⟩
  | 120 => ⟨S4x8x4096, .f32⟩
  | 121 => ⟨S4x8x4096, .f32⟩
  | 122 => ⟨S4x8x4096, .f32⟩
  | 123 => ⟨S4x8x4096, .f32⟩
  | 124 => ⟨S4x8x4096, .f32⟩
  | 125 => ⟨S4x8x4096, .f32⟩
  | 126 => ⟨S4x8x4096, .f32⟩
  | 127 => ⟨S4x8x4096, .f32⟩
  | _ => ⟨S4x4096x28672, .bf16⟩

abbrev hbmTy0_1 (i : Nat) : BufTy := match i % 128 with
  | 0 => ⟨S4x8x4096, .f32⟩
  | 1 => ⟨S_, .i1⟩
  | 2 => ⟨S64x64, .i1⟩
  | 3 => ⟨S64x64, .i32⟩
  | 4 => ⟨S_, .i32⟩
  | 5 => ⟨S64x64, .i32⟩
  | 6 => ⟨S64x64, .i32⟩
  | 7 => ⟨S64x64, .i32⟩
  | 8 => ⟨S64x64, .i1⟩
  | 9 => ⟨S_, .i1⟩
  | 10 => ⟨S64x64, .i1⟩
  | 11 => ⟨S64x64, .i1⟩
  | 12 => ⟨S4x8x256, .f32⟩
  | 13 => ⟨S4x8x1x1, .f32⟩
  | 14 => ⟨S4x8, .f32⟩
  | 15 => ⟨S4x8x64x64x256, .f32⟩
  | 16 => ⟨S64x4x8x64x256, .f32⟩
  | 17 => ⟨S4x8x64x64x256, .f32⟩
  | 18 => ⟨S64x4x8x64x256, .f32⟩
  | 19 => ⟨S4x8x64x64, .f32⟩
  | 20 => ⟨S64x4x8x64, .f32⟩
  | 21 => ⟨S4x8x64x64, .f32⟩
  | 22 => ⟨S64x4x8x64, .f32⟩
  | 23 => ⟨S4x8x64x64x256, .f32⟩
  | 24 => ⟨S64x4x8x64x256, .f32⟩
  | 25 => ⟨S_, .f32⟩
  | 26 => ⟨S64x4x8x64x256, .f32⟩
  | 27 => ⟨S_, .bf16⟩
  | 28 => ⟨S64x4x8x64x256, .bf16⟩
  | 29 => ⟨S_, .bf16⟩
  | 30 => ⟨S64x4x8x64x256, .bf16⟩
  | 31 => ⟨S_, .i32⟩
  | 32 => ⟨S64x4x8x64x256, .f32⟩
  | 33 => ⟨S64x4x8x64x256, .f32⟩
  | 34 => ⟨S64x4x8x64, .f32⟩
  | 35 => ⟨S64x4x8x64, .f32⟩
  | 36 => ⟨S64x4x8x64x256, .f32⟩
  | 37 => ⟨S64x64, .i1⟩
  | 38 => ⟨S_, .i32⟩
  | 39 => ⟨S4x8x256x256, .f32⟩
  | 40 => ⟨S4x8x256, .f32⟩
  | 41 => ⟨S4x8, .f32⟩
  | 42 => ⟨S64x4x8x64x256, .f32⟩
  | 43 => ⟨S64x4x8x64x256, .bf16⟩
  | 44 => ⟨S64x4x8x64x256, .bf16⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S1x4x8x64x256, .f32⟩
  | 52 => ⟨S4x8x64x256, .f32⟩
  | 53 => ⟨S_, .i32⟩
  | 54 => ⟨S_, .i32⟩
  | 55 => ⟨S_, .i32⟩
  | 56 => ⟨S_, .i32⟩
  | 57 => ⟨S1x4x8x64x256, .f32⟩
  | 58 => ⟨S4x8x64x256, .f32⟩
  | 59 => ⟨S_, .i32⟩
  | 60 => ⟨S_, .i32⟩
  | 61 => ⟨S_, .i32⟩
  | 62 => ⟨S1x4x8x64, .f32⟩
  | 63 => ⟨S4x8x64, .f32⟩
  | 64 => ⟨S_, .i32⟩
  | 65 => ⟨S_, .i32⟩
  | 66 => ⟨S_, .i32⟩
  | 67 => ⟨S1x4x8x64, .f32⟩
  | 68 => ⟨S4x8x64, .f32⟩
  | 69 => ⟨S_, .i32⟩
  | 70 => ⟨S_, .i32⟩
  | 71 => ⟨S_, .i32⟩
  | 72 => ⟨S_, .i32⟩
  | 73 => ⟨S1x4x8x64x256, .f32⟩
  | 74 => ⟨S4x8x64x256, .f32⟩
  | 75 => ⟨S_, .f32⟩
  | 76 => ⟨S_, .f32⟩
  | 77 => ⟨S4x8x64, .f32⟩
  | 78 => ⟨S4x8x1, .f32⟩
  | 79 => ⟨S4x8, .f32⟩
  | 80 => ⟨S4x8x1, .f32⟩
  | 81 => ⟨S4x8x64, .f32⟩
  | 82 => ⟨S4x8x64, .f32⟩
  | 83 => ⟨S4x8x64, .f32⟩
  | 84 => ⟨S4x8, .f32⟩
  | 85 => ⟨S_, .f32⟩
  | 86 => ⟨S4x8, .f32⟩
  | 87 => ⟨S4x8, .f32⟩
  | 88 => ⟨S4x8, .f32⟩
  | 89 => ⟨S4x8, .f32⟩
  | 90 => ⟨S4x8, .f32⟩
  | 91 => ⟨S4x8x1, .f32⟩
  | 92 => ⟨S4x8x64, .f32⟩
  | 93 => ⟨S4x8x64, .f32⟩
  | 94 => ⟨S4x8x64, .f32⟩
  | 95 => ⟨S4x8x1x1, .f32⟩
  | 96 => ⟨S4x8x256x256, .f32⟩
  | 97 => ⟨S4x8x256x256, .f32⟩
  | 98 => ⟨S4x8x64x1, .f32⟩
  | 99 => ⟨S4x8x64x256, .f32⟩
  | 100 => ⟨S4x8x64x256, .f32⟩
  | 101 => ⟨S4x8x256x256, .f32⟩
  | 102 => ⟨S4x8x256x256, .f32⟩
  | 103 => ⟨S4x8x1, .f32⟩
  | 104 => ⟨S4x8x256, .f32⟩
  | 105 => ⟨S4x8x256, .f32⟩
  | 106 => ⟨S4x8x256, .f32⟩
  | 107 => ⟨S4x8x256, .f32⟩
  | 108 => ⟨S4x8x64x1, .f32⟩
  | 109 => ⟨S4x8x1x64, .f32⟩
  | 110 => ⟨S4x8x64x64, .f32⟩
  | 111 => ⟨S4x8x64x64, .f32⟩
  | 112 => ⟨S4x8x64x64, .f32⟩
  | 113 => ⟨S4x8x1x64, .f32⟩
  | 114 => ⟨S4x8x64x64, .f32⟩
  | 115 => ⟨S4x8x64x64, .f32⟩
  | 116 => ⟨S4x8x1, .f32⟩
  | 117 => ⟨S4x8x64, .f32⟩
  | 118 => ⟨S4x8x64, .f32⟩
  | 119 => ⟨S_, .f32⟩
  | 120 => ⟨S_, .f32⟩
  | 121 => ⟨S4x8x64x64, .i1⟩
  | 122 => ⟨S4x8x64x64, .f32⟩
  | 123 => ⟨S4x8x64x64, .f32⟩
  | 124 => ⟨S_, .f32⟩
  | 125 => ⟨S4x8x64, .f32⟩
  | 126 => ⟨S4x8x64, .f32⟩
  | 127 => ⟨S4x8x64, .f32⟩
  | _ => ⟨S4x4096x28672, .bf16⟩

abbrev hbmTy0_2 (i : Nat) : BufTy := match i % 128 with
  | 0 => ⟨S4x8x64, .f32⟩
  | 1 => ⟨S4x8x64x1, .f32⟩
  | 2 => ⟨S4x8x64x64, .f32⟩
  | 3 => ⟨S4x8x64x64, .f32⟩
  | 4 => ⟨S_, .f32⟩
  | 5 => ⟨S_, .f32⟩
  | 6 => ⟨S4x8x64x64, .i1⟩
  | 7 => ⟨S4x8x64x64, .f32⟩
  | 8 => ⟨S4x8x64x64, .f32⟩
  | 9 => ⟨S4x8x64x64, .f32⟩
  | 10 => ⟨S_, .f32⟩
  | 11 => ⟨S_, .f32⟩
  | 12 => ⟨S4x8x64x64, .i1⟩
  | 13 => ⟨S4x8x64x64, .f32⟩
  | 14 => ⟨S4x8x64x64, .f32⟩
  | 15 => ⟨S4x8x64x64, .f32⟩
  | 16 => ⟨S4x8x64x64, .f32⟩
  | 17 => ⟨S4x8x64x1, .f32⟩
  | 18 => ⟨S4x8x64x256, .f32⟩
  | 19 => ⟨S4x8x64x256, .f32⟩
  | 20 => ⟨S4x8x64x256, .f32⟩
  | 21 => ⟨S4x8x64x256, .f32⟩
  | 22 => ⟨S4x8x64x256, .f32⟩
  | 23 => ⟨S4x8x64, .f32⟩
  | 24 => ⟨S4x8x64, .f32⟩
  | 25 => ⟨S_, .f32⟩
  | 26 => ⟨S4x8x64, .f32⟩
  | 27 => ⟨S4x8x64, .f32⟩
  | 28 => ⟨S4x8x64, .f32⟩
  | 29 => ⟨S4x8x64, .f32⟩
  | 30 => ⟨S4x8x64, .f32⟩
  | 31 => ⟨S4x8x64, .f32⟩
  | 32 => ⟨S4x8x64x1, .f32⟩
  | 33 => ⟨S4x8x64x256, .f32⟩
  | 34 => ⟨S4x8x64x256, .f32⟩
  | 35 => ⟨S4x8x64x256, .bf16⟩
  | 36 => ⟨S4x8x64x256, .bf16⟩
  | 37 => ⟨S1x4x8x64x256, .f32⟩
  | 38 => ⟨S_, .i32⟩
  | 39 => ⟨S_, .i32⟩
  | 40 => ⟨S_, .i32⟩
  | 41 => ⟨S_, .i32⟩
  | 42 => ⟨S64x4x8x64x256, .f32⟩
  | 43 => ⟨S1x4x8x64x256, .bf16⟩
  | 44 => ⟨S_, .i32⟩
  | 45 => ⟨S_, .i32⟩
  | 46 => ⟨S_, .i32⟩
  | 47 => ⟨S_, .i32⟩
  | 48 => ⟨S64x4x8x64x256, .bf16⟩
  | 49 => ⟨S1x4x8x64x256, .bf16⟩
  | 50 => ⟨S_, .i32⟩
  | 51 => ⟨S_, .i32⟩
  | 52 => ⟨S_, .i32⟩
  | 53 => ⟨S_, .i32⟩
  | 54 => ⟨S64x4x8x64x256, .bf16⟩
  | 55 => ⟨S_, .i32⟩
  | 56 => ⟨S_, .i32⟩
  | 57 => ⟨S4x8x64x64x256, .f32⟩
  | 58 => ⟨S4x8x4096x256, .f32⟩
  | 59 => ⟨S4x4096x8x256, .f32⟩
  | 60 => ⟨S4x4096x2048, .f32⟩
  | 61 => ⟨S4x8x64x64x256, .bf16⟩
  | 62 => ⟨S4x8x4096x256, .bf16⟩
  | 63 => ⟨S4x4096x8x256, .bf16⟩
  | 64 => ⟨S4x4096x2048, .bf16⟩
  | 65 => ⟨S4x8x64x64x256, .bf16⟩
  | 66 => ⟨S4x8x4096x256, .bf16⟩
  | 67 => ⟨S4x4096x8x256, .bf16⟩
  | 68 => ⟨S4x4096x2048, .bf16⟩
  | 69 => ⟨S4x8x1x256, .f32⟩
  | 70 => ⟨S4x8x1x1, .f32⟩
  | 71 => ⟨S4x8x8x128, .f32⟩
  | _ => ⟨S4x4096x28672, .bf16⟩

abbrev hbmTy (i : Nat) : BufTy := match i / 128 with
  | 0 => hbmTy0_0 i
  | 1 => hbmTy0_1 i
  | 2 => hbmTy0_2 i
  | _ => ⟨S4x4096x28672, .bf16⟩

abbrev bufTy : (tb : Table) → Fin (tcTables nBuf tb) → BufTy
  | .hbm, ⟨i, _⟩ => hbmTy i
  | _, _ => ⟨S4x4096x28672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v34 : Ref sig .tc := ⟨.hbm, 52, rfl⟩
abbrev main_cst : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_0 : Ref sig .tc := ⟨.hbm, 60, rfl⟩
abbrev main_call2_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_call3_v0 : Ref sig .tc := ⟨.hbm, 87, rfl⟩
abbrev main_call3_v1 : Ref sig .tc := ⟨.hbm, 88, rfl⟩
abbrev main_call3_cst : Ref sig .tc := ⟨.hbm, 89, rfl⟩
abbrev main_call3_v2 : Ref sig .tc := ⟨.hbm, 90, rfl⟩
abbrev main_call3_v3 : Ref sig .tc := ⟨.hbm, 91, rfl⟩
abbrev main_call3_cst_0 : Ref sig .tc := ⟨.hbm, 92, rfl⟩
abbrev main_call3_v4 : Ref sig .tc := ⟨.hbm, 93, rfl⟩
abbrev main_call3_v5 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_call4_v0 : Ref sig .tc := ⟨.hbm, 113, rfl⟩
abbrev main_call4_call0_cst : Ref sig .tc := ⟨.hbm, 114, rfl⟩
abbrev main_call4_call0_v0 : Ref sig .tc := ⟨.hbm, 115, rfl⟩
abbrev main_call4_call0_v1 : Ref sig .tc := ⟨.hbm, 116, rfl⟩
abbrev main_call4_call0_v2 : Ref sig .tc := ⟨.hbm, 117, rfl⟩
abbrev main_call4_call0_v3 : Ref sig .tc := ⟨.hbm, 118, rfl⟩
abbrev main_call4_call0_v4 : Ref sig .tc := ⟨.hbm, 119, rfl⟩
abbrev main_call4_call0_v5 : Ref sig .tc := ⟨.hbm, 120, rfl⟩
abbrev main_call4_call0_v6 : Ref sig .tc := ⟨.hbm, 121, rfl⟩
abbrev main_call4_call0_v7 : Ref sig .tc := ⟨.hbm, 122, rfl⟩
abbrev main_call4_call0_v8 : Ref sig .tc := ⟨.hbm, 123, rfl⟩
abbrev main_call4_call0_v9 : Ref sig .tc := ⟨.hbm, 124, rfl⟩
abbrev main_call4_call0_v10 : Ref sig .tc := ⟨.hbm, 125, rfl⟩
abbrev main_call4_call0_v11 : Ref sig .tc := ⟨.hbm, 126, rfl⟩
abbrev main_call4_v1 : Ref sig .tc := ⟨.hbm, 127, rfl⟩
abbrev main_v84 : Ref sig .tc := ⟨.hbm, 128, rfl⟩
abbrev main_c_1 : Ref sig .tc := ⟨.hbm, 129, rfl⟩
abbrev main_v85 : Ref sig .tc := ⟨.hbm, 130, rfl⟩
abbrev main_call5_v0 : Ref sig .tc := ⟨.hbm, 131, rfl⟩
abbrev main_call5_c : Ref sig .tc := ⟨.hbm, 132, rfl⟩
abbrev main_call5_v1 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_call5_c_0 : Ref sig .tc := ⟨.hbm, 137, rfl⟩
abbrev main_call5_v5 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_2 : Ref sig .tc := ⟨.hbm, 153, rfl⟩
abbrev main_v100 : Ref sig .tc := ⟨.hbm, 154, rfl⟩
abbrev main_cst_3 : Ref sig .tc := ⟨.hbm, 155, rfl⟩
abbrev main_v101 : Ref sig .tc := ⟨.hbm, 156, rfl⟩
abbrev main_cst_4 : Ref sig .tc := ⟨.hbm, 157, rfl⟩
abbrev main_v102 : Ref sig .tc := ⟨.hbm, 158, rfl⟩
abbrev main_c_5 : Ref sig .tc := ⟨.hbm, 159, rfl⟩
abbrev main_v103_0 : Ref sig .tc := ⟨.hbm, 160, rfl⟩
abbrev main_v103_1 : Ref sig .tc := ⟨.hbm, 161, rfl⟩
abbrev main_v103_2 : Ref sig .tc := ⟨.hbm, 162, rfl⟩
abbrev main_v103_3 : Ref sig .tc := ⟨.hbm, 163, rfl⟩
abbrev main_v103_4 : Ref sig .tc := ⟨.hbm, 164, rfl⟩
abbrev main_v103_5 : Ref sig .tc := ⟨.hbm, 165, rfl⟩
abbrev main_v103_6 : Ref sig .tc := ⟨.hbm, 166, rfl⟩
abbrev main_v103_7 : Ref sig .tc := ⟨.hbm, 167, rfl⟩
abbrev main_v103_8 : Ref sig .tc := ⟨.hbm, 168, rfl⟩
abbrev main_v103_9 : Ref sig .tc := ⟨.hbm, 169, rfl⟩
abbrev main_v103_10 : Ref sig .tc := ⟨.hbm, 170, rfl⟩
abbrev main_v103_11 : Ref sig .tc := ⟨.hbm, 171, rfl⟩
abbrev main_v103_12 : Ref sig .tc := ⟨.hbm, 172, rfl⟩
abbrev main_while0c_c_18 : Ref sig .tc := ⟨.hbm, 173, rfl⟩
abbrev main_while0c_v119 : Ref sig .tc := ⟨.hbm, 174, rfl⟩
abbrev main_while0b_call6_c : Ref sig .tc := ⟨.hbm, 175, rfl⟩
abbrev main_while0b_call6_c_0 : Ref sig .tc := ⟨.hbm, 176, rfl⟩
abbrev main_while0b_call6_c_1 : Ref sig .tc := ⟨.hbm, 177, rfl⟩
abbrev main_while0b_call6_c_2 : Ref sig .tc := ⟨.hbm, 178, rfl⟩
abbrev main_while0b_call6_v0 : Ref sig .tc := ⟨.hbm, 179, rfl⟩
abbrev main_while0b_v119 : Ref sig .tc := ⟨.hbm, 180, rfl⟩
abbrev main_while0b_call7_c : Ref sig .tc := ⟨.hbm, 181, rfl⟩
abbrev main_while0b_call7_c_0 : Ref sig .tc := ⟨.hbm, 182, rfl⟩
abbrev main_while0b_call7_c_1 : Ref sig .tc := ⟨.hbm, 183, rfl⟩
abbrev main_while0b_call7_c_2 : Ref sig .tc := ⟨.hbm, 184, rfl⟩
abbrev main_while0b_call7_v0 : Ref sig .tc := ⟨.hbm, 185, rfl⟩
abbrev main_while0b_v120 : Ref sig .tc := ⟨.hbm, 186, rfl⟩
abbrev main_while0b_call8_c : Ref sig .tc := ⟨.hbm, 187, rfl⟩
abbrev main_while0b_call8_c_0 : Ref sig .tc := ⟨.hbm, 188, rfl⟩
abbrev main_while0b_call8_c_1 : Ref sig .tc := ⟨.hbm, 189, rfl⟩
abbrev main_while0b_call8_v0 : Ref sig .tc := ⟨.hbm, 190, rfl⟩
abbrev main_while0b_v121 : Ref sig .tc := ⟨.hbm, 191, rfl⟩
abbrev main_while0b_call9_c : Ref sig .tc := ⟨.hbm, 192, rfl⟩
abbrev main_while0b_call9_c_0 : Ref sig .tc := ⟨.hbm, 193, rfl⟩
abbrev main_while0b_call9_c_1 : Ref sig .tc := ⟨.hbm, 194, rfl⟩
abbrev main_while0b_call9_v0 : Ref sig .tc := ⟨.hbm, 195, rfl⟩
abbrev main_while0b_v122 : Ref sig .tc := ⟨.hbm, 196, rfl⟩
abbrev main_while0b_call10_c : Ref sig .tc := ⟨.hbm, 197, rfl⟩
abbrev main_while0b_call10_c_0 : Ref sig .tc := ⟨.hbm, 198, rfl⟩
abbrev main_while0b_call10_c_1 : Ref sig .tc := ⟨.hbm, 199, rfl⟩
abbrev main_while0b_call10_c_2 : Ref sig .tc := ⟨.hbm, 200, rfl⟩
abbrev main_while0b_call10_v0 : Ref sig .tc := ⟨.hbm, 201, rfl⟩
abbrev main_while0b_v123 : Ref sig .tc := ⟨.hbm, 202, rfl⟩
abbrev main_while0b_call11_call0_cst : Ref sig .tc := ⟨.hbm, 203, rfl⟩
abbrev main_while0b_call11_call0_v0 : Ref sig .tc := ⟨.hbm, 204, rfl⟩
abbrev main_while0b_v124 : Ref sig .tc := ⟨.hbm, 205, rfl⟩
abbrev main_while0b_v125 : Ref sig .tc := ⟨.hbm, 206, rfl⟩
abbrev main_while0b_v126 : Ref sig .tc := ⟨.hbm, 207, rfl⟩
abbrev main_while0b_v127 : Ref sig .tc := ⟨.hbm, 208, rfl⟩
abbrev main_while0b_v128 : Ref sig .tc := ⟨.hbm, 209, rfl⟩
abbrev main_while0b_v129 : Ref sig .tc := ⟨.hbm, 210, rfl⟩
abbrev main_while0b_v130 : Ref sig .tc := ⟨.hbm, 211, rfl⟩
abbrev main_while0b_v131 : Ref sig .tc := ⟨.hbm, 212, rfl⟩
abbrev main_while0b_cst_18 : Ref sig .tc := ⟨.hbm, 213, rfl⟩
abbrev main_while0b_v132 : Ref sig .tc := ⟨.hbm, 214, rfl⟩
abbrev main_while0b_v133 : Ref sig .tc := ⟨.hbm, 215, rfl⟩
abbrev main_while0b_v134 : Ref sig .tc := ⟨.hbm, 216, rfl⟩
abbrev main_while0b_v135 : Ref sig .tc := ⟨.hbm, 217, rfl⟩
abbrev main_while0b_v136 : Ref sig .tc := ⟨.hbm, 218, rfl⟩
abbrev main_while0b_v137 : Ref sig .tc := ⟨.hbm, 219, rfl⟩
abbrev main_while0b_v138 : Ref sig .tc := ⟨.hbm, 220, rfl⟩
abbrev main_while0b_v139 : Ref sig .tc := ⟨.hbm, 221, rfl⟩
abbrev main_while0b_v140 : Ref sig .tc := ⟨.hbm, 222, rfl⟩
abbrev main_while0b_v141 : Ref sig .tc := ⟨.hbm, 223, rfl⟩
abbrev main_while0b_v142 : Ref sig .tc := ⟨.hbm, 224, rfl⟩
abbrev main_while0b_v143 : Ref sig .tc := ⟨.hbm, 225, rfl⟩
abbrev main_while0b_v144 : Ref sig .tc := ⟨.hbm, 226, rfl⟩
abbrev main_while0b_v145 : Ref sig .tc := ⟨.hbm, 227, rfl⟩
abbrev main_while0b_v146 : Ref sig .tc := ⟨.hbm, 228, rfl⟩
abbrev main_while0b_v147 : Ref sig .tc := ⟨.hbm, 229, rfl⟩
abbrev main_while0b_v148 : Ref sig .tc := ⟨.hbm, 230, rfl⟩
abbrev main_while0b_v149 : Ref sig .tc := ⟨.hbm, 231, rfl⟩
abbrev main_while0b_v150 : Ref sig .tc := ⟨.hbm, 232, rfl⟩
abbrev main_while0b_v151 : Ref sig .tc := ⟨.hbm, 233, rfl⟩
abbrev main_while0b_v152 : Ref sig .tc := ⟨.hbm, 234, rfl⟩
abbrev main_while0b_v153 : Ref sig .tc := ⟨.hbm, 235, rfl⟩
abbrev main_while0b_v154 : Ref sig .tc := ⟨.hbm, 236, rfl⟩
abbrev main_while0b_v155 : Ref sig .tc := ⟨.hbm, 237, rfl⟩
abbrev main_while0b_v156 : Ref sig .tc := ⟨.hbm, 238, rfl⟩
abbrev main_while0b_v157 : Ref sig .tc := ⟨.hbm, 239, rfl⟩
abbrev main_while0b_v158 : Ref sig .tc := ⟨.hbm, 240, rfl⟩
abbrev main_while0b_v159 : Ref sig .tc := ⟨.hbm, 241, rfl⟩
abbrev main_while0b_v160 : Ref sig .tc := ⟨.hbm, 242, rfl⟩
abbrev main_while0b_v161 : Ref sig .tc := ⟨.hbm, 243, rfl⟩
abbrev main_while0b_v162 : Ref sig .tc := ⟨.hbm, 244, rfl⟩
abbrev main_while0b_v163 : Ref sig .tc := ⟨.hbm, 245, rfl⟩
abbrev main_while0b_v164 : Ref sig .tc := ⟨.hbm, 246, rfl⟩
abbrev main_while0b_cst_19 : Ref sig .tc := ⟨.hbm, 247, rfl⟩
abbrev main_while0b_call12_v0 : Ref sig .tc := ⟨.hbm, 248, rfl⟩
abbrev main_while0b_call12_v1 : Ref sig .tc := ⟨.hbm, 249, rfl⟩
abbrev main_while0b_call12_v2 : Ref sig .tc := ⟨.hbm, 250, rfl⟩
abbrev main_while0b_v165 : Ref sig .tc := ⟨.hbm, 251, rfl⟩
abbrev main_while0b_cst_20 : Ref sig .tc := ⟨.hbm, 252, rfl⟩
abbrev main_while0b_v166 : Ref sig .tc := ⟨.hbm, 253, rfl⟩
abbrev main_while0b_v167 : Ref sig .tc := ⟨.hbm, 254, rfl⟩
abbrev main_while0b_v168 : Ref sig .tc := ⟨.hbm, 255, rfl⟩
abbrev main_while0b_v169 : Ref sig .tc := ⟨.hbm, 256, rfl⟩
abbrev main_while0b_v170 : Ref sig .tc := ⟨.hbm, 257, rfl⟩
abbrev main_while0b_v171 : Ref sig .tc := ⟨.hbm, 258, rfl⟩
abbrev main_while0b_v172 : Ref sig .tc := ⟨.hbm, 259, rfl⟩
abbrev main_while0b_cst_21 : Ref sig .tc := ⟨.hbm, 260, rfl⟩
abbrev main_while0b_call13_v0 : Ref sig .tc := ⟨.hbm, 261, rfl⟩
abbrev main_while0b_call13_v1 : Ref sig .tc := ⟨.hbm, 262, rfl⟩
abbrev main_while0b_call13_v2 : Ref sig .tc := ⟨.hbm, 263, rfl⟩
abbrev main_while0b_v173 : Ref sig .tc := ⟨.hbm, 264, rfl⟩
abbrev main_while0b_v174 : Ref sig .tc := ⟨.hbm, 265, rfl⟩
abbrev main_while0b_cst_22 : Ref sig .tc := ⟨.hbm, 266, rfl⟩
abbrev main_while0b_call14_v0 : Ref sig .tc := ⟨.hbm, 267, rfl⟩
abbrev main_while0b_call14_v1 : Ref sig .tc := ⟨.hbm, 268, rfl⟩
abbrev main_while0b_call14_v2 : Ref sig .tc := ⟨.hbm, 269, rfl⟩
abbrev main_while0b_v175 : Ref sig .tc := ⟨.hbm, 270, rfl⟩
abbrev main_while0b_v176 : Ref sig .tc := ⟨.hbm, 271, rfl⟩
abbrev main_while0b_v177 : Ref sig .tc := ⟨.hbm, 272, rfl⟩
abbrev main_while0b_v178 : Ref sig .tc := ⟨.hbm, 273, rfl⟩
abbrev main_while0b_v179 : Ref sig .tc := ⟨.hbm, 274, rfl⟩
abbrev main_while0b_v180 : Ref sig .tc := ⟨.hbm, 275, rfl⟩
abbrev main_while0b_v181 : Ref sig .tc := ⟨.hbm, 276, rfl⟩
abbrev main_while0b_v182 : Ref sig .tc := ⟨.hbm, 277, rfl⟩
abbrev main_while0b_v183 : Ref sig .tc := ⟨.hbm, 278, rfl⟩
abbrev main_while0b_v184 : Ref sig .tc := ⟨.hbm, 279, rfl⟩
abbrev main_while0b_v185 : Ref sig .tc := ⟨.hbm, 280, rfl⟩
abbrev main_while0b_cst_23 : Ref sig .tc := ⟨.hbm, 281, rfl⟩
abbrev main_while0b_v186 : Ref sig .tc := ⟨.hbm, 282, rfl⟩
abbrev main_while0b_v187 : Ref sig .tc := ⟨.hbm, 283, rfl⟩
abbrev main_while0b_v188 : Ref sig .tc := ⟨.hbm, 284, rfl⟩
abbrev main_while0b_v189 : Ref sig .tc := ⟨.hbm, 285, rfl⟩
abbrev main_while0b_v190 : Ref sig .tc := ⟨.hbm, 286, rfl⟩
abbrev main_while0b_v191 : Ref sig .tc := ⟨.hbm, 287, rfl⟩
abbrev main_while0b_v192 : Ref sig .tc := ⟨.hbm, 288, rfl⟩
abbrev main_while0b_v193 : Ref sig .tc := ⟨.hbm, 289, rfl⟩
abbrev main_while0b_v194 : Ref sig .tc := ⟨.hbm, 290, rfl⟩
abbrev main_while0b_v195 : Ref sig .tc := ⟨.hbm, 291, rfl⟩
abbrev main_while0b_v196 : Ref sig .tc := ⟨.hbm, 292, rfl⟩
abbrev main_while0b_call15_v0 : Ref sig .tc := ⟨.hbm, 293, rfl⟩
abbrev main_while0b_call15_c : Ref sig .tc := ⟨.hbm, 294, rfl⟩
abbrev main_while0b_call15_c_0 : Ref sig .tc := ⟨.hbm, 295, rfl⟩
abbrev main_while0b_call15_c_1 : Ref sig .tc := ⟨.hbm, 296, rfl⟩
abbrev main_while0b_call15_c_2 : Ref sig .tc := ⟨.hbm, 297, rfl⟩
abbrev main_while0b_v197 : Ref sig .tc := ⟨.hbm, 298, rfl⟩
abbrev main_while0b_call16_v0 : Ref sig .tc := ⟨.hbm, 299, rfl⟩
abbrev main_while0b_call16_c : Ref sig .tc := ⟨.hbm, 300, rfl⟩
abbrev main_while0b_call16_c_0 : Ref sig .tc := ⟨.hbm, 301, rfl⟩
abbrev main_while0b_call16_c_1 : Ref sig .tc := ⟨.hbm, 302, rfl⟩
abbrev main_while0b_call16_c_2 : Ref sig .tc := ⟨.hbm, 303, rfl⟩
abbrev main_while0b_v198 : Ref sig .tc := ⟨.hbm, 304, rfl⟩
abbrev main_while0b_call17_v0 : Ref sig .tc := ⟨.hbm, 305, rfl⟩
abbrev main_while0b_call17_c : Ref sig .tc := ⟨.hbm, 306, rfl⟩
abbrev main_while0b_call17_c_0 : Ref sig .tc := ⟨.hbm, 307, rfl⟩
abbrev main_while0b_call17_c_1 : Ref sig .tc := ⟨.hbm, 308, rfl⟩
abbrev main_while0b_call17_c_2 : Ref sig .tc := ⟨.hbm, 309, rfl⟩
abbrev main_while0b_v199 : Ref sig .tc := ⟨.hbm, 310, rfl⟩
abbrev main_while0b_c_24 : Ref sig .tc := ⟨.hbm, 311, rfl⟩
abbrev main_while0b_v200 : Ref sig .tc := ⟨.hbm, 312, rfl⟩
abbrev main_v104 : Ref sig .tc := ⟨.hbm, 313, rfl⟩
abbrev main_v105 : Ref sig .tc := ⟨.hbm, 314, rfl⟩
abbrev main_v106 : Ref sig .tc := ⟨.hbm, 315, rfl⟩
abbrev main_v107 : Ref sig .tc := ⟨.hbm, 316, rfl⟩
abbrev main_v108 : Ref sig .tc := ⟨.hbm, 317, rfl⟩
abbrev main_v109 : Ref sig .tc := ⟨.hbm, 318, rfl⟩
abbrev main_v110 : Ref sig .tc := ⟨.hbm, 319, rfl⟩
abbrev main_v111 : Ref sig .tc := ⟨.hbm, 320, rfl⟩
abbrev main_v112 : Ref sig .tc := ⟨.hbm, 321, rfl⟩
abbrev main_v113 : Ref sig .tc := ⟨.hbm, 322, rfl⟩
abbrev main_v114 : Ref sig .tc := ⟨.hbm, 323, rfl⟩
abbrev main_v115 : Ref sig .tc := ⟨.hbm, 324, rfl⟩
abbrev main_v116 : Ref sig .tc := ⟨.hbm, 325, rfl⟩
abbrev main_v117 : Ref sig .tc := ⟨.hbm, 326, rfl⟩
abbrev main_v118 : Ref sig .tc := ⟨.hbm, 327, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16384x4096 : Shape := ⟨2, ![16384, 4096]⟩
abbrev S4096x28704 : Shape := ⟨2, ![4096, 28704]⟩
abbrev S4096x7168 : Shape := ⟨2, ![4096, 7168]⟩
abbrev S4096x21504 : Shape := ⟨2, ![4096, 21504]⟩
abbrev S4096x28672 : Shape := ⟨2, ![4096, 28672]⟩
abbrev S16384x28672 : Shape := ⟨2, ![16384, 28672]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x28704, .f32⟩
  | .hbm, ⟨2, _⟩ => ⟨S4096x7168, .f32⟩
  | .hbm, ⟨3, _⟩ => ⟨S4096x21504, .f32⟩
  | .hbm, ⟨4, _⟩ => ⟨S4096x28672, .f32⟩
  | .hbm, ⟨5, _⟩ => ⟨S4096x28672, .bf16⟩
  | .hbm, ⟨6, _⟩ => ⟨S16384x28672, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 28, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S16384x4096 : Shape := ⟨2, ![16384, 4096]⟩
abbrev S4096x28704 : Shape := ⟨2, ![4096, 28704]⟩
abbrev S16384x28704 : Shape := ⟨2, ![16384, 28704]⟩
abbrev S16384x7168 : Shape := ⟨2, ![16384, 7168]⟩
abbrev S16384x21504 : Shape := ⟨2, ![16384, 21504]⟩
abbrev S16384x28672 : Shape := ⟨2, ![16384, 28672]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x28704, .f32⟩
  | .hbm, ⟨2, _⟩ => ⟨S16384x4096, .f32⟩
  | .hbm, ⟨3, _⟩ => ⟨S16384x28704, .f32⟩
  | .hbm, ⟨4, _⟩ => ⟨S16384x7168, .f32⟩
  | .hbm, ⟨5, _⟩ => ⟨S16384x21504, .f32⟩
  | .hbm, ⟨6, _⟩ => ⟨S16384x28672, .f32⟩
  | .hbm, ⟨7, _⟩ => ⟨S16384x28672, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S16384x4096 : Shape := ⟨2, ![16384, 4096]⟩
abbrev S4096x11008 : Shape := ⟨2, ![4096, 11008]⟩
abbrev S_ : Shape := ⟨0, ![]⟩
abbrev S4096x11264 : Shape := ⟨2, ![4096, 11264]⟩
abbrev S16384x11264 : Shape := ⟨2, ![16384, 11264]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 12
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .f32⟩
  | .hbm, ⟨2, _⟩ => ⟨S4096x11008, .f32⟩
  | .hbm, ⟨3, _⟩ => ⟨S4096x11008, .bf16⟩
  | .hbm, ⟨4, _⟩ => ⟨S_, .i32⟩
  | .hbm, ⟨5, _⟩ => ⟨S_, .bf16⟩
  | .hbm, ⟨6, _⟩ => ⟨S4096x11264, .bf16⟩
  | .hbm, ⟨7, _⟩ => ⟨S4096x11008, .bf16⟩
  | .hbm, ⟨8, _⟩ => ⟨S_, .i32⟩
  | .hbm, ⟨9, _⟩ => ⟨S_, .bf16⟩
  | .hbm, ⟨10, _⟩ => ⟨S4096x11264, .bf16⟩
  | .hbm, ⟨11, _⟩ => ⟨S16384x11264, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x4096 : Shape := ⟨2, ![16384, 4096]⟩
abbrev S4096x11008 : Shape := ⟨2, ![4096, 11008]⟩
abbrev S16384x11008 : Shape := ⟨2, ![16384, 11008]⟩
abbrev S_ : Shape := ⟨0, ![]⟩
abbrev S16384x11264 : Shape := ⟨2, ![16384, 11264]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .f32⟩
  | .hbm, ⟨2, _⟩ => ⟨S4096x11008, .f32⟩
  | .hbm, ⟨3, _⟩ => ⟨S16384x4096, .f32⟩
  | .hbm, ⟨4, _⟩ => ⟨S16384x11008, .f32⟩
  | .hbm, ⟨5, _⟩ => ⟨S16384x11008, .f32⟩
  | .hbm, ⟨6, _⟩ => ⟨S16384x11008, .f32⟩
  | .hbm, ⟨7, _⟩ => ⟨S_, .f32⟩
  | .hbm, ⟨8, _⟩ => ⟨S16384x11008, .f32⟩
  | .hbm, ⟨9, _⟩ => ⟨S16384x11008, .f32⟩
  | .hbm, ⟨10, _⟩ => ⟨S_, .f32⟩
  | .hbm, ⟨11, _⟩ => ⟨S16384x11008, .f32⟩
  | .hbm, ⟨12, _⟩ => ⟨S16384x11008, .f32⟩
  | .hbm, ⟨13, _⟩ => ⟨S16384x11008, .f32⟩
  | .hbm, ⟨14, _⟩ => ⟨S16384x11008, .f32⟩
  | .hbm, ⟨15, _⟩ => ⟨S16384x11008, .f32⟩
  | .hbm, ⟨16, _⟩ => ⟨S_, .i32⟩
  | .hbm, ⟨17, _⟩ => ⟨S_, .f32⟩
  | .hbm, ⟨18, _⟩ => ⟨S16384x11264, .f32⟩
  | .hbm, ⟨19, _⟩ => ⟨S16384x11264, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Kernel4.lean ====
abbrev S16384x11264 : Shape := ⟨2, ![16384, 11264]⟩
abbrev S11008x4096 : Shape := ⟨2, ![11008, 4096]⟩
abbrev S4x4096x4096 : Shape := ⟨3, ![4, 4096, 4096]⟩
abbrev S4x1x4096 : Shape := ⟨3, ![4, 1, 4096]⟩
abbrev S_ : Shape := ⟨0, ![]⟩
abbrev S11264x4096 : Shape := ⟨2, ![11264, 4096]⟩
abbrev S16384x4096 : Shape := ⟨2, ![16384, 4096]⟩
abbrev S1024x2816 : Shape := ⟨2, ![1024, 2816]⟩
abbrev S2816x1024 : Shape := ⟨2, ![2816, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 10
  | .vmem => 11
  | .smem => 0
  | _ => 0

abbrev bufTy : (tb : Table) → Fin (tcTables nBuf tb) → BufTy
  | .hbm, ⟨0, _⟩ => ⟨S16384x11264, .bf16⟩
  | .hbm, ⟨1, _⟩ => ⟨S11008x4096, .f32⟩
  | .hbm, ⟨2, _⟩ => ⟨S4x4096x4096, .f32⟩
  | .hbm, ⟨3, _⟩ => ⟨S4x1x4096, .f32⟩
  | .hbm, ⟨4, _⟩ => ⟨S11008x4096, .bf16⟩
  | .hbm, ⟨5, _⟩ => ⟨S_, .i32⟩
  | .hbm, ⟨6, _⟩ => ⟨S_, .bf16⟩
  | .hbm, ⟨7, _⟩ => ⟨S11264x4096, .bf16⟩
  | .hbm, ⟨8, _⟩ => ⟨S16384x4096, .f32⟩
  | .hbm, ⟨9, _⟩ => ⟨S16384x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S16384x11264 : Shape := ⟨2, ![16384, 11264]⟩
abbrev S11008x4096 : Shape := ⟨2, ![11008, 4096]⟩
abbrev S4x4096x4096 : Shape := ⟨3, ![4, 4096, 4096]⟩
abbrev S4x1x4096 : Shape := ⟨3, ![4, 1, 4096]⟩
abbrev S16384x11008 : Shape := ⟨2, ![16384, 11008]⟩
abbrev S16384x4096 : Shape := ⟨2, ![16384, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S11008x4096, .f32⟩
  | .hbm, ⟨2, _⟩ => ⟨S4x4096x4096, .f32⟩
  | .hbm, ⟨3, _⟩ => ⟨S4x1x4096, .f32⟩
  | .hbm, ⟨4, _⟩ => ⟨S16384x11008, .bf16⟩
  | .hbm, ⟨5, _⟩ => ⟨S16384x11008, .f32⟩
  | .hbm, ⟨6, _⟩ => ⟨S16384x4096, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S16384x4096, .f32⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S16384x1024 : Shape := ⟨2, ![16384, 1024]⟩
abbrev S16384x2048 : Shape := ⟨2, ![16384, 2048]⟩
abbrev S4096x4096 : Shape := ⟨2, ![4096, 4096]⟩
abbrev S16384x28672 : Shape := ⟨2, ![16384, 28672]⟩
abbrev S16384x4096 : Shape := ⟨2, ![16384, 4096]⟩
abbrev S1024x1024 : Shape := ⟨2, ![1024, 1024]⟩
abbrev S1024x2048 : Shape := ⟨2, ![1024, 2048]⟩
abbrev S1024x512 : Shape := ⟨2, ![1024, 512]⟩

abbrev nBuf : Space → Nat
  | .hbm => 7
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S16384x1024, .bf16⟩
  | .hbm, ⟨3, _⟩ => ⟨S4096x4096, .f32⟩
  | .hbm, ⟨4, _⟩ => ⟨S16384x28672, .bf16⟩
  | .hbm, ⟨5, _⟩ => ⟨S4096x4096, .bf16⟩
  | .hbm, ⟨6, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S16384x1024 : Shape := ⟨2, ![16384, 1024]⟩
abbrev S16384x2048 : Shape := ⟨2, ![16384, 2048]⟩
abbrev S4096x4096 : Shape := ⟨2, ![4096, 4096]⟩
abbrev S16384x28672 : Shape := ⟨2, ![16384, 28672]⟩
abbrev S16384x12288 : Shape := ⟨2, ![16384, 12288]⟩
abbrev S_ : Shape := ⟨0, ![]⟩
abbrev S16384x4096 : Shape := ⟨2, ![16384, 4096]⟩
abbrev S1024x4096 : Shape := ⟨2, ![1024, 4096]⟩
abbrev S2048x4096 : Shape := ⟨2, ![2048, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S16384x1024, .bf16⟩
  | .hbm, ⟨3, _⟩ => ⟨S4096x4096, .f32⟩
  | .hbm, ⟨4, _⟩ => ⟨S16384x28672, .bf16⟩
  | .hbm, ⟨5, _⟩ => ⟨S16384x12288, .bf16⟩
  | .hbm, ⟨6, _⟩ => ⟨S16384x1024, .f32⟩
  | .hbm, ⟨7, _⟩ => ⟨S16384x2048, .f32⟩
  | .hbm, ⟨8, _⟩ => ⟨S16384x1024, .f32⟩
  | .hbm, ⟨9, _⟩ => ⟨S16384x12288, .f32⟩
  | .hbm, ⟨10, _⟩ => ⟨S16384x12288, .f32⟩
  | .hbm, ⟨11, _⟩ => ⟨S16384x12288, .f32⟩
  | .hbm, ⟨12, _⟩ => ⟨S_, .f32⟩
  | .hbm, ⟨13, _⟩ => ⟨S16384x12288, .f32⟩
  | .hbm, ⟨14, _⟩ => ⟨S16384x12288, .f32⟩
  | .hbm, ⟨15, _⟩ => ⟨S_, .f32⟩
  | .hbm, ⟨16, _⟩ => ⟨S16384x12288, .f32⟩
  | .hbm, ⟨17, _⟩ => ⟨S16384x12288, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S1024x4096, .f32⟩
  | .hbm, ⟨22, _⟩ => ⟨S16384x4096, .f32⟩
  | .hbm, ⟨23, _⟩ => ⟨S16384x4096, .f32⟩
  | .hbm, ⟨24, _⟩ => ⟨S2048x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S1024x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel6.lean ====
abbrev S16384x4096 : Shape := ⟨2, ![16384, 4096]⟩
abbrev S4096x4096 : Shape := ⟨2, ![4096, 4096]⟩
abbrev S4x4096x4096 : Shape := ⟨3, ![4, 4096, 4096]⟩
abbrev S4x1x4096 : Shape := ⟨3, ![4, 1, 4096]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S4x4096x4096, .f32⟩
  | .hbm, ⟨3, _⟩ => ⟨S4x1x4096, .f32⟩
  | .hbm, ⟨4, _⟩ => ⟨S4096x4096, .bf16⟩
  | .hbm, ⟨5, _⟩ => ⟨S16384x4096, .f32⟩
  | .hbm, ⟨6, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference6Ideal.lean ====
abbrev S16384x4096 : Shape := ⟨2, ![16384, 4096]⟩
abbrev S4096x4096 : Shape := ⟨2, ![4096, 4096]⟩
abbrev S4x4096x4096 : Shape := ⟨3, ![4, 4096, 4096]⟩
abbrev S4x1x4096 : Shape := ⟨3, ![4, 1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S4x4096x4096, .f32⟩
  | .hbm, ⟨3, _⟩ => ⟨S4x1x4096, .f32⟩
  | .hbm, ⟨4, _⟩ => ⟨S16384x4096, .f32⟩
  | .hbm, ⟨5, _⟩ => ⟨S16384x4096, .f32⟩
  | .hbm, ⟨6, _⟩ => ⟨S4x4096x4096, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S36864x4096 : Shape := ⟨2, ![36864, 4096]⟩
abbrev S8x4096x2048 : Shape := ⟨3, ![8, 4096, 2048]⟩
abbrev S36864 : Shape := ⟨1, ![36864]⟩
abbrev S72 : Shape := ⟨1, ![72]⟩
abbrev S1 : Shape := ⟨1, ![1]⟩
abbrev S36864x1 : Shape := ⟨2, ![36864, 1]⟩
abbrev S36864x128 : Shape := ⟨2, ![36864, 128]⟩
abbrev S36864x2048 : Shape := ⟨2, ![36864, 2048]⟩
abbrev S512x4096 : Shape := ⟨2, ![512, 4096]⟩
abbrev S1x4096x512 : Shape := ⟨3, ![1, 4096, 512]⟩
abbrev S512x128 : Shape := ⟨2, ![512, 128]⟩
abbrev S512x512 : Shape := ⟨2, ![512, 512]⟩
abbrev S4096x512 : Shape := ⟨2, ![4096, 512]⟩
abbrev S512x1 : Shape := ⟨2, ![512, 1]⟩

abbrev nBuf : Space → Nat
  | .hbm => 9
  | .vmem => 10
  | .smem => 2
  | _ => 0

abbrev bufTy : (tb : Table) → Fin (tcTables nBuf tb) → BufTy
  | .hbm, ⟨0, _⟩ => ⟨S36864x4096, .f32⟩
  | .hbm, ⟨1, _⟩ => ⟨S8x4096x2048, .f32⟩
  | .hbm, ⟨2, _⟩ => ⟨S8x4096x2048, .f32⟩
  | .hbm, ⟨3, _⟩ => ⟨S36864, .f32⟩
  | .hbm, ⟨4, _⟩ => ⟨S36864x1, .f32⟩
  | .hbm, ⟨5, _⟩ => ⟨S36864x128, .f32⟩
  | .hbm, ⟨6, _⟩ => ⟨S8x4096x2048, .bf16⟩
  | .hbm, ⟨7, _⟩ => ⟨S8x4096x2048, .bf16⟩
  | .hbm, ⟨8, _⟩ => ⟨S36864x2048, .bf16⟩
  | .local _ .vmem, ⟨0, _⟩ => ⟨S512x4096, .f32⟩
  | .local _ .vmem, ⟨1, _⟩ => ⟨S512x4096, .f32⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | .local _ .smem, ⟨0, _⟩ => ⟨S72, .i32⟩
  | .local _ .smem, ⟨1, _⟩ => ⟨S1, .i32⟩
  | _, _ => ⟨S36864x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 72], ![false, false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S36864x4096 : Shape := ⟨2, ![36864, 4096]⟩
abbrev S8x4096x2048 : Shape := ⟨3, ![8, 4096, 2048]⟩
abbrev S36864 : Shape := ⟨1, ![36864]⟩
abbrev S72 : Shape := ⟨1, ![72]⟩
abbrev S1 : Shape := ⟨1, ![1]⟩
abbrev S_ : Shape := ⟨0, ![]⟩
abbrev S72x512 : Shape := ⟨2, ![72, 512]⟩
abbrev S36864x8x2048 : Shape := ⟨3, ![36864, 8, 2048]⟩
abbrev S36864x1 : Shape := ⟨2, ![36864, 1]⟩
abbrev S8 : Shape := ⟨1, ![8]⟩
abbrev S1x8 : Shape := ⟨2, ![1, 8]⟩
abbrev S36864x8 : Shape := ⟨2, ![36864, 8]⟩
abbrev S36864x8x1 : Shape := ⟨3, ![36864, 8, 1]⟩
abbrev S36864x1x1 : Shape := ⟨3, ![36864, 1, 1]⟩
abbrev S36864x2048 : Shape := ⟨2, ![36864, 2048]⟩

abbrev nBuf : Space → Nat
  | .hbm => 45
  | .vmem => 0
  | .smem => 0
  | _ => 0

abbrev bufTy : (tb : Table) → Fin (tcTables nBuf tb) → BufTy
  | .hbm, ⟨0, _⟩ => ⟨S36864x4096, .f32⟩
  | .hbm, ⟨1, _⟩ => ⟨S8x4096x2048, .f32⟩
  | .hbm, ⟨2, _⟩ => ⟨S8x4096x2048, .f32⟩
  | .hbm, ⟨3, _⟩ => ⟨S36864, .f32⟩
  | .hbm, ⟨4, _⟩ => ⟨S72, .i32⟩
  | .hbm, ⟨5, _⟩ => ⟨S1, .i32⟩
  | .hbm, ⟨6, _⟩ => ⟨S72, .i32⟩
  | .hbm, ⟨7, _⟩ => ⟨S72, .i32⟩
  | .hbm, ⟨8, _⟩ => ⟨S72, .i1⟩
  | .hbm, ⟨9, _⟩ => ⟨S_, .i32⟩
  | .hbm, ⟨10, _⟩ => ⟨S_, .i32⟩
  | .hbm, ⟨11, _⟩ => ⟨S72, .i32⟩
  | .hbm, ⟨12, _⟩ => ⟨S72, .i32⟩
  | .hbm, ⟨13, _⟩ => ⟨S72x512, .i32⟩
  | .hbm, ⟨14, _⟩ => ⟨S36864, .i32⟩
  | .hbm, ⟨15, _⟩ => ⟨S36864x8x2048, .f32⟩
  | .hbm, ⟨16, _⟩ => ⟨S36864x8x2048, .f32⟩
  | .hbm, ⟨17, _⟩ => ⟨S36864x8x2048, .f32⟩
  | .hbm, ⟨18, _⟩ => ⟨S_, .f32⟩
  | .hbm, ⟨19, _⟩ => ⟨S36864x8x2048, .f32⟩
  | .hbm, ⟨20, _⟩ => ⟨S36864x8x2048, .f32⟩
  | .hbm, ⟨21, _⟩ => ⟨S_, .f32⟩
  | .hbm, ⟨22, _⟩ => ⟨S36864x8x2048, .f32⟩
  | .hbm, ⟨23, _⟩ => ⟨S36864x8x2048, .f32⟩
  | .hbm, ⟨24, _⟩ => ⟨S36864x8x2048, .f32⟩
  | .hbm, ⟨25, _⟩ => ⟨S36864x8x2048, .f32⟩
  | .hbm, ⟨26, _⟩ => ⟨S36864x8x2048, .f32⟩
  | .hbm, ⟨27, _⟩ => ⟨S36864x1, .i32⟩
  | .hbm, ⟨28, _⟩ => ⟨S8, .i32⟩
  | .hbm, ⟨29, _⟩ => ⟨S1x8, .i32⟩
  | .hbm, ⟨30, _⟩ => ⟨S36864x8, .i32⟩
  | .hbm, ⟨31, _⟩ => ⟨S36864x8, .i32⟩
  | .hbm, ⟨32, _⟩ => ⟨S36864x8, .i1⟩
  | .hbm, ⟨33, _⟩ => ⟨S36864x8x1, .i1⟩
  | .hbm, ⟨34, _⟩ => ⟨S36864x1x1, .f32⟩
  | .hbm, ⟨35, _⟩ => ⟨S36864x8x2048, .f32⟩
  | .hbm, ⟨36, _⟩ => ⟨S36864x8x2048, .f32⟩
  | .hbm, ⟨37, _⟩ => ⟨S_, .f32⟩
  | .hbm, ⟨38, _⟩ => ⟨S_, .f32⟩
  | .hbm, ⟨39, _⟩ => ⟨S36864x8x2048, .i1⟩
  | .hbm, ⟨40, _⟩ => ⟨S36864x8x2048, .f32⟩
  | .hbm, ⟨41, _⟩ => ⟨S36864x8x2048, .f32⟩
  | .hbm, ⟨42, _⟩ => ⟨S_, .f32⟩
  | .hbm, ⟨43, _⟩ => ⟨S36864x2048, .f32⟩
  | .hbm, ⟨44, _⟩ => ⟨S36864x2048, .bf16⟩
  | _, _ => ⟨S36864x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v20 : Ref sig .tc := ⟨.hbm, 41, rfl⟩
abbrev main_cst_0 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]
-- ==== Kernel8.lean ====
abbrev S36864x2048 : Shape := ⟨2, ![36864, 2048]⟩
abbrev S8x2048x4096 : Shape := ⟨3, ![8, 2048, 4096]⟩
abbrev S72 : Shape := ⟨1, ![72]⟩
abbrev S1 : Shape := ⟨1, ![1]⟩
abbrev S36864x4096 : Shape := ⟨2, ![36864, 4096]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 4
  | .vmem => 6
  | .smem => 2
  | _ => 0

abbrev bufTy : (tb : Table) → Fin (tcTables nBuf tb) → BufTy
  | .hbm, ⟨0, _⟩ => ⟨S36864x2048, .bf16⟩
  | .hbm, ⟨1, _⟩ => ⟨S8x2048x4096, .f32⟩
  | .hbm, ⟨2, _⟩ => ⟨S8x2048x4096, .bf16⟩
  | .hbm, ⟨3, _⟩ => ⟨S36864x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | .local _ .smem, ⟨0, _⟩ => ⟨S72, .i32⟩
  | .local _ .smem, ⟨1, _⟩ => ⟨S1, .i32⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 72], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S36864x2048 : Shape := ⟨2, ![36864, 2048]⟩
abbrev S8x2048x4096 : Shape := ⟨3, ![8, 2048, 4096]⟩
abbrev S72 : Shape := ⟨1, ![72]⟩
abbrev S1 : Shape := ⟨1, ![1]⟩
abbrev S_ : Shape := ⟨0, ![]⟩
abbrev S72x512 : Shape := ⟨2, ![72, 512]⟩
abbrev S36864 : Shape := ⟨1, ![36864]⟩
abbrev S36864x8x4096 : Shape := ⟨3, ![36864, 8, 4096]⟩
abbrev S36864x1 : Shape := ⟨2, ![36864, 1]⟩
abbrev S8 : Shape := ⟨1, ![8]⟩
abbrev S1x8 : Shape := ⟨2, ![1, 8]⟩
abbrev S36864x8 : Shape := ⟨2, ![36864, 8]⟩
abbrev S36864x8x1 : Shape := ⟨3, ![36864, 8, 1]⟩
abbrev S36864x4096 : Shape := ⟨2, ![36864, 4096]⟩

abbrev nBuf : Space → Nat
  | .hbm => 29
  | .vmem => 0
  | .smem => 0
  | _ => 0

abbrev bufTy : (tb : Table) → Fin (tcTables nBuf tb) → BufTy
  | .hbm, ⟨0, _⟩ => ⟨S36864x2048, .bf16⟩
  | .hbm, ⟨1, _⟩ => ⟨S8x2048x4096, .f32⟩
  | .hbm, ⟨2, _⟩ => ⟨S72, .i32⟩
  | .hbm, ⟨3, _⟩ => ⟨S1, .i32⟩
  | .hbm, ⟨4, _⟩ => ⟨S72, .i32⟩
  | .hbm, ⟨5, _⟩ => ⟨S72, .i32⟩
  | .hbm, ⟨6, _⟩ => ⟨S72, .i1⟩
  | .hbm, ⟨7, _⟩ => ⟨S_, .i32⟩
  | .hbm, ⟨8, _⟩ => ⟨S_, .i32⟩
  | .hbm, ⟨9, _⟩ => ⟨S72, .i32⟩
  | .hbm, ⟨10, _⟩ => ⟨S72, .i32⟩
  | .hbm, ⟨11, _⟩ => ⟨S72x512, .i32⟩
  | .hbm, ⟨12, _⟩ => ⟨S36864, .i32⟩
  | .hbm, ⟨13, _⟩ => ⟨S36864x2048, .f32⟩
  | .hbm, ⟨14, _⟩ => ⟨S36864x8x4096, .f32⟩
  | .hbm, ⟨15, _⟩ => ⟨S36864x1, .i32⟩
  | .hbm, ⟨16, _⟩ => ⟨S8, .i32⟩
  | .hbm, ⟨17, _⟩ => ⟨S1x8, .i32⟩
  | .hbm, ⟨18, _⟩ => ⟨S36864x8, .i32⟩
  | .hbm, ⟨19, _⟩ => ⟨S36864x8, .i32⟩
  | .hbm, ⟨20, _⟩ => ⟨S36864x8, .i1⟩
  | .hbm, ⟨21, _⟩ => ⟨S36864x8x1, .i1⟩
  | .hbm, ⟨22, _⟩ => ⟨S_, .f32⟩
  | .hbm, ⟨23, _⟩ => ⟨S_, .f32⟩
  | .hbm, ⟨24, _⟩ => ⟨S36864x8x4096, .i1⟩
  | .hbm, ⟨25, _⟩ => ⟨S36864x8x4096, .f32⟩
  | .hbm, ⟨26, _⟩ => ⟨S36864x8x4096, .f32⟩
  | .hbm, ⟨27, _⟩ => ⟨S_, .f32⟩
  | .hbm, ⟨28, _⟩ => ⟨S36864x4096, .f32⟩
  | _, _ => ⟨S36864x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Proof.Experts.Obligation.lean ====
/-
  The obligation of a body that stores every output's block at every grid point, from the triple at each point.
-/
module

public import Idealize.ShloMosaic.Lib.Pipeline.FrameBody

@[expose] public section

noncomputable section

namespace Experts

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {nD : Nat} {τ : Topo} {sig : RefSig} {Val : EltTy → Type} {Λ₀ : Labels}
variable {Ix : Type} [DecidableEq Ix] {Name : Type} [DecidableEq Name] {U : Type} [URA U] {Lvl : Type} [Preorder Lvl]
variable {cfg : Cfg sig Λ₀} {c : Dev nD} (dat : Dat τ Val Ix Name U Lvl cfg c)

/-- No window is idle at any point: the body's obligation is its triple at each point. -/
theorem obligation_of_stored {defs₀ : Defs nD τ sig Val Λ₀} {𝒱₀ : Variants} {ι : Ix} {E : Set Name}
    (hidle : ∀ w i, cfg.idle w i = false)
    (h : ∀ t : Fin cfg.N, iprop(dat.Φ t.castSucc ∗ dat.owesAt ι t.castSucc
        ∗ bigSep Finset.univ fun w : Fin cfg.W => iprop(∃ d, owns c ((cfg.win w).stage (cfg.slots t w)) fullShare (dat.before w t d)))
      ⊢ wp frame (wpE defs₀ 𝒱₀ c none) E (defs₀ .tc cfg.body (cfg.bodyArgs t (cfg.slots t))) fun _ =>
          iprop(dat.Φ t.succ ∗ dat.owesAt ι t.succ
            ∗ bigSep Finset.univ fun w : Fin cfg.W => owns c ((cfg.win w).stage (cfg.slots t w)) fullShare (dat.after w t))) :
    BodyObligation dat defs₀ 𝒱₀ ι E := fun t =>
  (h t).trans (wp_mono _ _ _ fun _ => sep_mono .rfl (sep_mono .rfl (Idealize.SL.BI.bigSep_mono fun w _ => by
    show _ ⊢ dat.leavesExact w t
    unfold Dat.leavesExact
    rw [hidle w])))

end Experts

end
-- ==== Proof.Experts.Kernel7Ideal.Setting.lean ====
/-
  The call's arrays and buffers at a grid point, its tables, and the two conditions of its body: the tile is used, or it is not.
-/
module

public import proofs.«01_k».proof.Proof.Gen.Kernel7Ideal.Launch
public import proofs.«01_k».proof.Proof.Gen.Kernel7Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Experts.Kernel7Ideal

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 0 (fun _ => rfl) (by decide)) (P := 1) (by decide) t).mpr (Nat.mod_one _) : ∀ t : Fin grid0.N, Pipeline.Window.fetchOf grid0 false cc0_transform_3 t = true)
theorem flush0_4 (a : (pcfg0 (F := F)).Adm) : ∀ t : Fin (cfg0 a).N, ((cfg0 a).win 4).flush t = true :=
  (fun t => (Pipeline.Window.flushOf_reads cc0_transform_4 reads0_4 hreads0_4 1 (by decide) (by decide) (Pipeline.Window.sep_of_coord cc0_transform_4 1 0 (fun _ => rfl) (by decide)) (P := 1) (m := 0) (by decide) rfl t).mpr (Nat.mod_one _) : ∀ t : Fin grid0.N, Pipeline.Window.flushOf grid0 true cc0_transform_4 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

abbrev bodyAt0 (a : (pcfg0 (F := F)).Adm) (t : Fin (cfg0 a).N) : Prog (TpuEff nD τ sig (Elt F) Λ₀ .tc) PUnit :=
  cc0_swiglu_grouped (grid0.coords t) (Memref.whole main_arg4) (Memref.isWhole_whole _) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S72 .i32 := Memref.whole main_arg4
abbrev htbM0_0 : tbM0_0.IsWhole := Memref.isWhole_whole _
abbrev tbM0_1 : Memref sig .tc .smem S1 .i32 := Memref.whole main_arg5
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-- The tile is among the used ones, -/
abbrev cond0_0 (i : grid0.Coords) (v2 : BitVec 32) : Prop := k0_cond1 i v2 = 1#1

/-- and it is not. -/
abbrev cond0_1 (i : grid0.Coords) (v2 : BitVec 32) : Prop := k0_cond2 i v2 = 1#1

theorem ne_zero_iff (p : Bool) : Scalar.cmpi .ne (Scalar.extui (BitVec.ofBool p)) 0#32 = 1#1 ↔ p = true := by
  cases p <;> decide

theorem cond_or (a b : BitVec 32) :
    (Scalar.cmpi .ne (Scalar.extui (Scalar.cmpi .sge a b) : BitVec 32) 0#32 = 1#1)
      ↔ ¬ (Scalar.cmpi .ne (Scalar.extui (Scalar.cmpi .slt a b) : BitVec 32) 0#32 = 1#1) := by
  show (Scalar.cmpi .ne (Scalar.extui (BitVec.ofBool (b.sle a))) 0#32 = 1#1)
      ↔ ¬ (Scalar.cmpi .ne (Scalar.extui (BitVec.ofBool (a.slt b))) 0#32 = 1#1)
  rw [ne_zero_iff, ne_zero_iff, BitVec.sle_eq_not_slt]
  cases a.slt b <;> simp

/-- Exactly one of the two holds. -/
theorem unused_iff (i : grid0.Coords) (v : BitVec 32) : cond0_1 i v ↔ ¬ cond0_0 i v := cond_or _ _

/-- So the body stores the result's block at every point. -/
theorem idle_false (pf : pre0.Contents (Elt F)) (i : grid0.Coords) : idle0 pf 4 i = false := by
  show (!(k0_cond1 i (pf.atD 1 ![0]) == 1#1) && !(k0_cond2 i (pf.atD 1 ![0]) == 1#1)) = false
  by_cases h : cond0_0 i (pf.atD 1 ![0])
  · rw [show (k0_cond1 i (pf.atD 1 ![0]) == 1#1) = true from beq_iff_eq.2 h]; rfl
  · rw [show (k0_cond2 i (pf.atD 1 ![0]) == 1#1) = true from beq_iff_eq.2 ((unused_iff i _).2 h)]; exact Bool.and_false _

/-- No array is left aside at any point. -/
theorem idle_all (pf : pre0.Contents (Elt F)) (w : Fin 5) (i : grid0.Coords) : idle0 pf w i = false := by
  match w with
  | 0 => exact rfl
  | 1 => exact rfl
  | 2 => exact rfl
  | 3 => exact rfl
  | 4 => exact idle_false pf i

abbrev VO0_4 : View sig .tc .vmem S512x512 .bf16 := (Memref.whole cc0_stg4_0 : Memref sig .tc .vmem S512x512 .bf16).view
abbrev ms0_0 (hO : Ok m) (t : Fin (cfgM m hO).N) : Memref sig .tc .vmem S512x4096 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x512 .bf16 := spec0_4.stage ((cfgM m hO).slots t 4)
abbrev hs0_4 (hO : Ok m) (t : Fin (cfgM m hO).N) : (ms0_4 m hO t).IsWhole := hstage0_4 (((cfgM m hO).slots t 4).cast nbuf0_4)

end Experts.Kernel7Ideal

end
-- ==== Proof.Experts.Kernel7Ideal.Body.lean ====
/-
  The body at a used tile, and at a tile that is not used.
-/
module

public import proofs.«01_k».proof.Proof.Experts.Kernel7Ideal.Setting

@[expose] public section

set_option maxRecDepth 16384

noncomputable section

namespace Experts.Kernel7Ideal

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg4 : Memref sig .tc .vmem S512x4096 .f32) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S512x128 .f32) (harg7 : arg7.IsWhole) (arg8 : Memref sig .tc .vmem S512x512 .bf16) (harg8 : arg8.IsWhole)
    (x0 : Vec F S512x4096 .f32) (x1 : Vec F S1x4096x512 .bf16) (x2 : Vec F S1x4096x512 .bf16) (x3 : Vec F S512x128 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) :
    { L4 : List (View.Piece (Elt F) S512x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ tbPt0 c tbM0_0 xt0 ∗ tbPt0 c tbM0_1 xt1) -∗ K ⟨⟩))
          ⊢ wp frame (wpE (defs₀ (F := F)) Variants.none c none) E (cc0_swiglu_grouped i tbM0_0 htbM0_0 tbM0_1 htbM0_1 arg4 harg4 arg5 harg5 arg6 harg6 arg7 harg7 arg8 harg8) K } := by
  refine ⟨?_, fun E K => ?run⟩
  case run =>
    have hc1 := fun h => (unused_iff i _).1 h hc0
    simp only [cc0_swiglu_grouped_eq_skeleton]; unfold cc0_swiglu_grouped_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg4.eq_unread hf0; obtain rfl := harg5.eq_unread hf1; obtain rfl := harg6.eq_unread hf2; obtain rfl := harg7.eq_unread hf3
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HT0]; · iexact HT0
    iexact HT1

set_option maxHeartbeats 1000000 in
noncomputable def kernelRun0_B (c : Dev nD) (i : grid0.Coords) (arg4 : Memref sig .tc .vmem S512x4096 .f32) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S512x128 .f32) (harg7 : arg7.IsWhole) (arg8 : Memref sig .tc .vmem S512x512 .bf16) (harg8 : arg8.IsWhole)
    (x0 : Vec F S512x4096 .f32) (x1 : Vec F S1x4096x512 .bf16) (x2 : Vec F S1x4096x512 .bf16) (x3 : Vec F S512x128 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) :
    { L4 : List (View.Piece (Elt F) S512x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ tbPt0 c tbM0_0 xt0 ∗ tbPt0 c tbM0_1 xt1) -∗ K ⟨⟩))
          ⊢ wp frame (wpE (defs₀ (F := F)) Variants.none c none) E (cc0_swiglu_grouped i tbM0_0 htbM0_0 tbM0_1 htbM0_1 arg4 harg4 arg5 harg5 arg6 harg6 arg7 harg7 arg8 harg8) K } := by
  refine ⟨?_, fun E K => ?run⟩
  case run =>
    have hc1 := (unused_iff i _).2 hc0
    simp only [cc0_swiglu_grouped_eq_skeleton]; unfold cc0_swiglu_grouped_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg4.eq_unread hf0; obtain rfl := harg5.eq_unread hf1; obtain rfl := harg6.eq_unread hf2; obtain rfl := harg7.eq_unread hf3
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HT0]; · iexact HT0
    iexact HT1

end Experts.Kernel7Ideal

end
-- ==== Proof.Experts.Kernel7Ideal.Frame.lean ====
/-
  What the call leaves in its result's block at each point, and its run: it ends, the arguments are as they were.
-/
module

public import proofs.«01_k».proof.Proof.Experts.Kernel7Ideal.Body
public import proofs.«01_k».proof.Proof.Experts.Obligation
public import Idealize.ShloMosaic.Lib.Claim

@[expose] public section

set_option maxRecDepth 16384

noncomputable section

namespace Experts.Kernel7Ideal

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_4 (c : Dev nD) (i : grid0.Coords) (arg4 : Memref sig .tc .vmem S512x4096 .f32) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S512x128 .f32) (harg7 : arg7.IsWhole) (arg8 : Memref sig .tc .vmem S512x512 .bf16) (harg8 : arg8.IsWhole)
    (x0 : Vec F S512x4096 .f32) (x1 : Vec F S1x4096x512 .bf16) (x2 : Vec F S1x4096x512 .bf16) (x3 : Vec F S512x128 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (y : S512x512.Idx) :
    ∃ pc ∈ (kernelRun0_A c i arg4 harg4 arg5 harg5 arg6 harg6 arg7 harg7 arg8 harg8 x0 x1 x2 x3 xt0 xt1 hc0).1, y ∈ pc.1.set :=
  View.cover_of_tiledL (kernelRun0_A c i arg4 harg4 arg5 harg5 arg6 harg6 arg7 harg7 arg8 harg8 x0 x1 x2 x3 xt0 xt1 hc0).1 S512x512.size (by sl_kernel_rfl) y

def out0_A_4 (c : Dev nD) (i : grid0.Coords) (arg4 : Memref sig .tc .vmem S512x4096 .f32) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S512x128 .f32) (harg7 : arg7.IsWhole) (arg8 : Memref sig .tc .vmem S512x512 .bf16) (harg8 : arg8.IsWhole)
    (x0 : Vec F S512x4096 .f32) (x1 : Vec F S1x4096x512 .bf16) (x2 : Vec F S1x4096x512 .bf16) (x3 : Vec F S512x128 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) : Vec F S512x512 .bf16 :=
  VO0_4.read (Elt F) (VO0_4.writes (Elt F) VO0_4.junk (kernelRun0_A c i arg4 harg4 arg5 harg5 arg6 harg6 arg7 harg7 arg8 harg8 x0 x1 x2 x3 xt0 xt1 hc0).1)

theorem cover0_B_4 (c : Dev nD) (i : grid0.Coords) (arg4 : Memref sig .tc .vmem S512x4096 .f32) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S512x128 .f32) (harg7 : arg7.IsWhole) (arg8 : Memref sig .tc .vmem S512x512 .bf16) (harg8 : arg8.IsWhole)
    (x0 : Vec F S512x4096 .f32) (x1 : Vec F S1x4096x512 .bf16) (x2 : Vec F S1x4096x512 .bf16) (x3 : Vec F S512x128 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) (y : S512x512.Idx) :
    ∃ pc ∈ (kernelRun0_B c i arg4 harg4 arg5 harg5 arg6 harg6 arg7 harg7 arg8 harg8 x0 x1 x2 x3 xt0 xt1 hc0).1, y ∈ pc.1.set :=
  View.cover_of_tiledL (kernelRun0_B c i arg4 harg4 arg5 harg5 arg6 harg6 arg7 harg7 arg8 harg8 x0 x1 x2 x3 xt0 xt1 hc0).1 S512x512.size (by sl_kernel_rfl) y

def out0_B_4 (c : Dev nD) (i : grid0.Coords) (arg4 : Memref sig .tc .vmem S512x4096 .f32) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S512x128 .f32) (harg7 : arg7.IsWhole) (arg8 : Memref sig .tc .vmem S512x512 .bf16) (harg8 : arg8.IsWhole)
    (x0 : Vec F S512x4096 .f32) (x1 : Vec F S1x4096x512 .bf16) (x2 : Vec F S1x4096x512 .bf16) (x3 : Vec F S512x128 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) : Vec F S512x512 .bf16 :=
  VO0_4.read (Elt F) (VO0_4.writes (Elt F) VO0_4.junk (kernelRun0_B c i arg4 harg4 arg5 harg5 arg6 harg6 arg7 harg7 arg8 harg8 x0 x1 x2 x3 xt0 xt1 hc0).1)

def outsAt0 (hO : Ok m) (c : Dev nD) (t : Fin (cfgM m hO).N) : Vec F S512x512 .bf16 :=
  if h0 : cond0_0 (grid0.coords t) (tbM0_1.view.readAt (Elt F) (Rect.unit (s := S1) ![0] S1.size inb_S1_S1_0).toLoadRect (tbl m 1) (Shape.Idx.first (numel1_S1.symm ▸ Nat.one_pos))) then
    out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h0
  else
    out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h0

theorem outsAt0_A (hO : Ok m) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) :
    outsAt0 m hO c t = out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h0 := by
  unfold outsAt0; exact (dif_pos h0).trans rfl

theorem outsAt0_B (hO : Ok m) (c : Dev nD) (t : Fin (cfgM m hO).N) (h0 : ¬cond0_0 (grid0.coords t) (tbM0_1.view.readAt (Elt F) (Rect.unit (s := S1) ![0] S1.size inb_S1_S1_0).toLoadRect (tbl m 1) (Shape.Idx.first (numel1_S1.symm ▸ Nat.one_pos)))) :
    outsAt0 m hO c t = out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h0 := by
  unfold outsAt0; exact (dif_neg h0).trans rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 800000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  by_cases h0 : cond0_0 (grid0.coords t) (tbM0_1.view.readAt (Elt F) (Rect.unit (s := S1) ![0] S1.size inb_S1_S1_0).toLoadRect (tbl m 1) (Shape.Idx.first (numel1_S1.symm ▸ Nat.one_pos)))
  · rw [outsAt0_A m hO c t h0]
    unfold out0_A_4
    iintro ⟨⟨HΦ, ⟨HT0, HT1⟩⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ (iblk m hO c 0 t) (iblk m hO c 1 t) (iblk m hO c 2 t) (iblk m hO c 3 t) (tbl m 0) (tbl m 1) h0).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _)
  · rw [outsAt0_B m hO c t h0]
    unfold out0_B_4
    iintro ⟨⟨HΦ, ⟨HT0, HT1⟩⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ (iblk m hO c 0 t) (iblk m hO c 1 t) (iblk m hO c 2 t) (iblk m hO c 3 t) (tbl m 0) (tbl m 1) h0).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ :=
  obligation_of_stored _ (fun w i => idle_all (tbl m) w i) fun t => by
  rw [bigSep_W0, bigSep_W0, defs₀_row m hO]
  exact triple_restated (sound_body m hO c t) rfl .rfl fun _ => .rfl

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Experts.Kernel7Ideal

end
-- ==== Proof.Experts.Kernel8Ideal.Setting.lean ====
/-
  The call's arrays and buffers at a grid point, its tables, and the two conditions of its body: the tile is used, or it is not.
-/
module

public import proofs.«01_k».proof.Proof.Gen.Kernel8Ideal.Launch
public import proofs.«01_k».proof.Proof.Gen.Kernel8Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Experts.Kernel8Ideal

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
theorem flush0_2 (a : (pcfg0 (F := F)).Adm) : ∀ t : Fin (cfg0 a).N, ((cfg0 a).win 2).flush t = true :=
  (fun t => (Pipeline.Window.flushOf_reads cc0_transform_2 reads0_2 hreads0_2 1 (by decide) (by decide) (Pipeline.Window.sep_of_coord cc0_transform_2 1 0 (fun _ => rfl) (by decide)) (P := 1) (m := 0) (by decide) rfl t).mpr (Nat.mod_one _) : ∀ t : Fin grid0.N, Pipeline.Window.flushOf grid0 true cc0_transform_2 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

abbrev bodyAt0 (a : (pcfg0 (F := F)).Adm) (t : Fin (cfg0 a).N) : Prog (TpuEff nD τ sig (Elt F) Λ₀ .tc) PUnit :=
  cc0_down_grouped (grid0.coords t) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S72 .i32 := Memref.whole main_arg2
abbrev htbM0_0 : tbM0_0.IsWhole := Memref.isWhole_whole _
abbrev tbM0_1 : Memref sig .tc .smem S1 .i32 := Memref.whole main_arg3
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

/-- The tile is among the used ones, -/
abbrev cond0_0 (i : grid0.Coords) (v2 : BitVec 32) : Prop := k0_cond1 i v2 = 1#1

/-- and it is not. -/
abbrev cond0_1 (i : grid0.Coords) (v2 : BitVec 32) : Prop := k0_cond2 i v2 = 1#1

theorem ne_zero_iff (p : Bool) : Scalar.cmpi .ne (Scalar.extui (BitVec.ofBool p)) 0#32 = 1#1 ↔ p = true := by
  cases p <;> decide

theorem cond_or (a b : BitVec 32) :
    (Scalar.cmpi .ne (Scalar.extui (Scalar.cmpi .sge a b) : BitVec 32) 0#32 = 1#1)
      ↔ ¬ (Scalar.cmpi .ne (Scalar.extui (Scalar.cmpi .slt a b) : BitVec 32) 0#32 = 1#1) := by
  show (Scalar.cmpi .ne (Scalar.extui (BitVec.ofBool (b.sle a))) 0#32 = 1#1)
      ↔ ¬ (Scalar.cmpi .ne (Scalar.extui (BitVec.ofBool (a.slt b))) 0#32 = 1#1)
  rw [ne_zero_iff, ne_zero_iff, BitVec.sle_eq_not_slt]
  cases a.slt b <;> simp

/-- Exactly one of the two holds. -/
theorem unused_iff (i : grid0.Coords) (v : BitVec 32) : cond0_1 i v ↔ ¬ cond0_0 i v := cond_or _ _

/-- So the body stores the result's block at every point. -/
theorem idle_false (pf : pre0.Contents (Elt F)) (i : grid0.Coords) : idle0 pf 2 i = false := by
  show (!(k0_cond1 i (pf.atD 1 ![0]) == 1#1) && !(k0_cond2 i (pf.atD 1 ![0]) == 1#1)) = false
  by_cases h : cond0_0 i (pf.atD 1 ![0])
  · rw [show (k0_cond1 i (pf.atD 1 ![0]) == 1#1) = true from beq_iff_eq.2 h]; rfl
  · rw [show (k0_cond2 i (pf.atD 1 ![0]) == 1#1) = true from beq_iff_eq.2 ((unused_iff i _).2 h)]; exact Bool.and_false _

/-- No array is left aside at any point. -/
theorem idle_all (pf : pre0.Contents (Elt F)) (w : Fin 3) (i : grid0.Coords) : idle0 pf w i = false := by
  match w with
  | 0 => exact rfl
  | 1 => exact rfl
  | 2 => exact idle_false pf i

abbrev VO0_2 : View sig .tc .vmem S512x1024 .f32 := (Memref.whole cc0_stg2_0 : Memref sig .tc .vmem S512x1024 .f32).view
abbrev ms0_0 (hO : Ok m) (t : Fin (cfgM m hO).N) : Memref sig .tc .vmem S512x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x1024 .f32 := spec0_2.stage ((cfgM m hO).slots t 2)
abbrev hs0_2 (hO : Ok m) (t : Fin (cfgM m hO).N) : (ms0_2 m hO t).IsWhole := hstage0_2 (((cfgM m hO).slots t 2).cast nbuf0_2)

end Experts.Kernel8Ideal

end
-- ==== Proof.Experts.Kernel8Ideal.Body.lean ====
/-
  The body at a used tile, and at a tile that is not used.
-/
module

public import proofs.«01_k».proof.Proof.Experts.Kernel8Ideal.Setting

@[expose] public section

set_option maxRecDepth 16384

noncomputable section

namespace Experts.Kernel8Ideal

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S512x1024 .f32) (harg6 : arg6.IsWhole)
    (x0 : Vec F S512x2048 .bf16) (x1 : Vec F S1x2048x1024 .bf16) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) :
    { L2 : List (View.Piece (Elt F) S512x1024 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d) ∗ tbPt0 c tbM0_0 xt0 ∗ tbPt0 c tbM0_1 xt1
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L2) ∗ tbPt0 c tbM0_0 xt0 ∗ tbPt0 c tbM0_1 xt1) -∗ K ⟨⟩))
          ⊢ wp frame (wpE (defs₀ (F := F)) Variants.none c none) E (cc0_down_grouped i tbM0_0 htbM0_0 tbM0_1 htbM0_1 arg4 harg4 arg5 harg5 arg6 harg6) K } := by
  refine ⟨?_, fun E K => ?run⟩
  case run =>
    have hc1 := fun h => (unused_iff i _).1 h hc0
    simp only [cc0_down_grouped_eq_skeleton]; unfold cc0_down_grouped_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HT0]; · iexact HT0
    iexact HT1

set_option maxHeartbeats 1000000 in
noncomputable def kernelRun0_B (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S512x1024 .f32) (harg6 : arg6.IsWhole)
    (x0 : Vec F S512x2048 .bf16) (x1 : Vec F S1x2048x1024 .bf16) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) :
    { L2 : List (View.Piece (Elt F) S512x1024 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d) ∗ tbPt0 c tbM0_0 xt0 ∗ tbPt0 c tbM0_1 xt1
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L2) ∗ tbPt0 c tbM0_0 xt0 ∗ tbPt0 c tbM0_1 xt1) -∗ K ⟨⟩))
          ⊢ wp frame (wpE (defs₀ (F := F)) Variants.none c none) E (cc0_down_grouped i tbM0_0 htbM0_0 tbM0_1 htbM0_1 arg4 harg4 arg5 harg5 arg6 harg6) K } := by
  refine ⟨?_, fun E K => ?run⟩
  case run =>
    have hc1 := (unused_iff i _).2 hc0
    simp only [cc0_down_grouped_eq_skeleton]; unfold cc0_down_grouped_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HT0]; · iexact HT0
    iexact HT1

end Experts.Kernel8Ideal

end
-- ==== Proof.Experts.Kernel8Ideal.Frame.lean ====
/-
  What the call leaves in its result's block at each point, and its run: it ends, the arguments are as they were.
-/
module

public import proofs.«01_k».proof.Proof.Experts.Kernel8Ideal.Body
public import proofs.«01_k».proof.Proof.Experts.Obligation
public import Idealize.ShloMosaic.Lib.Claim

@[expose] public section

set_option maxRecDepth 16384

noncomputable section

namespace Experts.Kernel8Ideal

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_2 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S512x1024 .f32) (harg6 : arg6.IsWhole)
    (x0 : Vec F S512x2048 .bf16) (x1 : Vec F S1x2048x1024 .bf16) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_A c i arg4 harg4 arg5 harg5 arg6 harg6 x0 x1 xt0 xt1 hc0).1, y ∈ pc.1.set :=
  View.cover_of_tiledL (kernelRun0_A c i arg4 harg4 arg5 harg5 arg6 harg6 x0 x1 xt0 xt1 hc0).1 S512x1024.size (by sl_kernel_rfl) y

def out0_A_2 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S512x1024 .f32) (harg6 : arg6.IsWhole)
    (x0 : Vec F S512x2048 .bf16) (x1 : Vec F S1x2048x1024 .bf16) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) : Vec F S512x1024 .f32 :=
  VO0_2.read (Elt F) (VO0_2.writes (Elt F) VO0_2.junk (kernelRun0_A c i arg4 harg4 arg5 harg5 arg6 harg6 x0 x1 xt0 xt1 hc0).1)

theorem cover0_B_2 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S512x1024 .f32) (harg6 : arg6.IsWhole)
    (x0 : Vec F S512x2048 .bf16) (x1 : Vec F S1x2048x1024 .bf16) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_B c i arg4 harg4 arg5 harg5 arg6 harg6 x0 x1 xt0 xt1 hc0).1, y ∈ pc.1.set :=
  View.cover_of_tiledL (kernelRun0_B c i arg4 harg4 arg5 harg5 arg6 harg6 x0 x1 xt0 xt1 hc0).1 S512x1024.size (by sl_kernel_rfl) y

def out0_B_2 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S512x1024 .f32) (harg6 : arg6.IsWhole)
    (x0 : Vec F S512x2048 .bf16) (x1 : Vec F S1x2048x1024 .bf16) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) : Vec F S512x1024 .f32 :=
  VO0_2.read (Elt F) (VO0_2.writes (Elt F) VO0_2.junk (kernelRun0_B c i arg4 harg4 arg5 harg5 arg6 harg6 x0 x1 xt0 xt1 hc0).1)

def outsAt0 (hO : Ok m) (c : Dev nD) (t : Fin (cfgM m hO).N) : Vec F S512x1024 .f32 :=
  if h0 : cond0_0 (grid0.coords t) (tbM0_1.view.readAt (Elt F) (Rect.unit (s := S1) ![0] S1.size inb_S1_S1_0).toLoadRect (tbl m 1) (Shape.Idx.first (numel1_S1.symm ▸ Nat.one_pos))) then
    out0_A_2 c (grid0.coords t) (ms0_0 m hO t) (hs0_0 m hO t) (ms0_1 m hO t) (hs0_1 m hO t) (ms0_2 m hO t) (hs0_2 m hO t) (iblk m hO c 0 t) (iblk m hO c 1 t) (tbl m 0) (tbl m 1) h0
  else
    out0_B_2 c (grid0.coords t) (ms0_0 m hO t) (hs0_0 m hO t) (ms0_1 m hO t) (hs0_1 m hO t) (ms0_2 m hO t) (hs0_2 m hO t) (iblk m hO c 0 t) (iblk m hO c 1 t) (tbl m 0) (tbl m 1) h0

theorem outsAt0_A (hO : Ok m) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) :
    outsAt0 m hO c t = out0_A_2 c (grid0.coords t) (ms0_0 m hO t) (hs0_0 m hO t) (ms0_1 m hO t) (hs0_1 m hO t) (ms0_2 m hO t) (hs0_2 m hO t) (iblk m hO c 0 t) (iblk m hO c 1 t) (tbl m 0) (tbl m 1) h0 := by
  unfold outsAt0; exact (dif_pos h0).trans rfl

theorem outsAt0_B (hO : Ok m) (c : Dev nD) (t : Fin (cfgM m hO).N) (h0 : ¬cond0_0 (grid0.coords t) (tbM0_1.view.readAt (Elt F) (Rect.unit (s := S1) ![0] S1.size inb_S1_S1_0).toLoadRect (tbl m 1) (Shape.Idx.first (numel1_S1.symm ▸ Nat.one_pos)))) :
    outsAt0 m hO c t = out0_B_2 c (grid0.coords t) (ms0_0 m hO t) (hs0_0 m hO t) (ms0_1 m hO t) (hs0_1 m hO t) (ms0_2 m hO t) (hs0_2 m hO t) (iblk m hO c 0 t) (iblk m hO c 1 t) (tbl m 0) (tbl m 1) h0 := by
  unfold outsAt0; exact (dif_neg h0).trans rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => (outsAt0 m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

set_option maxHeartbeats 800000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  by_cases h0 : cond0_0 (grid0.coords t) (tbM0_1.view.readAt (Elt F) (Rect.unit (s := S1) ![0] S1.size inb_S1_S1_0).toLoadRect (tbl m 1) (Shape.Idx.first (numel1_S1.symm ▸ Nat.one_pos)))
  · rw [outsAt0_A m hO c t h0]
    unfold out0_A_2
    iintro ⟨⟨HΦ, ⟨HT0, HT1⟩⟩, Ho, ⟨%d0, H0⟩, ⟨%d1, H1⟩, ⟨%d2, H2⟩⟩
    iapply ((kernelRun0_A c (grid0.coords t) _ _ _ _ _ _ (iblk m hO c 0 t) (iblk m hO c 1 t) (tbl m 0) (tbl m 1) h0).2 Set.univ _)
    isplitl [H0]; · iexact H0
    isplitl [H1]; · iexact H1
    isplitl [H2]; · iexists _; iexact H2
    isplitl [HT0]; · iexact HT0
    isplitl [HT1]; · iexact HT1
    iintro ⟨H0, H1, ⟨%e2, H2⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _ _)
  · rw [outsAt0_B m hO c t h0]
    unfold out0_B_2
    iintro ⟨⟨HΦ, ⟨HT0, HT1⟩⟩, Ho, ⟨%d0, H0⟩, ⟨%d1, H1⟩, ⟨%d2, H2⟩⟩
    iapply ((kernelRun0_B c (grid0.coords t) _ _ _ _ _ _ (iblk m hO c 0 t) (iblk m hO c 1 t) (tbl m 0) (tbl m 1) h0).2 Set.univ _)
    isplitl [H0]; · iexact H0
    isplitl [H1]; · iexact H1
    isplitl [H2]; · iexists _; iexact H2
    isplitl [HT0]; · iexact HT0
    isplitl [HT1]; · iexact HT1
    iintro ⟨H0, H1, ⟨%e2, H2⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ :=
  obligation_of_stored _ (fun w i => idle_all (tbl m) w i) fun t => by
  rw [bigSep_W0, bigSep_W0, defs₀_row m hO]
  exact triple_restated (sound_body m hO c t) rfl .rfl fun _ => .rfl

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Experts.Kernel8Ideal

end
-- ==== Proof.MLstm.Recurrence.lean ====
/-
  The stabilised mLSTM recurrence over the reals, in closed form, and what one chunk of it computes.

  A head's token `s` comes with a log forget gate `f s`, a log input gate `i s`, a key, a value and a query. With
  `F N` the sum of the first `N` log forget gates, token `s` has the potential `a s = i s - F (s + 1)`: its log weight
  in the state after `N` tokens is `F N + a s`. The state after `N` tokens is kept divided by `exp (F N + A N)`, `A N`
  the greatest of the initial stabiliser and the first `N` potentials.
-/
module

public import Mathlib.Analysis.SpecialFunctions.Exp
public import Mathlib.Data.EReal.Operations
public import Mathlib.Algebra.BigOperators.Intervals

@[expose] public section

noncomputable section

namespace MLstm

open Finset

/-- The sum of the first `N` log forget gates. -/
def logF (f : ℕ → ℝ) (N : ℕ) : ℝ := ∑ s ∈ range N, f s

/-- The potential of token `s`. -/
def pot (f i : ℕ → ℝ) (s : ℕ) : ℝ := i s - logF f (s + 1)

/-- The greatest of the initial stabiliser and the first `N` potentials. -/
def top (f i : ℕ → ℝ) (m : ℝ) : ℕ → ℝ
  | 0 => m
  | N + 1 => max (top f i m N) (pot f i N)

/-- The unnormalised state after `N` tokens: the initial state and the tokens' contributions `x`, weighed. -/
def mass (f i : ℕ → ℝ) (m x0 : ℝ) (x : ℕ → ℝ) (N : ℕ) : ℝ :=
  Real.exp m * x0 + ∑ s ∈ range N, Real.exp (pot f i s) * x s

/-- The stabilised state after `N` tokens. -/
def state (f i : ℕ → ℝ) (m x0 : ℝ) (x : ℕ → ℝ) (N : ℕ) : ℝ :=
  Real.exp (-top f i m N) * mass f i m x0 x N

/-- The stabiliser after `N` tokens. -/
def stab (f i : ℕ → ℝ) (m : ℝ) (N : ℕ) : ℝ := logF f N + top f i m N

variable (f i : ℕ → ℝ) (m : ℝ)

theorem logF_zero : logF f 0 = 0 := by simp [logF]

theorem stab_zero : stab f i m 0 = m := by simp [stab, logF_zero, top]

theorem state_zero (x0 : ℝ) (x : ℕ → ℝ) : state f i m x0 x 0 = x0 := by
  simp only [state, mass, top, range_zero, sum_empty, add_zero]
  rw [← mul_assoc, ← Real.exp_add]; simp

/-- The first `N + j` log forget gates: the first `N`, then `j` more. -/
theorem logF_add (N j : ℕ) : logF f (N + j) = logF f N + ∑ r ∈ range j, f (N + r) := by
  simp only [logF, sum_range_add]

/-- The next `j` tokens raise the top to the greatest of it and their potentials. -/
theorem top_add_le_iff (N : ℕ) (z : ℝ) : ∀ j, top f i m (N + j) ≤ z ↔ top f i m N ≤ z ∧ ∀ s < j, pot f i (N + s) ≤ z
  | 0 => by simp
  | j + 1 => by
    rw [← Nat.add_assoc, top, max_le_iff, top_add_le_iff N z j]
    constructor
    · rintro ⟨⟨h1, h2⟩, h3⟩
      refine ⟨h1, fun s hs => ?_⟩
      rcases Nat.lt_succ_iff_lt_or_eq.1 hs with h | h
      · exact h2 s h
      · rw [h]; exact h3
    · rintro ⟨h1, h2⟩
      exact ⟨⟨h1, fun s hs => h2 s (Nat.lt_succ_of_lt hs)⟩, h2 j (Nat.lt_succ_self j)⟩

theorem mass_add (x0 : ℝ) (x : ℕ → ℝ) (N j : ℕ) :
    mass f i m x0 x (N + j) = mass f i m x0 x N + ∑ s ∈ range j, Real.exp (pot f i (N + s)) * x (N + s) := by
  simp only [mass, sum_range_add, add_assoc]

/-- The state `j` tokens later: the state, decayed, and the tokens' contributions. -/
theorem state_add (x0 : ℝ) (x : ℕ → ℝ) (N j : ℕ) :
    state f i m x0 x (N + j) = Real.exp (top f i m N - top f i m (N + j)) * state f i m x0 x N
      + ∑ s ∈ range j, Real.exp (pot f i (N + s) - top f i m (N + j)) * x (N + s) := by
  simp only [state, mass_add, mul_add, mul_sum]
  congr 1
  · rw [← mul_assoc, ← Real.exp_add]; congr 2; ring
  · refine sum_congr rfl fun s _ => ?_
    rw [← mul_assoc, ← Real.exp_add]; congr 2; ring

/-! ## Sums and maxima of extended reals that are real -/

theorem coe_sum {ι : Type*} (S : Finset ι) (g : ι → ℝ) : ((∑ k ∈ S, g k : ℝ) : EReal) = ∑ k ∈ S, (g k : EReal) := by
  classical
  induction S using Finset.induction_on with
  | empty => simp
  | insert a S ha ih => rw [sum_insert ha, sum_insert ha, EReal.coe_add, ih]

theorem fold_max_le_iff {ι : Type*} (S : Finset ι) (b : EReal) (g : ι → EReal) (z : EReal) :
    S.fold max b g ≤ z ↔ b ≤ z ∧ ∀ k ∈ S, g k ≤ z := Finset.fold_max_le z

theorem eq_of_le_iff {a b : EReal} (h : ∀ z, a ≤ z ↔ b ≤ z) : a = b :=
  le_antisymm ((h b).2 le_rfl) ((h a).1 le_rfl)

/-- The top, as an extended real, is bounded by what bounds the earlier top and the potentials between. -/
theorem coe_top_add_le_iff (N j : ℕ) (F : ℝ) (z : EReal) :
    ((F + top f i m (N + j) : ℝ) : EReal) ≤ z
      ↔ ((F + top f i m N : ℝ) : EReal) ≤ z ∧ ∀ s < j, ((F + pot f i (N + s) : ℝ) : EReal) ≤ z := by
  induction z using EReal.rec with
  | bot => simp
  | top => simp
  | coe z =>
    simp only [EReal.coe_le_coe_iff]
    have h := top_add_le_iff f i m N (z - F) j
    constructor
    · intro hz
      obtain ⟨h1, h2⟩ := h.1 (by linarith)
      exact ⟨by linarith, fun s hs => by have := h2 s hs; linarith⟩
    · rintro ⟨h1, h2⟩
      have := h.2 ⟨by linarith, fun s hs => by have := h2 s hs; linarith⟩
      linarith

/-- The stabiliser of a row that sees the first `j` tokens of a chunk of `C`: the tokens past them count `⊥`. -/
theorem max_masked (N C j : ℕ) (hj : j ≤ C) (F : ℝ) (p : EReal) (g : Fin C → EReal)
    (hp : p = ((F + top f i m N : ℝ) : EReal))
    (hg : ∀ s : Fin C, g s = if (s : ℕ) < j then ((F + pot f i (N + s) : ℝ) : EReal) else ⊥) :
    max p ((univ : Finset (Fin C)).fold max ⊥ g) = ((F + top f i m (N + j) : ℝ) : EReal) := by
  refine eq_of_le_iff fun z => ?_
  rw [max_le_iff, fold_max_le_iff, coe_top_add_le_iff, hp]
  constructor
  · rintro ⟨h1, -, h2⟩
    refine ⟨h1, fun s hs => ?_⟩
    have := h2 ⟨s, lt_of_lt_of_le hs hj⟩ (mem_univ _)
    rw [hg] at this
    simpa [hs] using this
  · rintro ⟨h1, h2⟩
    refine ⟨h1, bot_le, fun s _ => ?_⟩
    rw [hg]
    split
    · next h => exact h2 s h
    · exact bot_le

end MLstm

end
-- ==== Proof.MLstm.Chunk.lean ====
/-
  One chunk of the mLSTM recurrence as the two programs compute it, on extended reals that are real numbers.

  A chunk holds the `C` tokens from token `N` on. Each lemma takes what a program computes at one element of one array
  and says which real number of the closed form (`Recurrence.lean`) it is.
-/
module

public import proofs.«01_k».proof.Proof.MLstm.Recurrence
public import Idealize.ShloMosaic.PureOps.Ideal
public import Idealize.ShloMosaic.Lib.IdealHost

@[expose] public section

noncomputable section

namespace MLstm

open Finset Idealize.ShloMosaic

/-! ## Scalar functions at a real number -/

/-- `x · 1 / (1 + e⁻ˣ)`. -/
def silu (x : ℝ) : ℝ := x * (1 + Real.exp (-x))⁻¹

theorem silu_coe (x : ℝ) : (x : EReal) * Ideal.logistic (x : EReal) = (silu x : EReal) := by
  rw [Ideal.logistic_coe, ← EReal.coe_mul]; rfl

theorem coe_max (x y : ℝ) : ((max x y : ℝ) : EReal) = max (x : EReal) (y : EReal) :=
  (EReal.coe_strictMono.monotone).map_max

theorem coe_min (x y : ℝ) : ((min x y : ℝ) : EReal) = min (x : EReal) (y : EReal) :=
  (EReal.coe_strictMono.monotone).map_min

theorem absf_coe (φ : FTy) (x : ℝ) : FloatOps.absf (F := Ideal) (φ := φ) (x : EReal) = ((|x| : ℝ) : EReal) := by
  show max (x : EReal) (-(x : EReal)) = _
  rw [← EReal.coe_neg, ← coe_max]; rfl

theorem div_coe_coe (x y : ℝ) (hy : y ≠ 0) : Ideal.div (x : EReal) (y : EReal) = ((x / y : ℝ) : EReal) := by
  rw [Ideal.div_coe hy, ← EReal.coe_mul, mul_one_div]

theorem log_coe_pos (x : ℝ) (hx : 0 < x) : Ideal.log (x : EReal) = ((Real.log x : ℝ) : EReal) := by
  rw [Ideal.log_coe, if_neg (not_le.2 hx)]

/-- The logarithm of the logistic function. -/
def logSigmoid (x : ℝ) : ℝ := min x 0 - Real.log (1 + Real.exp (-|x|))

theorem log_one_add_exp (y : ℝ) :
    Ideal.log (1 + Ideal.exp (y : EReal)) = ((Real.log (1 + Real.exp y) : ℝ) : EReal) := by
  rw [Ideal.exp_coe, ← EReal.coe_one, ← EReal.coe_add, log_coe_pos _ (by positivity)]

theorem sixteenth : Ideal.ofBits .f32 0x3D800000#32 = ((1 / 16 : ℝ) : EReal) := by
  simp [Ideal.ofBits, Ideal.ieee, -EReal.coe_mul]; norm_num

theorem minus_infinity : Ideal.ofBits .f32 0xFF800000#32 = ⊥ := by
  simp [Ideal.ofBits, Ideal.ieee]

/-! ## A token's weights -/

variable (f i : ℕ → ℝ) (m0 : ℝ)

/-- The forget gates of the chunk up to its token `j`, as a sum over the chunk with the later tokens set to zero. -/
theorem sum_gates (N C j : ℕ) (hj : j < C) :
    (∑ s : Fin C, if (s : ℕ) ≤ j then ((f (N + s) : ℝ) : EReal) else 0)
      = ((logF f (N + j + 1) - logF f N : ℝ) : EReal) := by
  have h : (∑ s : Fin C, if (s : ℕ) ≤ j then f (N + s) else 0) = logF f (N + j + 1) - logF f N := by
    rw [add_assoc, logF_add, add_sub_cancel_left,
      Fin.sum_univ_eq_sum_range (fun s => if s ≤ j then f (N + s) else 0) C, ← sum_filter]
    refine sum_congr ?_ fun _ _ => rfl
    ext s; simp only [mem_filter, mem_range]; omega
  rw [← h, coe_sum]
  refine sum_congr rfl fun s _ => ?_
  split <;> simp

/-- The chunk's forget gates all together. -/
theorem sum_gates_all (N C : ℕ) :
    (∑ s : Fin C, ((f (N + s) : ℝ) : EReal)) = ((logF f (N + C) - logF f N : ℝ) : EReal) := by
  rw [logF_add, add_sub_cancel_left, ← coe_sum, Fin.sum_univ_eq_sum_range (fun s => f (N + s)) C]

/-- A row's stabiliser: the greatest of the earlier state's log weight and the seen tokens' log weights. -/
theorem row_stab (N C j : ℕ) (hj : j < C) (g : Fin C → EReal)
    (hg : ∀ s : Fin C, g s = if (s : ℕ) ≤ j then
      (((logF f (N + j + 1) - logF f N) - (logF f (N + s + 1) - logF f N) + i (N + s) : ℝ) : EReal) else ⊥) :
    max (((logF f (N + j + 1) - logF f N) + stab f i m0 N : ℝ) : EReal) ((univ : Finset (Fin C)).fold max ⊥ g)
      = ((stab f i m0 (N + j + 1) : ℝ) : EReal) := by
  rw [max_masked f i m0 N C (j + 1) hj (logF f (N + j + 1)) _ g
    (by congr 1; simp only [stab]; ring) (fun s => ?_)]
  · rfl
  · rw [hg]
    by_cases h : (s : ℕ) ≤ j
    · rw [if_pos h, if_pos (Nat.lt_succ_of_le h)]; congr 1; simp only [pot]; ring
    · rw [if_neg h, if_neg (by omega)]

/-- The chunk's new stabiliser. -/
theorem chunk_stab (N C : ℕ) (g : Fin C → EReal)
    (hg : ∀ s : Fin C, g s =
      (((logF f (N + C) - logF f N) - (logF f (N + s + 1) - logF f N) + i (N + s) : ℝ) : EReal)) :
    max (((logF f (N + C) - logF f N) + stab f i m0 N : ℝ) : EReal) ((univ : Finset (Fin C)).fold max ⊥ g)
      = ((stab f i m0 (N + C) : ℝ) : EReal) := by
  rw [max_masked f i m0 N C C le_rfl (logF f (N + C)) _ g
    (by congr 1; simp only [stab]; ring) (fun s => ?_)]
  · rfl
  · rw [hg, if_pos s.2]; congr 1; simp only [pot]; ring

/-- What is left of the earlier state `j` tokens on. -/
theorem exp_prev (N j : ℕ) :
    Ideal.exp ((((logF f (N + j) - logF f N) + stab f i m0 N : ℝ) : EReal) - ((stab f i m0 (N + j) : ℝ) : EReal))
      = ((Real.exp (top f i m0 N - top f i m0 (N + j)) : ℝ) : EReal) := by
  rw [← EReal.coe_sub, Ideal.exp_coe]; congr 2; simp only [stab]; ring

/-- A seen token's weight `j` tokens on. -/
theorem exp_weight (N j s : ℕ) :
    Ideal.exp ((((logF f (N + j) - logF f N) - (logF f (N + s + 1) - logF f N) + i (N + s) : ℝ) : EReal)
        - ((stab f i m0 (N + j) : ℝ) : EReal))
      = ((Real.exp (pot f i (N + s) - top f i m0 (N + j)) : ℝ) : EReal) := by
  rw [← EReal.coe_sub, Ideal.exp_coe]; congr 2; simp only [stab, pot]; ring

/-! ## The state after the chunk -/

/-- An entry of the new state: the decayed entry and the chunk's weighed contributions. -/
theorem chunk_state (N C : ℕ) (x0 : ℝ) (x : ℕ → ℝ) (d : EReal) (y : Fin C → EReal)
    (hd : d = ((Real.exp (top f i m0 N - top f i m0 (N + C)) : ℝ) : EReal))
    (hy : ∀ s : Fin C, y s = ((Real.exp (pot f i (N + s) - top f i m0 (N + C)) * x (N + s) : ℝ) : EReal)) :
    d * ((state f i m0 x0 x N : ℝ) : EReal) + ∑ s : Fin C, y s = ((state f i m0 x0 x (N + C) : ℝ) : EReal) := by
  rw [state_add, hd, EReal.coe_add, EReal.coe_mul,
    ← Fin.sum_univ_eq_sum_range (fun s => Real.exp (pot f i (N + s) - top f i m0 (N + C)) * x (N + s)) C, coe_sum]
  congr 1
  exact sum_congr rfl fun s _ => hy s

/-! ## A row of the output -/

/-- The output of the layer at token `t`: the state that has seen the token, read by the query `q`, over the greater
    of the normaliser's magnitude and `e` to minus the stabiliser. -/
def output {ι : Type} [Fintype ι] (c0 n0 : ι → ℝ) (k q : ℕ → ι → ℝ) (v : ℕ → ℝ) (t : ℕ) : ℝ :=
  (∑ x, q t x * state f i m0 (c0 x) (fun s => k s x * v s) (t + 1))
    / max |∑ x, q t x * state f i m0 (n0 x) (fun s => k s x) (t + 1)| (Real.exp (-stab f i m0 (t + 1)))

/-- A sum over the first `j + 1` tokens as one over the chunk with the later ones set to zero. -/
theorem sum_seen (C j : ℕ) (hj : j < C) (g : ℕ → ℝ) :
    (∑ s ∈ range (j + 1), g s) = ∑ s : Fin C, if (s : ℕ) ≤ j then g s else 0 := by
  rw [Fin.sum_univ_eq_sum_range (fun s => if s ≤ j then g s else 0) C, ← sum_filter]
  refine sum_congr ?_ fun _ _ => rfl
  ext s; simp only [mem_filter, mem_range]; omega

/-- The query against the state at a row: the earlier state and the seen tokens, by their scores. -/
theorem row_read {ι : Type} [Fintype ι] (N C j : ℕ) (hj : j < C) (x0 : ι → ℝ) (k : ℕ → ι → ℝ) (q : ι → ℝ) (v : ℕ → ℝ)
    (p : EReal) (A : EReal) (y : Fin C → EReal)
    (hp : p = ((Real.exp (top f i m0 N - top f i m0 (N + j + 1)) : ℝ) : EReal))
    (hA : A = ((∑ x, q x * state f i m0 (x0 x) (fun s => k s x * v s) N : ℝ) : EReal))
    (hy : ∀ s : Fin C, y s = if (s : ℕ) ≤ j then
      (((∑ x, q x * k (N + s) x) * Real.exp (pot f i (N + s) - top f i m0 (N + j + 1)) * v (N + s) : ℝ) : EReal) else 0) :
    p * A + ∑ s : Fin C, y s
      = ((∑ x, q x * state f i m0 (x0 x) (fun s => k s x * v s) (N + j + 1) : ℝ) : EReal) := by
  have h : (∑ x, q x * state f i m0 (x0 x) (fun s => k s x * v s) (N + j + 1))
      = Real.exp (top f i m0 N - top f i m0 (N + j + 1)) * (∑ x, q x * state f i m0 (x0 x) (fun s => k s x * v s) N)
        + ∑ s : Fin C, if (s : ℕ) ≤ j then
            (∑ x, q x * k (N + s) x) * Real.exp (pot f i (N + s) - top f i m0 (N + j + 1)) * v (N + s) else 0 := by
    rw [← sum_seen C j hj
      (fun s => (∑ x, q x * k (N + s) x) * Real.exp (pot f i (N + s) - top f i m0 (N + j + 1)) * v (N + s))]
    simp only [add_assoc N j 1, state_add, mul_add, sum_add_distrib, mul_sum, sum_mul]
    congr 1
    · exact sum_congr rfl fun x _ => by ring
    · rw [sum_comm]
      exact sum_congr rfl fun s _ => sum_congr rfl fun x _ => by ring
  rw [h, EReal.coe_add, EReal.coe_mul, hp, hA]
  congr 1
  rw [coe_sum]
  refine sum_congr rfl fun s _ => ?_
  rw [hy]
  split <;> simp

/-- An output entry: the state's reading over the guarded normaliser. -/
theorem row_output {ι : Type} [Fintype ι] (c0 n0 : ι → ℝ) (k q : ℕ → ι → ℝ) (v : ℕ → ℝ) (t : ℕ) (num den mt : EReal)
    (hnum : num = ((∑ x, q t x * state f i m0 (c0 x) (fun s => k s x * v s) (t + 1) : ℝ) : EReal))
    (hden : den = ((∑ x, q t x * state f i m0 (n0 x) (fun s => k s x) (t + 1) : ℝ) : EReal))
    (hmt : mt = ((-stab f i m0 (t + 1) : ℝ) : EReal)) :
    Ideal.div num (max (FloatOps.absf (F := Ideal) (φ := .f32) den) (Ideal.exp mt))
      = ((output f i m0 c0 n0 k q v t : ℝ) : EReal) := by
  rw [hnum, hden, hmt, absf_coe, Ideal.exp_coe, ← coe_max, div_coe_coe]
  · rfl
  · exact ne_of_gt (lt_of_lt_of_le (Real.exp_pos _) (le_max_right _ _))

end MLstm

end
-- ==== Proof.MLstm.Layer.lean ====
/-
  The mLSTM layer's forward direction as real functions of its arguments: gates, short convolution, keys, queries,
  values, and, per batch element and head, the recurrence of `Recurrence.lean` over its 4096 tokens.
-/
module

public import proofs.«01_k».proof.Proof.MLstm.Chunk

@[expose] public section

noncomputable section

namespace MLstm

open Finset

/-- The layer's arguments as real numbers, addressed by natural numbers: the projections `p` (batch, token, column),
    the gate projections `g` and their bias `gb`, the short convolution's taps `cw` (tap, column) and bias `cb`, and the
    initial states (batch, head, …). -/
structure Inputs where
  p : ℕ → ℕ → ℕ → ℝ
  g : ℕ → ℕ → ℕ → ℝ
  gb : ℕ → ℝ
  cw : ℕ → ℕ → ℝ
  cb : ℕ → ℝ
  c0 : ℕ → ℕ → ℕ → ℕ → ℝ
  n0 : ℕ → ℕ → ℕ → ℝ
  m0 : ℕ → ℕ → ℝ

variable (I : Inputs) (b h : ℕ)

/-- The log input gate of a token. -/
def gateI (t : ℕ) : ℝ := I.g b t h + I.gb h

/-- The log forget gate of a token. -/
def gateF (t : ℕ) : ℝ := logSigmoid (I.g b t (8 + h) + I.gb (8 + h))

/-- The short convolution of column `pc` of `p` with column `wc` of the taps, over rows of 64 tokens: a row's ends see
    zero outside. -/
def conv (pc wc t : ℕ) : ℝ :=
  I.cb wc + (if t % 64 = 0 then 0 else I.cw 0 wc * I.p b (t - 1) pc) + I.cw 1 wc * I.p b t pc
    + (if t % 64 = 63 then 0 else I.cw 2 wc * I.p b (t + 1) pc)

/-- The key of a token, entry `e`. -/
def key (t : ℕ) (e : Fin 256) : ℝ := silu (conv I b (3072 + (256 * h + e)) (256 * h + e) t) * (1 / 16)

/-- The query of a token, entry `e`. -/
def query (t : ℕ) (e : Fin 256) : ℝ := silu (conv I b (9216 + (256 * h + e)) (2048 + (256 * h + e)) t)

/-- The value of a token, entry `e`. -/
def val (t : ℕ) (e : ℕ) : ℝ := I.p b t (5120 + (256 * h + e))

/-- The forget gates of the first `N` tokens. -/
def gF (N : ℕ) : ℝ := logF (gateF I b h) N

/-- The stabiliser after `N` tokens. -/
def mAt (N : ℕ) : ℝ := stab (gateF I b h) (gateI I b h) (I.m0 b h) N

/-- The memory after `N` tokens, entry (`x`, `e`). -/
def cAt (N : ℕ) (x : Fin 256) (e : ℕ) : ℝ :=
  state (gateF I b h) (gateI I b h) (I.m0 b h) (I.c0 b h x e) (fun s => key I b h s x * val I b h s e) N

/-- The normaliser after `N` tokens, entry `x`. -/
def nAt (N : ℕ) (x : Fin 256) : ℝ :=
  state (gateF I b h) (gateI I b h) (I.m0 b h) (I.n0 b h x) (fun s => key I b h s x) N

/-- The output at token `t`, entry `e`. -/
def hAt (t : ℕ) (e : ℕ) : ℝ :=
  output (gateF I b h) (gateI I b h) (I.m0 b h) (fun x : Fin 256 => I.c0 b h x e) (fun x => I.n0 b h x) (key I b h)
    (query I b h) (fun s => val I b h s e) t

end MLstm

end
-- ==== Proof.MLstm.KernelBlock.lean ====
/-
  What the kernel's body computes at one grid point, on blocks that hold real numbers: keys, queries, gates, the output
  rows and the three state blocks, each the layer's real function at the chunk's tokens.
-/
module

public import proofs.«01_k».proof.Proof.MLstm.Layer
public import proofs.«01_k».proof.Proof.Gen.KernelIdeal.Value
public import Idealize.ShloMosaic.Lib.Pipeline.ValueKit
public import Idealize.ShloMosaic.Lib.Pointwise

@[expose] public section

set_option maxRecDepth 16384

noncomputable section

namespace MLstm

open Idealize.ShloMosaic Cert.KernelIdeal Cert.KernelIdeal.Gen

/-- The input blocks of the chunk that starts at token `N` of batch element `b`, head `h`. -/
structure Blocks (I : Inputs) (b h N : ℕ) (xk xv xq : Vec Ideal S1x256x256 .bf16) (xg : Vec Ideal S1x1x8x256 .f32)
    (wk wq : Vec Ideal S1x3x256 .f32) (bk bq : Vec Ideal S1x1x256 .f32) : Prop where
  start : N % 64 = 0
  k : ∀ a e : Fin 256, xk (ix3 0 a e) = ((I.p b (N + a) (3072 + (256 * h + e)) : ℝ) : EReal)
  v : ∀ a e : Fin 256, xv (ix3 0 a e) = ((val I b h (N + a) e : ℝ) : EReal)
  q : ∀ a e : Fin 256, xq (ix3 0 a e) = ((I.p b (N + a) (9216 + (256 * h + e)) : ℝ) : EReal)
  gi : ∀ a : Fin 256, xg (ix4 0 0 0 a) = ((gateI I b h (N + a) : ℝ) : EReal)
  gf : ∀ a : Fin 256, xg (ix4 0 0 1 a) = ((I.g b (N + a) (8 + h) + I.gb (8 + h) : ℝ) : EReal)
  wk : ∀ (j : Fin 3) (e : Fin 256), wk (ix3 0 j e) = ((I.cw j (256 * h + e) : ℝ) : EReal)
  bk : ∀ e : Fin 256, bk (ix3 0 0 e) = ((I.cb (256 * h + e) : ℝ) : EReal)
  wq : ∀ (j : Fin 3) (e : Fin 256), wq (ix3 0 j e) = ((I.cw j (2048 + (256 * h + e)) : ℝ) : EReal)
  bq : ∀ e : Fin 256, bq (ix3 0 0 e) = ((I.cb (2048 + (256 * h + e)) : ℝ) : EReal)

/-- The state blocks after `N` tokens. -/
structure States (I : Inputs) (b h N : ℕ) (c : Vec Ideal S1x1x256x256 .f32) (n : Vec Ideal S1x1x1x256 .f32)
    (m : Vec Ideal S1x1x8x128 .f32) : Prop where
  c : ∀ x e : Fin 256, c (ix4 0 0 x e) = ((cAt I b h N x e : ℝ) : EReal)
  n : ∀ x : Fin 256, n (ix4 0 0 0 x) = ((nAt I b h N x : ℝ) : EReal)
  m : m (ix4 0 0 0 0) = ((mAt I b h N : ℝ) : EReal)

/-! ## Words and constants -/

theorem sle_word (a x : ℕ) (ha : a < 256) (hx : x < 256) :
    IntOp.cmpi CmpIPredicate.sle (BitVec.ofNat 32 x) (BitVec.ofNat 32 a) = if x ≤ a then 1#1 else 0#1 := by
  have h : (BitVec.ofNat 32 x).sle (BitVec.ofNat 32 a) = decide (x ≤ a) := by
    rw [BitVec.sle_eq_decide, BitVec.toInt_eq_toNat_of_lt (by simp; omega), BitVec.toInt_eq_toNat_of_lt (by simp; omega)]
    simp only [BitVec.toNat_ofNat, decide_eq_decide]; omega
  show BitVec.ofBool _ = _
  rw [h]; by_cases hh : x ≤ a <;> simp [hh]

theorem eq_word (a x : ℕ) (ha : a < 256) (hx : x < 256) :
    IntOp.cmpi CmpIPredicate.eq (BitVec.ofNat 32 a) (BitVec.ofNat 32 x) = if x = a then 1#1 else 0#1 := by
  have h : (BitVec.ofNat 32 a == BitVec.ofNat 32 x) = decide (x = a) := by
    rw [Bool.eq_iff_iff, beq_iff_eq, decide_eq_true_iff, ← BitVec.toNat_inj]
    simp only [BitVec.toNat_ofNat]; omega
  show BitVec.ofBool _ = _
  rw [h]; by_cases hh : x = a <;> simp [hh]

theorem select_ite {α : Type} (p : Prop) [Decidable p] (A B : α) :
    Scalar.select (if p then 1#1 else 0#1) A B = if p then A else B := by
  by_cases h : p <;> simp [h, Scalar.select]

/-- The causal mask's word at a row and a column. -/
theorem mask_apply (a x : Fin 256) : k0_pay10 (ix2 a x) = if (x : ℕ) ≤ a then 1#1 else 0#1 := by
  pointwise [k0_pay10]
  exact sle_word _ _ a.2 x.2

theorem first_apply (a : Fin 256) :
    IntOp.cmpi CmpIPredicate.eq (k0_pay19 (ix2 a 0)) 0#32 = if (a : ℕ) % 64 = 0 then 1#1 else 0#1 := by
  pointwise [k0_pay19]
  revert a
  decide +kernel

theorem last_apply (a : Fin 256) :
    IntOp.cmpi CmpIPredicate.eq (k0_pay19 (ix2 a 0)) 63#32 = if (a : ℕ) % 64 = 63 then 1#1 else 0#1 := by
  pointwise [k0_pay19]
  revert a
  decide +kernel

/-- The keys of the chunk, as the body computes them. -/
def keys (xk : Vec Ideal S1x256x256 .bf16) (wk : Vec Ideal S1x3x256 .f32) (bk : Vec Ideal S1x1x256 .f32) :
    FVec Ideal S256x256 .f32 :=
  k0_pay24 k0_pay19 (k0_pay20 xk) (k0_pay21 wk) k0_pay22 (k0_pay23 xk) (FloatOps.ofBits FTy.f32 0#32) bk

/-- The queries of the chunk, as the body computes them. -/
def queries (xq : Vec Ideal S1x256x256 .bf16) (wq : Vec Ideal S1x3x256 .f32) (bq : Vec Ideal S1x1x256 .f32) :
    FVec Ideal S256x256 .f32 :=
  k0_pay30 k0_pay19 (k0_pay26 xq) (k0_pay27 wq) (k0_pay28 xq) (FloatOps.ofBits FTy.f32 0#32) (k0_pay29 k0_pay19) bq

/-- The queries at the products' width. -/
def queries16 (xq : Vec Ideal S1x256x256 .bf16) (wq : Vec Ideal S1x3x256 .f32) (bq : Vec Ideal S1x1x256 .f32) :
    FVec Ideal S256x256 .bf16 :=
  k0_pay33 k0_pay19 (k0_pay26 xq) (k0_pay27 wq) (k0_pay28 xq) (FloatOps.ofBits FTy.f32 0#32) (k0_pay29 k0_pay19) bq

/-- The queries as the body writes them out. -/
def queriesOut (xq : Vec Ideal S1x256x256 .bf16) (wq : Vec Ideal S1x3x256 .f32) (bq : Vec Ideal S1x1x256 .f32) :
    FVec Ideal S1x256x256 .bf16 :=
  k0_pay32 k0_pay19 (k0_pay26 xq) (k0_pay27 wq) (k0_pay28 xq) (FloatOps.ofBits FTy.f32 0#32) (k0_pay29 k0_pay19) bq

variable {I : Inputs} {b h N : ℕ} {xk xv xq : Vec Ideal S1x256x256 .bf16} {xg : Vec Ideal S1x1x8x256 .f32}
  {wk wq : Vec Ideal S1x3x256 .f32} {bk bq : Vec Ideal S1x1x256 .f32} {c : Vec Ideal S1x1x256x256 .f32}
  {n : Vec Ideal S1x1x1x256 .f32} {m : Vec Ideal S1x1x8x128 .f32}

/-! ## Gates -/

section
variable (B : Blocks I b h N xk xv xq xg wk wq bk bq)
include B

theorem irow_apply (e : Fin 256) : k0_pay8 xg (ix2 0 e) = ((gateI I b h (N + e) : ℝ) : EReal) := by
  pointwise [k0_pay8, k0_pay7]
  exact B.gi e

theorem frow_apply (e : Fin 256) : k0_pay9 xg (ix2 0 e) = ((gateF I b h (N + e) : ℝ) : EReal) := by
  pointwise [k0_pay9, k0_pay7]
  rw [B.gf, absf_coe, zero_sub, ← EReal.coe_neg, log_one_add_exp, ← EReal.coe_zero, ← coe_min, ← EReal.coe_sub]
  rfl

theorem brow_apply (e : Fin 256) :
    k0_pay11 xg (ix2 0 e) = ((gF I b h (N + e + 1) - gF I b h N : ℝ) : EReal) := by
  pointwise [k0_pay11]
  rw [gF, gF, ← sum_gates (gateF I b h) N 256 e e.2]
  refine Finset.sum_congr rfl fun x _ => ?_
  rw [frow_apply B, sle_word _ _ e.2 x.2]
  by_cases hx : (x : ℕ) ≤ e
  · rw [if_pos hx, if_pos hx]
    have : FloatOps.sitofp (F := Ideal) FTy.f32 (BitVec.setWidth 32 1#1) = (1 : EReal) := by
      show (((BitVec.setWidth 32 1#1).toInt : ℝ) : EReal) = 1
      simp
    rw [this, mul_one]
  · rw [if_neg hx, if_neg hx]
    have : FloatOps.sitofp (F := Ideal) FTy.f32 (BitVec.setWidth 32 0#1) = (0 : EReal) := by
      show (((BitVec.setWidth 32 0#1).toInt : ℝ) : EReal) = 0
      simp
    rw [this, mul_zero]

theorem bcol_apply (a : Fin 256) :
    k0_pay12 xg (ix2 a 0) = ((gF I b h (N + a + 1) - gF I b h N : ℝ) : EReal) := by
  pointwise [k0_pay12]
  rw [gF, gF, ← sum_gates (gateF I b h) N 256 a a.2]
  refine Finset.sum_congr rfl fun x _ => ?_
  rw [frow_apply B, mask_apply, select_ite]

theorem icol_apply (a : Fin 256) : k0_pay13 xg (ix2 a 0) = ((gateI I b h (N + a) : ℝ) : EReal) := by
  pointwise [k0_pay13]
  rw [Finset.sum_eq_single a]
  · rw [eq_word _ _ a.2 a.2, select_ite, if_pos rfl, irow_apply B]
  · intro x _ hx
    rw [eq_word _ _ a.2 x.2, select_ite, if_neg (fun h => hx (Fin.ext h))]
  · intro h; exact absurd (Finset.mem_univ _) h

theorem bend_apply : k0_pay15 (k0_pay14 xg) (ix2 0 0) = ((gF I b h (N + 256) - gF I b h N : ℝ) : EReal) := by
  pointwise [k0_pay15, k0_pay14]
  rw [gF, gF, ← sum_gates_all]
  exact Finset.sum_congr rfl fun x _ => frow_apply B x

/-! ## Keys, queries, values -/

theorem conv_apply (w0 w1 w2 bb : EReal) (a : Fin 256) (pc wc : ℕ)
    (hb : bb = ((I.cb wc : ℝ) : EReal)) (h0 : w0 = ((I.cw 0 wc : ℝ) : EReal)) (h1 : w1 = ((I.cw 1 wc : ℝ) : EReal))
    (h2 : w2 = ((I.cw 2 wc : ℝ) : EReal)) (y : Fin 256 → EReal)
    (hy : ∀ a : Fin 256, y a = ((I.p b (N + a) pc : ℝ) : EReal)) :
    bb + Scalar.select (IntOp.cmpi CmpIPredicate.eq (k0_pay19 (ix2 a 0)) 0#32) 0
        (w0 * y ⟨((a : ℕ) + 256 - 1) % 256, Nat.mod_lt _ (by decide)⟩)
      + w1 * y a + Scalar.select (IntOp.cmpi CmpIPredicate.eq (k0_pay19 (ix2 a 0)) 63#32) 0
        (w2 * y ⟨((a : ℕ) + 256 - 255) % 256, Nat.mod_lt _ (by decide)⟩)
      = ((conv I b pc wc (N + a) : ℝ) : EReal) := by
  have hs := B.start
  have ha := a.2
  rw [first_apply, last_apply, select_ite, select_ite, hb, h0, h1, h2, hy, hy, hy, conv]
  have e1 : (if (a : ℕ) % 64 = 0 then (0 : EReal) else
        ((I.cw 0 wc : ℝ) : EReal) * ((I.p b (N + ((a : ℕ) + 256 - 1) % 256) pc : ℝ) : EReal))
      = (((if (N + a) % 64 = 0 then 0 else I.cw 0 wc * I.p b (N + a - 1) pc) : ℝ) : EReal) := by
    by_cases h : (a : ℕ) % 64 = 0
    · rw [if_pos h, if_pos (by omega), EReal.coe_zero]
    · rw [if_neg h, if_neg (by omega), show N + ((a : ℕ) + 256 - 1) % 256 = N + a - 1 by omega, EReal.coe_mul]
  have e2 : (if (a : ℕ) % 64 = 63 then (0 : EReal) else
        ((I.cw 2 wc : ℝ) : EReal) * ((I.p b (N + ((a : ℕ) + 256 - 255) % 256) pc : ℝ) : EReal))
      = (((if (N + a) % 64 = 63 then 0 else I.cw 2 wc * I.p b (N + a + 1) pc) : ℝ) : EReal) := by
    by_cases h : (a : ℕ) % 64 = 63
    · rw [if_pos h, if_pos (by omega), EReal.coe_zero]
    · rw [if_neg h, if_neg (by omega), show N + ((a : ℕ) + 256 - 255) % 256 = N + a + 1 by omega, EReal.coe_mul]
  rw [EReal.coe_add, EReal.coe_add, EReal.coe_add, EReal.coe_mul, ← e1, ← e2]

theorem key_apply (a e : Fin 256) :
    keys xk wk bk (ix2 a e)
      = ((key I b h (N + a) e : ℝ) : EReal) := by
  unfold keys
  pointwise [k0_pay24, k0_pay20, k0_pay21, k0_pay22, k0_pay23]
  have hc := conv_apply B _ _ _ _ a (3072 + (256 * h + e)) (256 * h + e) (B.bk e) (B.wk 0 e) (B.wk 1 e) (B.wk 2 e)
    (fun r => xk (ix3 0 r e)) (fun r => B.k r e)
  rw [hc, silu_coe, sixteenth, ← EReal.coe_mul]
  rfl

theorem query_apply (a e : Fin 256) :
    queries xq wq bq
      (ix2 a e) = ((query I b h (N + a) e : ℝ) : EReal) := by
  unfold queries
  pointwise [k0_pay30, k0_pay26, k0_pay27, k0_pay28, k0_pay29]
  have hc := conv_apply B _ _ _ _ a (9216 + (256 * h + e)) (2048 + (256 * h + e)) (B.bq e) (B.wq 0 e) (B.wq 1 e) (B.wq 2 e)
    (fun r => xq (ix3 0 r e)) (fun r => B.q r e)
  rw [hc, silu_coe]
  rfl

theorem value_apply (a e : Fin 256) : k0_pay25 xv (ix2 a e) = ((val I b h (N + a) e : ℝ) : EReal) := by
  pointwise [k0_pay25]
  exact B.v a e

/-- The keys the kernel writes out. -/
theorem keys_block (a e : Fin 256) :
    k0_pay31 (keys xk wk bk)
      (ix3 0 a e) = ((key I b h (N + a) e : ℝ) : EReal) := by
  pointwise [k0_pay31]
  exact key_apply B a e

/-- The queries the kernel writes out. -/
theorem queries_block (a e : Fin 256) :
    queriesOut xq wq bq (ix3 0 a e) = ((query I b h (N + a) e : ℝ) : EReal) := by
  have hq := query_apply B a e
  unfold queries at hq
  unfold queriesOut
  generalize FloatOps.ofBits (F := Ideal) FTy.f32 0#32 = z at hq ⊢
  pointwise [k0_pay32]
  exact hq

end

/-! ## The new state -/

section
variable (B : Blocks I b h N xk xv xq xg wk wq bk bq) (S : States I b h N c n m)
include B

theorem logw_apply (a : Fin 256) :
    k0_pay38 (k0_pay12 xg) (k0_pay13 xg) (k0_pay15 (k0_pay14 xg)) (ix2 a 0)
      = ((((gF I b h (N + 256) - gF I b h N) - (gF I b h (N + a + 1) - gF I b h N) + gateI I b h (N + a) : ℝ)) : EReal) := by
  pointwise [k0_pay38]
  rw [bend_apply B, bcol_apply B, icol_apply B, ← EReal.coe_sub, ← EReal.coe_add]

include S

theorem stab_prev : k0_pay16 m (ix2 0 0) = ((mAt I b h N : ℝ) : EReal) := by
  pointwise [k0_pay16]
  exact S.m

theorem endlog_apply :
    k0_pay39 (k0_pay15 (k0_pay14 xg)) (k0_pay16 m) (ix2 0 0)
      = (((gF I b h (N + 256) - gF I b h N) + mAt I b h N : ℝ) : EReal) := by
  pointwise [k0_pay39]
  rw [bend_apply B, stab_prev B S, ← EReal.coe_add]

theorem mnew_apply :
    k0_pay1 (k0_pay38 (k0_pay12 xg) (k0_pay13 xg) (k0_pay15 (k0_pay14 xg)))
      (k0_pay39 (k0_pay15 (k0_pay14 xg)) (k0_pay16 m)) (ix2 0 0) = ((mAt I b h (N + 256) : ℝ) : EReal) := by
  pointwise [k0_pay1]
  rw [endlog_apply B S, minus_infinity]
  exact chunk_stab _ _ _ N 256 _ fun s => logw_apply B s

theorem decay_apply :
    k0_pay2 (k0_pay15 (k0_pay14 xg)) (k0_pay16 m) (k0_pay38 (k0_pay12 xg) (k0_pay13 xg) (k0_pay15 (k0_pay14 xg)))
      (k0_pay39 (k0_pay15 (k0_pay14 xg)) (k0_pay16 m)) (ix2 0 0)
      = ((Real.exp (top (gateF I b h) (gateI I b h) (I.m0 b h) N
          - top (gateF I b h) (gateI I b h) (I.m0 b h) (N + 256)) : ℝ) : EReal) := by
  pointwise [k0_pay2]
  rw [mnew_apply B S, bend_apply B, stab_prev B S, ← EReal.coe_add]
  exact exp_prev _ _ _ N 256

theorem wkey_apply (a e : Fin 256) :
    k0_pay3 (keys xk wk bk)
      (k0_pay38 (k0_pay12 xg) (k0_pay13 xg) (k0_pay15 (k0_pay14 xg)))
      (k0_pay39 (k0_pay15 (k0_pay14 xg)) (k0_pay16 m)) (ix2 a e)
      = ((Real.exp (pot (gateF I b h) (gateI I b h) (N + a)
          - top (gateF I b h) (gateI I b h) (I.m0 b h) (N + 256)) * key I b h (N + a) e : ℝ) : EReal) := by
  pointwise [k0_pay3]
  rw [mnew_apply B S, key_apply B, logw_apply B, EReal.coe_mul]
  congr 1
  exact exp_weight _ _ _ N 256 a

/-- The state blocks the kernel leaves are the states after the chunk. -/
theorem states_block : States I b h (N + 256)
    (k0_pay4 (k0_pay15 (k0_pay14 xg)) (k0_pay16 m) (k0_pay17 c)
      (keys xk wk bk)
      (k0_pay25 xv) (k0_pay38 (k0_pay12 xg) (k0_pay13 xg) (k0_pay15 (k0_pay14 xg)))
      (k0_pay39 (k0_pay15 (k0_pay14 xg)) (k0_pay16 m)))
    (k0_pay5 (k0_pay15 (k0_pay14 xg)) (k0_pay16 m) (k0_pay18 n)
      (keys xk wk bk)
      (k0_pay38 (k0_pay12 xg) (k0_pay13 xg) (k0_pay15 (k0_pay14 xg)))
      (k0_pay39 (k0_pay15 (k0_pay14 xg)) (k0_pay16 m)))
    (k0_pay6 (k0_pay38 (k0_pay12 xg) (k0_pay13 xg) (k0_pay15 (k0_pay14 xg)))
      (k0_pay39 (k0_pay15 (k0_pay14 xg)) (k0_pay16 m))) where
  c x e := by
    pointwise [k0_pay4, k0_pay17]
    rw [S.c]
    refine chunk_state _ _ _ N 256 _ (fun s => key I b h s x * val I b h s e) _ _ (decay_apply B S) fun s => ?_
    rw [wkey_apply B S, value_apply B, ← EReal.coe_mul, mul_assoc]
  n x := by
    pointwise [k0_pay5, k0_pay18]
    rw [S.n]
    exact chunk_state _ _ _ N 256 _ (fun s => key I b h s x) _ _ (decay_apply B S) fun s => wkey_apply B S s x
  m := by
    pointwise [k0_pay6]
    exact mnew_apply B S

/-- The stabiliser's block holds the new stabiliser at every place. -/
theorem stab_block (r : Fin 8) (l : Fin 128) :
    k0_pay6 (k0_pay38 (k0_pay12 xg) (k0_pay13 xg) (k0_pay15 (k0_pay14 xg)))
      (k0_pay39 (k0_pay15 (k0_pay14 xg)) (k0_pay16 m)) (ix4 0 0 r l) = ((mAt I b h (N + 256) : ℝ) : EReal) := by
  pointwise [k0_pay6]
  exact mnew_apply B S

/-! ## The output rows -/

theorem logd_apply (a x : Fin 256) :
    k0_pay34 (k0_pay8 xg) (k0_pay11 xg) (k0_pay12 xg) (ix2 a x)
      = (((gF I b h (N + a + 1) - gF I b h N) - (gF I b h (N + x + 1) - gF I b h N) + gateI I b h (N + x) : ℝ) : EReal) := by
  pointwise [k0_pay34]
  rw [bcol_apply B, brow_apply B, irow_apply B, ← EReal.coe_sub, ← EReal.coe_add]

theorem logprev_apply (a : Fin 256) :
    k0_pay35 (k0_pay12 xg) (k0_pay16 m) (ix2 a 0)
      = (((gF I b h (N + a + 1) - gF I b h N) + mAt I b h N : ℝ) : EReal) := by
  pointwise [k0_pay35]
  rw [bcol_apply B, stab_prev B S, ← EReal.coe_add]

theorem masked_apply (a x : Fin 256) :
    k0_pay36 (k0_pay8 xg) k0_pay10 (k0_pay11 xg) (k0_pay12 xg) (ix2 a x)
      = if (x : ℕ) ≤ a then
        (((gF I b h (N + a + 1) - gF I b h N) - (gF I b h (N + x + 1) - gF I b h N) + gateI I b h (N + x) : ℝ) : EReal)
        else ⊥ := by
  pointwise [k0_pay36]
  rw [mask_apply, select_ite, logd_apply B S]
  rfl

theorem rowstab_apply (a : Fin 256) :
    max (k0_pay35 (k0_pay12 xg) (k0_pay16 m) (ix2 a 0))
      (Finset.fold max (Ideal.ofBits FTy.f32 4286578688#32)
        (fun x => k0_pay36 (k0_pay8 xg) k0_pay10 (k0_pay11 xg) (k0_pay12 xg) (ix2 a x)) Finset.univ)
      = ((mAt I b h (N + a + 1) : ℝ) : EReal) := by
  rw [logprev_apply B S, minus_infinity]
  exact row_stab _ _ _ N 256 a a.2 _ fun s => masked_apply B S a s

/-- The output rows the kernel writes are the layer's outputs at the chunk's tokens. -/
theorem output_block (a e : Fin 256) :
    k0_pay37 k0_pay10 (k0_pay12 xg) (k0_pay16 m) (k0_pay17 c) (k0_pay18 n)
      (keys xk wk bk)
      (k0_pay25 xv)
      (queries xq wq bq)
      (queries16 xq wq bq)
      (k0_pay34 (k0_pay8 xg) (k0_pay11 xg) (k0_pay12 xg)) (k0_pay35 (k0_pay12 xg) (k0_pay16 m))
      (k0_pay36 (k0_pay8 xg) k0_pay10 (k0_pay11 xg) (k0_pay12 xg)) (ix3 0 a e)
      = ((hAt I b h (N + a) e : ℝ) : EReal) := by
  have hq : ∀ x : Fin 256, queries16 xq wq bq (ix2 a x) = ((query I b h (N + a) x : ℝ) : EReal) := fun x => by
    have hx := query_apply B a x
    unfold queries at hx
    unfold queries16
    generalize FloatOps.ofBits (F := Ideal) FTy.f32 0#32 = z at hx ⊢
    pointwise [k0_pay33]
    exact hx
  have hc : ∀ x : Fin 256, k0_pay17 c (ix2 x e) = ((cAt I b h N x e : ℝ) : EReal) := fun x => by
    pointwise [k0_pay17]; exact S.c x e
  have hn : ∀ x : Fin 256, k0_pay18 n (ix2 0 x) = ((nAt I b h N x : ℝ) : EReal) := fun x => by
    pointwise [k0_pay18]; exact S.n x
  have hp : Ideal.exp (k0_pay12 xg (ix2 a 0) + k0_pay16 m (ix2 0 0) - ((mAt I b h (N + a + 1) : ℝ) : EReal))
      = ((Real.exp (top (gateF I b h) (gateI I b h) (I.m0 b h) N
          - top (gateF I b h) (gateI I b h) (I.m0 b h) (N + a + 1)) : ℝ) : EReal) := by
    rw [bcol_apply B, stab_prev B S, ← EReal.coe_add]
    exact exp_prev _ _ _ N (a + 1)
  have hw : ∀ x : Fin 256, Ideal.exp (k0_pay34 (k0_pay8 xg) (k0_pay11 xg) (k0_pay12 xg) (ix2 a x)
        - ((mAt I b h (N + a + 1) : ℝ) : EReal))
      = ((Real.exp (pot (gateF I b h) (gateI I b h) (N + x)
          - top (gateF I b h) (gateI I b h) (I.m0 b h) (N + a + 1)) : ℝ) : EReal) := fun x => by
    rw [logd_apply B S]
    exact exp_weight _ _ _ N (a + 1) x
  have hqk : ∀ x : Fin 256, (∑ y : Fin 256, ((query I b h (N + a) y : ℝ) : EReal) * ((key I b h (N + x) y : ℝ) : EReal))
      = ((∑ y : Fin 256, query I b h (N + a) y * key I b h (N + x) y : ℝ) : EReal) := fun x => by
    simp only [← EReal.coe_mul, coe_sum]
  have hk := key_apply B
  have hQ := query_apply B
  have hv := value_apply B
  have hr := rowstab_apply B S a
  pointwise [k0_pay37]
  simp only [hr, hp, mask_apply, select_ite, hq, hc, hn, hQ, hk, hv, hqk]
  refine row_output _ _ _ _ _ _ _ _ _ _ _ _ ?_ ?_ ?_
  · refine row_read _ _ _ N 256 a a.2 _ _ _ _ _ _ _ rfl ?_ fun s => ?_
    · simp only [← EReal.coe_mul, coe_sum]; rfl
    · by_cases hs : (s : ℕ) ≤ a
      · rw [if_pos hs, if_pos hs, if_pos hs, hw, ← EReal.coe_mul, ← EReal.coe_mul]
      · rw [if_neg hs, if_neg hs]
  · have := row_read (gateF I b h) (gateI I b h) (I.m0 b h) N 256 a a.2 (fun x : Fin 256 => I.n0 b h x) (key I b h)
      (query I b h (N + a)) (fun _ => 1)
    simp only [mul_one] at this
    refine this _ _ _ rfl ?_ fun s => ?_
    · simp only [← EReal.coe_mul, coe_sum]; rfl
    · by_cases hs : (s : ℕ) ≤ a
      · rw [if_pos hs, if_pos hs, if_pos hs, hw, ← EReal.coe_mul]
      · rw [if_neg hs, if_neg hs]
  · rw [zero_sub, ← EReal.coe_neg]; rfl

end

end MLstm

end
-- ==== Proof.MLstm.KernelArgs.lean ====
/-
  What the kernel's blocks hold at a grid point. Point `t` of the 512 works on batch element `t / 128`, head
  `t / 16 % 8` and the chunk of 256 tokens that starts at `256 * (t % 16)`.
-/
module

public import proofs.«01_k».proof.Proof.MLstm.KernelBlock
public import Idealize.ShloMosaic.Lib.Claim
public import Idealize.ShloMosaic.Lib.StableHlo.ReadAt

@[expose] public section

set_option maxRecDepth 16384

noncomputable section

namespace MLstm

open Cert.KernelIdeal Cert.KernelIdeal.Gen Idealize.ShloMosaic Idealize.ShloMosaic.TcCoe Idealize.SL.Sem

/-- The eight argument arrays hold the real numbers `I`. -/
structure Args (I : Inputs) (x0 : Vec Ideal S4x4096x28672 .bf16) (x1 : Vec Ideal S4x4096x128 .f32) (x2 : Vec Ideal S32 .f32)
    (x3 : Vec Ideal S2x3x4096 .f32) (x4 : Vec Ideal S2x4096 .f32) (x5 : Vec Ideal S4x8x256x256 .f32)
    (x6 : Vec Ideal S4x8x1x256 .f32) (x7 : Vec Ideal S4x8x8x128 .f32) : Prop where
  p : ∀ (b : Fin 4) (t : Fin 4096) (j : Fin 28672), x0 (ix3 b t j) = ((I.p b t j : ℝ) : EReal)
  g : ∀ (b : Fin 4) (t : Fin 4096) (j : Fin 128), x1 (ix3 b t j) = ((I.g b t j : ℝ) : EReal)
  gb : ∀ j : Fin 32, x2 (ix1 j) = ((I.gb j : ℝ) : EReal)
  cw : ∀ (j : Fin 3) (e : Fin 4096), x3 (ix3 0 j e) = ((I.cw j e : ℝ) : EReal)
  cb : ∀ e : Fin 4096, x4 (ix2 0 e) = ((I.cb e : ℝ) : EReal)
  c0 : ∀ (b : Fin 4) (h : Fin 8) (x e : Fin 256), x5 (ix4 b h x e) = ((I.c0 b h x e : ℝ) : EReal)
  n0 : ∀ (b : Fin 4) (h : Fin 8) (x : Fin 256), x6 (ix4 b h 0 x) = ((I.n0 b h x : ℝ) : EReal)
  m0 : ∀ (b : Fin 4) (h : Fin 8), x7 (ix4 b h 0 0) = ((I.m0 b h : ℝ) : EReal)

variable (m : (ℓ : Loc nD τ sig) → Buf (Elt Ideal) ℓ) (c : Dev nD)

/-- The gate rows the host prepares: row `r` is gate `r` of every head, with its bias. -/
theorem gate_rows (b : Fin 4) (h : Fin 8) (r : Fin 2) (a : Fin 4096) :
    V m c main_v6 (ix4 b h (⟨r, by omega⟩ : Fin 8) a : S4x8x8x4096.Idx)
      = (show EReal from m ((c : Thread nD τ).loc main_arg1) (ix3 b a (⟨8 * r + h, by omega⟩ : Fin 128) : S4x4096x128.Idx))
        + (show EReal from m ((c : Thread nD τ).loc main_arg2) (ix1 (⟨8 * r + h, by omega⟩ : Fin 32) : S32.Idx)) := by
  unfold V
  simp only [hostOps0, hostOps0_1, hostOps0_2, List.flatten_cons, List.flatten_nil, List.append_nil, List.cons_append,
    List.nil_append]
  obtain rfl | rfl : r = 0 ∨ r = 1 := by omega
  · have e1 : (⟨8 * ((0 : Fin 2) : ℕ) + (h : ℕ), by omega⟩ : Fin 128) = ⟨h, by omega⟩ := Fin.ext (by simp)
    have e2 : (⟨8 * ((0 : Fin 2) : ℕ) + (h : ℕ), by omega⟩ : Fin 32) = ⟨h, by omega⟩ := Fin.ext (by simp)
    rw [e1, e2]
    after_reads_at
  · have e1 : (⟨8 * ((1 : Fin 2) : ℕ) + (h : ℕ), by omega⟩ : Fin 128) = ⟨8 + h, by omega⟩ := Fin.ext (by simp)
    have e2 : (⟨8 * ((1 : Fin 2) : ℕ) + (h : ℕ), by omega⟩ : Fin 32) = ⟨8 + h, by omega⟩ := Fin.ext (by simp)
    rw [e1, e2]
    after_reads_at

/-- The convolution's bias with a row axis. -/
theorem bias_row (a : Fin 4096) :
    V m c main_v7 (ix3 0 0 a : S2x1x4096.Idx)
      = m ((c : Thread nD τ).loc main_arg4) (ix2 (0 : Fin 2) a : S2x4096.Idx) := by
  unfold V
  simp only [hostOps0, hostOps0_1, hostOps0_2, List.flatten_cons, List.flatten_nil, List.append_nil, List.cons_append,
    List.nil_append]
  after_reads_at

theorem index_in : ∀ t : Fin cfg0.N,
    win0_0.index t = ![t.val / 128, t.val % 16, 12 + t.val / 16 % 8]
    ∧ win0_1.index t = ![t.val / 128, t.val % 16, 20 + t.val / 16 % 8]
    ∧ win0_2.index t = ![t.val / 128, t.val % 16, 36 + t.val / 16 % 8]
    ∧ win0_3.index t = ![t.val / 128, t.val / 16 % 8, 0, t.val % 16]
    ∧ win0_4.index t = ![0, 0, t.val / 16 % 8] ∧ win0_5.index t = ![0, 0, t.val / 16 % 8]
    ∧ win0_6.index t = ![0, 0, 8 + t.val / 16 % 8] ∧ win0_7.index t = ![0, 0, 8 + t.val / 16 % 8] :=
  (by decide +kernel : ∀ t : Fin grid0.N, _)

theorem index_state : ∀ t : Fin cfg0.N,
    win0_8.index t = ![t.val / 128, t.val / 16 % 8, 0, 0] ∧ win0_9.index t = ![t.val / 128, t.val / 16 % 8, 0, 0]
    ∧ win0_10.index t = ![t.val / 128, t.val / 16 % 8, 0, 0] :=
  (by decide +kernel : ∀ t : Fin grid0.N, _)

theorem points (t : Fin cfg0.N) : t.val < 512 := t.isLt

variable {I : Inputs}
  (A : Args I (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)))

include A

/-- The gate rows of a grid point. -/
theorem gates_at (t : Fin cfg0.N) (r : Fin 2) (a : Fin 256) :
    iblk m c 3 t (ix4 0 0 (⟨r, by omega⟩ : Fin 8) a : S1x1x8x256.Idx)
      = ((I.g (t.val / 128) (256 * (t.val % 16) + a) (8 * r + t.val / 16 % 8) + I.gb (8 * r + t.val / 16 % 8) : ℝ) : EReal) := by
  have ht := points t
  have i3 := (index_in t).2.2.2.1
  have hemb : (win0_3.blk t).view.emb (ix4 0 0 (⟨r, by omega⟩ : Fin 8) a : S1x1x8x256.Idx)
      = (ix4 (⟨t.val / 128, by omega⟩ : Fin 4) (⟨t.val / 16 % 8, by omega⟩ : Fin 8) (⟨r, by omega⟩ : Fin 8)
        (⟨256 * (t.val % 16) + a, by omega⟩ : Fin 4096) : S4x8x8x4096.Idx) := by blk_ext [i3]
  have h : iblk m c 3 t (ix4 0 0 (⟨r, by omega⟩ : Fin 8) a : S1x1x8x256.Idx)
      = V m c main_v6 ((win0_3.blk t).view.emb (ix4 0 0 (⟨r, by omega⟩ : Fin 8) a)) := by
    blk_simp [iblk]
  rw [h, hemb, gate_rows]
  dsimp only
  rw [A.g, A.gb, ← EReal.coe_add]

/-- The bias blocks of a grid point: the keys' columns and the queries'. -/
theorem bias_at (t : Fin cfg0.N) (e : Fin 256) :
    iblk m c 5 t (ix3 0 0 e : S1x1x256.Idx) = ((I.cb (256 * (t.val / 16 % 8) + e) : ℝ) : EReal)
    ∧ iblk m c 7 t (ix3 0 0 e : S1x1x256.Idx) = ((I.cb (2048 + (256 * (t.val / 16 % 8) + e)) : ℝ) : EReal) := by
  have ht := points t
  obtain ⟨-, -, -, -, -, i5, -, i7⟩ := index_in t
  constructor
  · have hemb : (win0_5.blk t).view.emb (ix3 0 0 e : S1x1x256.Idx)
        = (ix3 0 0 (⟨256 * (t.val / 16 % 8) + e, by omega⟩ : Fin 4096) : S2x1x4096.Idx) := by blk_ext [i5]
    have h : iblk m c 5 t (ix3 0 0 e : S1x1x256.Idx) = V m c main_v7 ((win0_5.blk t).view.emb (ix3 0 0 e)) := by
      blk_simp [iblk]
    rw [h, hemb, bias_row, A.cb]
  · have hemb : (win0_7.blk t).view.emb (ix3 0 0 e : S1x1x256.Idx)
        = (ix3 0 0 (⟨2048 + (256 * (t.val / 16 % 8) + e), by omega⟩ : Fin 4096) : S2x1x4096.Idx) := by blk_ext [i7]
    have h : iblk m c 7 t (ix3 0 0 e : S1x1x256.Idx) = V m c main_v7 ((win0_7.blk t).view.emb (ix3 0 0 e)) := by
      blk_simp [iblk]
    rw [h, hemb, bias_row, A.cb]

/-- The input blocks of a grid point. -/
theorem blocks_at (t : Fin cfg0.N) :
    Blocks I (t.val / 128) (t.val / 16 % 8) (256 * (t.val % 16)) (iblk m c 0 t) (iblk m c 1 t) (iblk m c 2 t)
      (iblk m c 3 t) (iblk m c 4 t) (iblk m c 6 t) (iblk m c 5 t) (iblk m c 7 t) := by
  have ht := points t
  obtain ⟨i0, i1, i2, -, i4, -, i6, -⟩ := index_in t
  refine ⟨by omega, fun a e => ?_, fun a e => ?_, fun a e => ?_, fun a => ?_, fun a => ?_, fun j e => ?_,
    fun e => (bias_at m c A t e).1, fun j e => ?_, fun e => (bias_at m c A t e).2⟩
  · have h : iblk m c 0 t (ix3 0 a e : S1x256x256.Idx) = m ((c : Thread nD τ).loc main_arg0)
        (ix3 (⟨t.val / 128, by omega⟩ : Fin 4) (⟨256 * (t.val % 16) + a, by omega⟩ : Fin 4096)
          (⟨3072 + (256 * (t.val / 16 % 8) + e), by omega⟩ : Fin 28672) : S4x4096x28672.Idx) := by
      blk_ext [iblk, V, i0]
    rw [h, A.p]
  · have h : iblk m c 1 t (ix3 0 a e : S1x256x256.Idx) = m ((c : Thread nD τ).loc main_arg0)
        (ix3 (⟨t.val / 128, by omega⟩ : Fin 4) (⟨256 * (t.val % 16) + a, by omega⟩ : Fin 4096)
          (⟨5120 + (256 * (t.val / 16 % 8) + e), by omega⟩ : Fin 28672) : S4x4096x28672.Idx) := by
      blk_ext [iblk, V, i1]
    rw [h, A.p]; rfl
  · have h : iblk m c 2 t (ix3 0 a e : S1x256x256.Idx) = m ((c : Thread nD τ).loc main_arg0)
        (ix3 (⟨t.val / 128, by omega⟩ : Fin 4) (⟨256 * (t.val % 16) + a, by omega⟩ : Fin 4096)
          (⟨9216 + (256 * (t.val / 16 % 8) + e), by omega⟩ : Fin 28672) : S4x4096x28672.Idx) := by
      blk_ext [iblk, V, i2]
    rw [h, A.p]
  · refine (gates_at m c A t 0 a).trans ?_
    rw [show 8 * ((0 : Fin 2) : ℕ) + t.val / 16 % 8 = t.val / 16 % 8 from Nat.zero_add _]; rfl
  · exact gates_at m c A t 1 a
  · have h : iblk m c 4 t (ix3 0 j e : S1x3x256.Idx) = m ((c : Thread nD τ).loc main_arg3)
        (ix3 (0 : Fin 2) j (⟨256 * (t.val / 16 % 8) + e, by omega⟩ : Fin 4096) : S2x3x4096.Idx) := by
      blk_ext [iblk, V, i4]
    rw [h, A.cw]
  · have h : iblk m c 6 t (ix3 0 j e : S1x3x256.Idx) = m ((c : Thread nD τ).loc main_arg3)
        (ix3 (0 : Fin 2) j (⟨2048 + (256 * (t.val / 16 % 8) + e), by omega⟩ : Fin 4096) : S2x3x4096.Idx) := by
      blk_ext [iblk, V, i6]
    rw [h, A.cw]

/-- The initial states' blocks. -/
theorem initial_at (t : Fin cfg0.N) :
    States I (t.val / 128) (t.val / 16 % 8) 0 (iblk m c 8 t) (iblk m c 9 t) (iblk m c 10 t) := by
  have ht := points t
  obtain ⟨i8, i9, i10⟩ := index_state t
  refine ⟨fun x e => ?_, fun x => ?_, ?_⟩
  · have h : iblk m c 8 t (ix4 0 0 x e : S1x1x256x256.Idx) = m ((c : Thread nD τ).loc main_arg5)
        (ix4 (⟨t.val / 128, by omega⟩ : Fin 4) (⟨t.val / 16 % 8, by omega⟩ : Fin 8) x e : S4x8x256x256.Idx) := by
      blk_ext [iblk, V, i8]
    rw [h, A.c0, cAt, state_zero]
  · have h : iblk m c 9 t (ix4 0 0 0 x : S1x1x1x256.Idx) = m ((c : Thread nD τ).loc main_arg6)
        (ix4 (⟨t.val / 128, by omega⟩ : Fin 4) (⟨t.val / 16 % 8, by omega⟩ : Fin 8) 0 x : S4x8x1x256.Idx) := by
      blk_ext [iblk, V, i9]
    rw [h, A.n0, nAt, state_zero]
  · have h : iblk m c 10 t (ix4 0 0 0 0 : S1x1x8x128.Idx) = m ((c : Thread nD τ).loc main_arg7)
        (ix4 (⟨t.val / 128, by omega⟩ : Fin 4) (⟨t.val / 16 % 8, by omega⟩ : Fin 8) 0 0 : S4x8x8x128.Idx) := by
      blk_ext [iblk, V, i10]
    rw [h, A.m0, mAt, stab_zero]

end MLstm

end
-- ==== Proof.MLstm.KernelArrays.lean ====
/-
  The six arrays the kernel leaves, entry by entry: outputs, keys and queries of every token and the states after the last.
-/
module

public import proofs.«01_k».proof.Proof.MLstm.KernelArgs
public import Idealize.ShloMosaic.Lib.Pipeline.ValueKit
public import Idealize.ShloMosaic.Lib.Pipeline.Covers

@[expose] public section

set_option maxRecDepth 16384

noncomputable section

namespace MLstm

open Cert.KernelIdeal Cert.KernelIdeal.Gen Idealize.ShloMosaic Idealize.ShloMosaic.TcCoe Idealize.SL.Sem

theorem index_out : ∀ t : Fin cfg0.N,
    win0_11.index t = ![t.val / 128, t.val % 16, t.val / 16 % 8] ∧ win0_12.index t = ![t.val / 128, t.val % 16, t.val / 16 % 8]
    ∧ win0_13.index t = ![t.val / 128, t.val % 16, t.val / 16 % 8] ∧ win0_14.index t = ![t.val / 128, t.val / 16 % 8, 0, 0]
    ∧ win0_15.index t = ![t.val / 128, t.val / 16 % 8, 0, 0] ∧ win0_16.index t = ![t.val / 128, t.val / 16 % 8, 0, 0] :=
  (by decide +kernel : ∀ t : Fin grid0.N, _)

variable (m : (ℓ : Loc nD τ sig) → Buf (Elt Ideal) ℓ) (c : Dev nD) {I : Inputs}
  (A : Args I (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)))

/-- What a grid point leaves in its six output blocks. -/
structure Outs (I : Inputs) (b h N : ℕ) (o k q : Vec Ideal S1x256x256 .bf16) (c : Vec Ideal S1x1x256x256 .f32)
    (n : Vec Ideal S1x1x1x256 .f32) (m : Vec Ideal S1x1x8x128 .f32) : Prop where
  o : ∀ a e : Fin 256, o (ix3 0 a e) = ((hAt I b h (N + a) e : ℝ) : EReal)
  k : ∀ a e : Fin 256, k (ix3 0 a e) = ((key I b h (N + a) e : ℝ) : EReal)
  q : ∀ a e : Fin 256, q (ix3 0 a e) = ((query I b h (N + a) e : ℝ) : EReal)
  s : States I b h (N + 256) c n m
  m : ∀ (r : Fin 8) (l : Fin 128), m (ix4 0 0 r l) = ((mAt I b h (N + 256) : ℝ) : EReal)

include A

/-- Every grid point leaves its chunk's outputs, keys, queries and the states after its chunk. -/
theorem outs_at (n : ℕ) (hn : n < cfg0.N) :
    Outs I (n / 128) (n / 16 % 8) (256 * (n % 16)) (outsAt0 m c n hn).1 (outsAt0 m c n hn).2.1 (outsAt0 m c n hn).2.2.1
      (outsAt0 m c n hn).2.2.2.1 (outsAt0 m c n hn).2.2.2.2.1 (outsAt0 m c n hn).2.2.2.2.2 := by
  induction n with
  | zero =>
    have B := blocks_at m c A ⟨0, hn⟩
    have S := initial_at m c A ⟨0, hn⟩
    have hA := outsAt0_A m c ⟨0, hn⟩ rfl
    rw [hA]
    frame_out
    exact ⟨fun a e => output_block B S a e, fun a e => keys_block B a e, fun a e => queries_block B a e, states_block B S,
      fun r l => stab_block B S r l⟩
  | succ n ih =>
    have B := blocks_at m c A ⟨n + 1, hn⟩
    by_cases h0 : (n + 1) % 16 = 0
    · have S := initial_at m c A ⟨n + 1, hn⟩
      have hA := outsAt0_A m c ⟨n + 1, hn⟩ h0
      rw [hA]
      frame_out
      dsimp only at B S
      have hz : 256 * ((n + 1) % 16) = 0 := by rw [h0]
      rw [hz] at B ⊢
      exact ⟨fun a e => output_block B S a e, fun a e => keys_block B a e, fun a e => queries_block B a e, states_block B S,
        fun r l => stab_block B S r l⟩
    · have S := (ih (by omega)).s
      have hB := outsAt0_B m c ⟨n + 1, hn⟩ h0
      rw [hB]
      frame_out
      dsimp only at B
      have e1 : n / 128 = (n + 1) / 128 := by omega
      have e2 : n / 16 % 8 = (n + 1) / 16 % 8 := by omega
      have e3 : 256 * (n % 16) + 256 = 256 * ((n + 1) % 16) := by omega
      rw [e1, e2, e3] at S
      exact ⟨fun a e => output_block B S a e, fun a e => keys_block B a e, fun a e => queries_block B a e, states_block B S,
        fun r l => stab_block B S r l⟩

omit A

/-- Head and entry of a column of the outputs, keys and queries. -/
def hd (j : Fin 2048) : ℕ := j / 256

/-- Entry within its head of a column. -/
def en (j : Fin 2048) : Fin 256 := ⟨j % 256, Nat.mod_lt _ (by decide)⟩

/-- The outputs of every token. -/
def resO (I : Inputs) : Vec Ideal S4x4096x2048 .bf16 := fun i => ((hAt I (i 0).val (hd (i 2)) (i 1).val (en (i 2)) : ℝ) : EReal)

/-- The keys of every token. -/
def resK (I : Inputs) : Vec Ideal S4x4096x2048 .bf16 := fun i => ((key I (i 0).val (hd (i 2)) (i 1).val (en (i 2)) : ℝ) : EReal)

/-- The queries of every token. -/
def resQ (I : Inputs) : Vec Ideal S4x4096x2048 .bf16 := fun i => ((query I (i 0).val (hd (i 2)) (i 1).val (en (i 2)) : ℝ) : EReal)

/-- The memory after the last token. -/
def resC (I : Inputs) : Vec Ideal S4x8x256x256 .f32 := fun i => ((cAt I (i 0).val (i 1).val 4096 (i 2) (i 3).val : ℝ) : EReal)

/-- The normaliser after the last token. -/
def resN (I : Inputs) : Vec Ideal S4x8x1x256 .f32 := fun i => ((nAt I (i 0).val (i 1).val 4096 (i 3) : ℝ) : EReal)

/-- The stabiliser after the last token, at every place of its tile. -/
def resM (I : Inputs) : Vec Ideal S4x8x8x128 .f32 := fun i => ((mAt I (i 0).val (i 1).val 4096 : ℝ) : EReal)

/-- The states are written back only after a head's last chunk. -/
theorem last_chunk : ∀ t : Fin cfg0.N,
    ((cfg0.win 14).flush t = true → t.val % 16 = 15) ∧ ((cfg0.win 15).flush t = true → t.val % 16 = 15)
    ∧ ((cfg0.win 16).flush t = true → t.val % 16 = 15) :=
  (by decide +kernel : ∀ t : Fin grid0.N, _)

theorem hd_at (h : ℕ) (e : Fin 256) (hh : 256 * h + e < 2048) : hd ⟨256 * h + e, hh⟩ = h := by
  show (256 * h + e) / 256 = h; omega

theorem en_at (h : ℕ) (e : Fin 256) (hh : 256 * h + e < 2048) : en ⟨256 * h + e, hh⟩ = e :=
  Fin.ext (by show (256 * h + e) % 256 = e; omega)

include A

/-- The kernel's array of outputs. -/
theorem array_o : (dats m 0 c).arrAt 11 cfg0.N = resO I := by
  refine (dats m 0 c).arrAt_eq_of_covers 11 _ (by decide +kernel) fun t hf y => ?_
  blk_simp
  rw [after0_11]
  obtain ⟨x0, x1, x2, rfl⟩ : ∃ (x0 : Fin 1) (x1 x2 : Fin 256), y = ix3 x0 x1 x2 := ⟨y 0, y 1, y 2, by blk_ext⟩
  obtain rfl : x0 = 0 := Subsingleton.elim _ _
  have ht := points t
  have i := (index_out t).1
  have hemb : (win0_11.blk t).view.emb (ix3 0 x1 x2 : S1x256x256.Idx)
      = (ix3 (⟨t.val / 128, by omega⟩ : Fin 4) (⟨256 * (t.val % 16) + x1, by omega⟩ : Fin 4096)
        (⟨256 * (t.val / 16 % 8) + x2, by omega⟩ : Fin 2048) : S4x4096x2048.Idx) := by blk_ext [i]
  refine ((outs_at m c A t.val t.isLt).o x1 x2).trans ?_
  rw [hemb]
  show _ = ((hAt I (t.val / 128) (hd ⟨_, _⟩) (256 * (t.val % 16) + x1) (en ⟨_, _⟩) : ℝ) : EReal)
  rw [hd_at, en_at]

/-- The kernel's array of keys. -/
theorem array_k : (dats m 0 c).arrAt 12 cfg0.N = resK I := by
  refine (dats m 0 c).arrAt_eq_of_covers 12 _ (by decide +kernel) fun t hf y => ?_
  blk_simp
  rw [after0_12]
  obtain ⟨x0, x1, x2, rfl⟩ : ∃ (x0 : Fin 1) (x1 x2 : Fin 256), y = ix3 x0 x1 x2 := ⟨y 0, y 1, y 2, by blk_ext⟩
  obtain rfl : x0 = 0 := Subsingleton.elim _ _
  have ht := points t
  have i := (index_out t).2.1
  have hemb : (win0_12.blk t).view.emb (ix3 0 x1 x2 : S1x256x256.Idx)
      = (ix3 (⟨t.val / 128, by omega⟩ : Fin 4) (⟨256 * (t.val % 16) + x1, by omega⟩ : Fin 4096)
        (⟨256 * (t.val / 16 % 8) + x2, by omega⟩ : Fin 2048) : S4x4096x2048.Idx) := by blk_ext [i]
  refine ((outs_at m c A t.val t.isLt).k x1 x2).trans ?_
  rw [hemb]
  show _ = ((key I (t.val / 128) (hd ⟨_, _⟩) (256 * (t.val % 16) + x1) (en ⟨_, _⟩) : ℝ) : EReal)
  rw [hd_at, en_at]

/-- The kernel's array of queries. -/
theorem array_q : (dats m 0 c).arrAt 13 cfg0.N = resQ I := by
  refine (dats m 0 c).arrAt_eq_of_covers 13 _ (by decide +kernel) fun t hf y => ?_
  blk_simp
  rw [after0_13]
  obtain ⟨x0, x1, x2, rfl⟩ : ∃ (x0 : Fin 1) (x1 x2 : Fin 256), y = ix3 x0 x1 x2 := ⟨y 0, y 1, y 2, by blk_ext⟩
  obtain rfl : x0 = 0 := Subsingleton.elim _ _
  have ht := points t
  have i := (index_out t).2.2.1
  have hemb : (win0_13.blk t).view.emb (ix3 0 x1 x2 : S1x256x256.Idx)
      = (ix3 (⟨t.val / 128, by omega⟩ : Fin 4) (⟨256 * (t.val % 16) + x1, by omega⟩ : Fin 4096)
        (⟨256 * (t.val / 16 % 8) + x2, by omega⟩ : Fin 2048) : S4x4096x2048.Idx) := by blk_ext [i]
  refine ((outs_at m c A t.val t.isLt).q x1 x2).trans ?_
  rw [hemb]
  show _ = ((query I (t.val / 128) (hd ⟨_, _⟩) (256 * (t.val % 16) + x1) (en ⟨_, _⟩) : ℝ) : EReal)
  rw [hd_at, en_at]

/-- The kernel's array of memories. -/
theorem array_c : (dats m 0 c).arrAt 14 cfg0.N = resC I := by
  refine (dats m 0 c).arrAt_eq_of_covers 14 _ (by decide +kernel) fun t hf y => ?_
  have hl := (last_chunk t).1 hf
  blk_simp
  rw [after0_14]
  obtain ⟨x0, x1, x2, x3, rfl⟩ : ∃ (x0 x1 : Fin 1) (x2 x3 : Fin 256), y = ix4 x0 x1 x2 x3 :=
    ⟨y 0, y 1, y 2, y 3, by blk_ext⟩
  obtain rfl : x0 = 0 := Subsingleton.elim _ _
  obtain rfl : x1 = 0 := Subsingleton.elim _ _
  have ht := points t
  have i := (index_out t).2.2.2.1
  have hemb : (win0_14.blk t).view.emb (ix4 0 0 x2 x3 : S1x1x256x256.Idx)
      = (ix4 (⟨t.val / 128, by omega⟩ : Fin 4) (⟨t.val / 16 % 8, by omega⟩ : Fin 8) x2 x3 : S4x8x256x256.Idx) := by
    blk_ext [i]
  refine ((outs_at m c A t.val t.isLt).s.c x2 x3).trans ?_
  rw [hemb, hl]
  rfl

/-- The kernel's array of normalisers. -/
theorem array_n : (dats m 0 c).arrAt 15 cfg0.N = resN I := by
  refine (dats m 0 c).arrAt_eq_of_covers 15 _ (by decide +kernel) fun t hf y => ?_
  have hl := (last_chunk t).2.1 hf
  blk_simp
  rw [after0_15]
  obtain ⟨x0, x1, x2, x3, rfl⟩ : ∃ (x0 x1 x2 : Fin 1) (x3 : Fin 256), y = ix4 x0 x1 x2 x3 :=
    ⟨y 0, y 1, y 2, y 3, by blk_ext⟩
  obtain rfl : x0 = 0 := Subsingleton.elim _ _
  obtain rfl : x1 = 0 := Subsingleton.elim _ _
  obtain rfl : x2 = 0 := Subsingleton.elim _ _
  have ht := points t
  have i := (index_out t).2.2.2.2.1
  have hemb : (win0_15.blk t).view.emb (ix4 0 0 0 x3 : S1x1x1x256.Idx)
      = (ix4 (⟨t.val / 128, by omega⟩ : Fin 4) (⟨t.val / 16 % 8, by omega⟩ : Fin 8) 0 x3 : S4x8x1x256.Idx) := by
    blk_ext [i]
  refine ((outs_at m c A t.val t.isLt).s.n x3).trans ?_
  rw [hemb, hl]
  rfl

/-- The kernel's array of stabilisers. -/
theorem array_m : (dats m 0 c).arrAt 16 cfg0.N = resM I := by
  refine (dats m 0 c).arrAt_eq_of_covers 16 _ (by decide +kernel) fun t hf y => ?_
  have hl := (last_chunk t).2.2 hf
  blk_simp
  rw [after0_16]
  obtain ⟨x0, x1, x2, x3, rfl⟩ : ∃ (x0 x1 : Fin 1) (x2 : Fin 8) (x3 : Fin 128), y = ix4 x0 x1 x2 x3 :=
    ⟨y 0, y 1, y 2, y 3, by blk_ext⟩
  obtain rfl : x0 = 0 := Subsingleton.elim _ _
  obtain rfl : x1 = 0 := Subsingleton.elim _ _
  have ht := points t
  have i := (index_out t).2.2.2.2.2
  have hemb : (win0_16.blk t).view.emb (ix4 0 0 x2 x3 : S1x1x8x128.Idx)
      = (ix4 (⟨t.val / 128, by omega⟩ : Fin 4) (⟨t.val / 16 % 8, by omega⟩ : Fin 8) x2 x3 : S4x8x8x128.Idx) := by
    blk_ext [i]
  refine ((outs_at m c A t.val t.isLt).m x2 x3).trans ?_
  rw [hemb, hl]
  rfl

end MLstm

end
-- ==== Proof.MLstm.RefWords.lean ====
/-
  What the reference's scan starts from: the chunks of 64 tokens of keys, values, gates and queries, the causal mask and
  the initial states, as real functions of the arguments.
-/
module

public import proofs.«01_k».proof.Proof.Gen.ReferenceIdeal.Run
public import proofs.«01_k».proof.Proof.MLstm.KernelArgs

@[expose] public section

set_option maxRecDepth 16384

noncomputable section

namespace MLstm.Ref

open Cert.ReferenceIdeal Cert.ReferenceIdeal.Gen Cert.ReferenceIdeal.Value Idealize.ShloMosaic Idealize.ShloMosaic.TcCoe
  Idealize.SL.Sem Idealize.ShloMosaic.StableHlo

/-- Where a token stands in its row of 64 decides which of its neighbours the convolution sees, and where they are. -/
theorem row_cases (T : ℕ) (hT : T < 4096) :
    (T % 64 = 0 → (T / 64 < 64 ∧ 1 ≤ T % 64 ∧ T % 64 - 1 < 64) = False ∧ (T / 64 < 64 ∧ T % 64 < 64) = True
      ∧ (T / 64 < 64 ∧ 1 ≤ 2 + T % 64 ∧ 2 + T % 64 - 1 < 64) = True
      ∧ T / 64 * 64 + T % 64 = T ∧ T / 64 * 64 + (2 + T % 64 - 1) = T + 1)
    ∧ (T % 64 = 63 → (T / 64 < 64 ∧ 1 ≤ T % 64 ∧ T % 64 - 1 < 64) = True ∧ (T / 64 < 64 ∧ T % 64 < 64) = True
      ∧ (T / 64 < 64 ∧ 1 ≤ 2 + T % 64 ∧ 2 + T % 64 - 1 < 64) = False
      ∧ T / 64 * 64 + (T % 64 - 1) = T - 1 ∧ T / 64 * 64 + T % 64 = T)
    ∧ (¬T % 64 = 0 → ¬T % 64 = 63 → (T / 64 < 64 ∧ 1 ≤ T % 64 ∧ T % 64 - 1 < 64) = True ∧ (T / 64 < 64 ∧ T % 64 < 64) = True
      ∧ (T / 64 < 64 ∧ 1 ≤ 2 + T % 64 ∧ 2 + T % 64 - 1 < 64) = True
      ∧ T / 64 * 64 + (T % 64 - 1) = T - 1 ∧ T / 64 * 64 + T % 64 = T ∧ T / 64 * 64 + (2 + T % 64 - 1) = T + 1) := by
  simp only [eq_iff_iff, iff_true, iff_false]
  omega

theorem word_zero : (FloatOps.sitofp (F := Ideal) FTy.f32 (0#32)) = (0 : EReal) := by
  show (((0#32 : BitVec 32).toInt : ℝ) : EReal) = 0
  simp

variable (I : Inputs) (b pc wc T : ℕ)

/-- The convolution at a row's first token. -/
theorem sum_first (h : T % 64 = 0) :
    ((I.cb wc : ℝ) : EReal) + ((I.cw 1 wc : ℝ) : EReal) * ((I.p b T pc : ℝ) : EReal)
      + ((I.cw 2 wc : ℝ) : EReal) * ((I.p b (T + 1) pc : ℝ) : EReal) = ((conv I b pc wc T : ℝ) : EReal) := by
  rw [← EReal.coe_mul, ← EReal.coe_mul, ← EReal.coe_add, ← EReal.coe_add, conv, if_pos h, if_neg (by omega), add_zero]

/-- The convolution at a row's last token. -/
theorem sum_last (h : T % 64 = 63) :
    ((I.cb wc : ℝ) : EReal) + ((I.cw 0 wc : ℝ) : EReal) * ((I.p b (T - 1) pc : ℝ) : EReal)
      + ((I.cw 1 wc : ℝ) : EReal) * ((I.p b T pc : ℝ) : EReal) = ((conv I b pc wc T : ℝ) : EReal) := by
  rw [← EReal.coe_mul, ← EReal.coe_mul, ← EReal.coe_add, ← EReal.coe_add, conv, if_pos h, if_neg (by omega), add_zero]

/-- The convolution at a token inside its row. -/
theorem sum_inner (h : ¬T % 64 = 0) (h' : ¬T % 64 = 63) :
    ((I.cb wc : ℝ) : EReal) + ((I.cw 0 wc : ℝ) : EReal) * ((I.p b (T - 1) pc : ℝ) : EReal)
      + ((I.cw 1 wc : ℝ) : EReal) * ((I.p b T pc : ℝ) : EReal)
      + ((I.cw 2 wc : ℝ) : EReal) * ((I.p b (T + 1) pc : ℝ) : EReal) = ((conv I b pc wc T : ℝ) : EReal) := by
  rw [← EReal.coe_mul, ← EReal.coe_mul, ← EReal.coe_mul, ← EReal.coe_add, ← EReal.coe_add, ← EReal.coe_add, conv, if_neg h,
    if_neg h']

theorem silu_div (x : ℝ) : (x : EReal) * Ideal.div 1 (1 + Ideal.exp (-(x : EReal))) = ((silu x : ℝ) : EReal) := silu_coe x

/-- The reference's form of the log-sigmoid. -/
theorem log_sigmoid (x : ℝ) (f : EReal → EReal) (hf : ∀ y : ℝ, f y = ((|y| : ℝ) : EReal)) :
    -(if -(x : EReal) ≠ -(x : EReal) then -(x : EReal)
        else max (-(x : EReal)) 0 + Ideal.log1p (Ideal.exp (-f (-(x : EReal))))) = ((logSigmoid x : ℝ) : EReal) := by
  rw [if_neg (by simp), ← EReal.coe_neg, hf, ← EReal.coe_neg, ← EReal.coe_zero, ← coe_max]
  have h1 : Ideal.log1p (Ideal.exp ((-|(-x)| : ℝ) : EReal)) = ((Real.log (1 + Real.exp (-|x|)) : ℝ) : EReal) := by
    rw [abs_neg]; exact log_one_add_exp (-|x|)
  rw [h1, ← EReal.coe_add, ← EReal.coe_neg]
  congr 1
  rw [logSigmoid, neg_add, ← min_neg_neg, neg_neg, neg_zero]; ring

end MLstm.Ref
end
-- ==== Proof.MLstm.RefChunk.lean ====
/-
  The reference's scan reads its chunk of a stacked array, writes its chunk of a stacked result, and sums the forget gates
  up to each token: what these three give at an index.
-/
module

public import proofs.«01_k».proof.Proof.MLstm.RefWords

@[expose] public section

set_option maxRecDepth 16384

noncomputable section

namespace MLstm.Ref

open Cert.ReferenceIdeal Cert.ReferenceIdeal.Gen Cert.ReferenceIdeal.Value Idealize.ShloMosaic Idealize.ShloMosaic.TcCoe
  Idealize.SL.Sem Idealize.ShloMosaic.StableHlo

theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- The window's positions, by their place along the last axis. -/
def windowEquiv : Fin 64 ≃ (⟨3, ![1, 1, 64]⟩ : Shape).Idx where
  toFun s := ix3 0 0 s
  invFun w := w 2
  left_inv _ := rfl
  right_inv w := by
    funext a
    fin_cases a
    · exact (Fin.fin_one_eq_zero _).symm
    · exact (Fin.fin_one_eq_zero _).symm
    · rfl

/-- The reference's cumulative sum at a token: the sum over the chunk with the later tokens set to zero. -/
theorem cumsum_apply (x : Vec Ideal S4x8x64 .f32) (z : Vec Ideal S_ .f32) (hz : z (Shape.Idx.first h_S_) = (0 : EReal))
    (b : Fin 4) (h : Fin 8) (t : Fin 64) :
    Host.reduceWindowAdd (F := Ideal) (φ := .f32) ![1, 1, 64] ![1, 1, 1] ![0, 0, 63] ![0, 0, 0] x z
      reduceWindows_S4x8x64_S4x8x64_w1s1p0_0_w1s1p0_0_w64s1p63_0 h_S_ (ix3 b h t)
      = (show EReal from ∑ s : Fin 64, if (s : ℕ) ≤ t then x (ix3 b h s) else 0) := by
  unfold Host.reduceWindowAdd
  rw [hz]
  show List.foldl _ _ _ = _
  refine (foldl_add _ _ _).trans ?_
  rw [zero_add, ← List.ofFn_eq_map, List.sum_ofFn]
  refine Fintype.sum_equiv (((⟨3, ![1, 1, 64]⟩ : Shape).rowMajor.symm.trans windowEquiv.symm).trans
    (Equiv.addRight (t + 1))) _ _ fun m => ?_
  obtain ⟨n, hn'⟩ : ∃ n, windowEquiv n = (⟨3, ![1, 1, 64]⟩ : Shape).rowMajor.symm m :=
    ⟨windowEquiv.symm _, Equiv.apply_symm_apply _ _⟩
  show _ = if ((Equiv.addRight (t + 1) (windowEquiv.symm ((⟨3, ![1, 1, 64]⟩ : Shape).rowMajor.symm m)) : Fin 64) : ℕ) ≤ t then
    x (ix3 b h (Equiv.addRight (t + 1) (windowEquiv.symm ((⟨3, ![1, 1, 64]⟩ : Shape).rowMajor.symm m)))) else 0
  simp only [← hn']
  rw [Equiv.symm_apply_apply]
  have hv : ((Equiv.addRight (t + 1) n : Fin 64) : ℕ) = (n + t + 1) % 64 := by
    show ((n + (t + 1) : Fin 64) : ℕ) = _
    rw [Fin.val_add, Fin.val_add]; simp; omega
  have hn := n.2
  have ht := t.2
  by_cases hs : 63 ≤ (t : ℕ) + n
  · rw [dif_pos, if_pos (by omega)]
    · refine congrArg x ?_
      funext a
      fin_cases a
      · apply Fin.ext; show (b : ℕ) * 1 + 0 - 0 = b; omega
      · apply Fin.ext; show (h : ℕ) * 1 + 0 - 0 = h; omega
      · apply Fin.ext; show (t : ℕ) * 1 + n - 63 = ((Equiv.addRight (t + 1) n : Fin 64) : ℕ); rw [hv]; omega
    · intro a
      fin_cases a
      · show 0 ≤ (b : ℕ) * 1 + 0 ∧ (b : ℕ) * 1 + 0 - 0 < 4; omega
      · show 0 ≤ (h : ℕ) * 1 + 0 ∧ (h : ℕ) * 1 + 0 - 0 < 8; omega
      · show 63 ≤ (t : ℕ) * 1 + n ∧ (t : ℕ) * 1 + n - 63 < 64; omega
  · rw [dif_neg, if_neg (by omega)]
    intro H
    have := (H 2).1
    have : 63 ≤ (t : ℕ) * 1 + n := this
    omega
theorem word_toInt (k : ℕ) (hk : k < 64) : (BitVec.ofNat 32 k).toInt = (k : ℤ) := by
  rw [BitVec.toInt_eq_toNat_of_lt] <;> simp only [BitVec.toNat_ofNat] <;> omega

variable {k : ℕ} (hk : k < 64) {ctr : (⟨S_, .i32⟩ : BufTy).Contents (Elt Ideal)}
  (hc : ctr = fun _ => (BitVec.ofNat 32 k))
include hk hc

/-! ## The scan's counter as the start of a slice -/

theorem starts5 (a : Fin 5) : ((![ctr, constantI S_ 32 0#32, constantI S_ 32 0#32, constantI S_ 32 0#32,
      constantI S_ 32 0#32] : Fin 5 → (⟨S_, .i32⟩ : BufTy).Contents (Elt Ideal)) a (Shape.Idx.first h_S_)).toInt
    = ((if a = 0 then k else 0 : ℕ) : ℤ) := by
  subst hc
  fin_cases a
  · exact word_toInt k hk
  all_goals rfl

theorem starts4 (a : Fin 4) : ((![ctr, constantI S_ 32 0#32, constantI S_ 32 0#32, constantI S_ 32 0#32]
      : Fin 4 → (⟨S_, .i32⟩ : BufTy).Contents (Elt Ideal)) a (Shape.Idx.first h_S_)).toInt
    = ((if a = 0 then k else 0 : ℕ) : ℤ) := by
  subst hc
  fin_cases a
  · exact word_toInt k hk
  all_goals rfl

theorem clamp5 (ht) (a : Fin 5) : Host.clampedStart { rank := 5, size := ![64, 4, 8, 64, 256] } S1x4x8x64x256 ht
      (fun a => ((![ctr, constantI S_ 32 0#32, constantI S_ 32 0#32, constantI S_ 32 0#32,
      constantI S_ 32 0#32] : Fin 5 → (⟨S_, .i32⟩ : BufTy).Contents (Elt Ideal)) a (Shape.Idx.first h_S_)).toInt) a
    = if a = 0 then k else 0 := by
  refine Host.clampedStart_of_le ht _ a _ (starts5 hk hc a) ?_
  fin_cases a
  · show k + 1 ≤ 64; omega
  · show 0 + 4 ≤ 4; decide
  · show 0 + 8 ≤ 8; decide
  · show 0 + 64 ≤ 64; decide
  · show 0 + 256 ≤ 256; decide

theorem clamp4 (ht) (a : Fin 4) : Host.clampedStart { rank := 4, size := ![64, 4, 8, 64] } S1x4x8x64 ht
      (fun a => ((![ctr, constantI S_ 32 0#32, constantI S_ 32 0#32, constantI S_ 32 0#32]
       : Fin 4 → (⟨S_, .i32⟩ : BufTy).Contents (Elt Ideal)) a (Shape.Idx.first h_S_)).toInt) a
    = if a = 0 then k else 0 := by
  refine Host.clampedStart_of_le ht _ a _ (starts4 hk hc a) ?_
  fin_cases a
  · show k + 1 ≤ 64; omega
  · show 0 + 4 ≤ 4; decide
  · show 0 + 8 ≤ 8; decide
  · show 0 + 64 ≤ 64; decide

/-- A chunk of a stacked array. -/
theorem slice5 (x : Vec Ideal S64x4x8x64x256 .f32) (b : Fin 4) (h : Fin 8) (t : Fin 64) (e : Fin 256) :
    shapeCast S4x8x64x256 (Host.dynamicSlice S1x4x8x64x256 x (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) sliceFits_S64x4x8x64x256_S1x4x8x64x256) shapeCasts_S1x4x8x64x256_S4x8x64x256
      (ix4 b h t e) = x (ix5 ⟨k, hk⟩ b h t e) := by
  have c := clamp5 hk hc
  pointwise
  refine congrArg x ?_
  congr 1 <;> (apply Fin.ext; simp only [c]; simp)

/-- A chunk of the stacked gates. -/
theorem slice4 (x : Vec Ideal S64x4x8x64 .f32) (b : Fin 4) (h : Fin 8) (t : Fin 64) :
    shapeCast S4x8x64 (Host.dynamicSlice S1x4x8x64 x (fun k => (((![ctr, constantI S_ 32 0#32, constantI S_ 32 0#32, constantI S_ 32 0#32] : Fin 4 → (⟨S_, .i32⟩ : BufTy).Contents (Elt Ideal))) k (Shape.Idx.first h_S_)).toInt) sliceFits_S64x4x8x64_S1x4x8x64) shapeCasts_S1x4x8x64_S4x8x64
      (ix3 b h t) = x (ix4 ⟨k, hk⟩ b h t) := by
  have c := clamp4 hk hc
  pointwise
  refine congrArg x ?_
  congr 1 <;> (apply Fin.ext; simp only [c]; simp)

/-- A stacked result after its chunk is written. -/
theorem update5 {ty : EltTy} (x : Vec Ideal S64x4x8x64x256 ty) (u : Vec Ideal S4x8x64x256 ty)
    (j : Fin 64) (b : Fin 4) (h : Fin 8) (t : Fin 64) (e : Fin 256) :
    Host.dynamicUpdateSlice x (broadcastInDim S1x4x8x64x256 ![1, 2, 3, 4] bcast_S4x8x64x256_S1x4x8x64x256_1_2_3_4 u) (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) updateFits_S64x4x8x64x256_S1x4x8x64x256
      (ix5 j b h t e) = if (j : ℕ) = k then u (ix4 b h t e) else x (ix5 j b h t e) := by
  have c : ∀ ht a, Host.clampedStart S64x4x8x64x256 S1x4x8x64x256 ht
      (fun a => ((![ctr, constantI S_ 32 0#32, constantI S_ 32 0#32, constantI S_ 32 0#32,
      constantI S_ 32 0#32] : Fin 5 → (⟨S_, .i32⟩ : BufTy).Contents (Elt Ideal)) a (Shape.Idx.first h_S_)).toInt) a
    = if a = 0 then k else 0 := clamp5 hk hc
  pointwise
  split_ifs with h1 h2 h2
  · refine congrArg u ?_
    congr 1 <;> (apply Fin.ext; simp only [c]; simp)
  · exfalso; simp only [c] at h1; simp at h1; omega
  · exfalso; simp only [c] at h1; apply h1; simp; omega
  · rfl

end MLstm.Ref

end
-- ==== Proof.MLstm.RefStep.lean ====
/-
  What one trip of the reference's scan computes from the arrays it carries: the chunk's keys, values, queries and gates,
  the weights, and the stabilisers, as the layer's real functions.
-/
module

public import proofs.«01_k».proof.Proof.MLstm.RefChunk

@[expose] public section

set_option maxRecDepth 16384

noncomputable section

namespace MLstm.Ref

open Cert.ReferenceIdeal Cert.ReferenceIdeal.Gen Cert.ReferenceIdeal.Value Idealize.ShloMosaic Idealize.ShloMosaic.TcCoe
  Idealize.SL.Sem Idealize.ShloMosaic.StableHlo

/-- What the scan carries before trip `k`: the stacked inputs, the states after `64 * k` tokens, and the results of the
    chunks before. -/
structure Carried (I : Inputs) (k : ℕ) (V : Valuation τ sig (Elt Ideal)) : Prop where
  ctr : V (Proc.devRef .tc main_v103_6) = fun _ => BitVec.ofNat 32 k
  kc : ∀ (j : Fin 64) (b : Fin 4) (h : Fin 8) (t : Fin 64) (e : Fin 256),
    V (Proc.devRef .tc main_v103_0) (ix5 j b h t e) = ((key I b h (64 * j + t) e : ℝ) : EReal)
  vc : ∀ (j : Fin 64) (b : Fin 4) (h : Fin 8) (t : Fin 64) (e : Fin 256),
    V (Proc.devRef .tc main_v103_1) (ix5 j b h t e) = ((val I b h (64 * j + t) e : ℝ) : EReal)
  ic : ∀ (j : Fin 64) (b : Fin 4) (h : Fin 8) (t : Fin 64),
    V (Proc.devRef .tc main_v103_2) (ix4 j b h t) = ((gateI I b h (64 * j + t) : ℝ) : EReal)
  fc : ∀ (j : Fin 64) (b : Fin 4) (h : Fin 8) (t : Fin 64),
    V (Proc.devRef .tc main_v103_3) (ix4 j b h t) = ((gateF I b h (64 * j + t) : ℝ) : EReal)
  qc : ∀ (j : Fin 64) (b : Fin 4) (h : Fin 8) (t : Fin 64) (e : Fin 256),
    V (Proc.devRef .tc main_v103_4) (ix5 j b h t e) = ((query I b h (64 * j + t) e : ℝ) : EReal)
  mask : ∀ a x : Fin 64, V (Proc.devRef .tc main_v103_5) (ix2 a x) = if (x : ℕ) ≤ a then 1#1 else 0#1
  c : ∀ (b : Fin 4) (h : Fin 8) (x e : Fin 256),
    V (Proc.devRef .tc main_v103_7) (ix4 b h x e) = ((cAt I b h (64 * k) x e : ℝ) : EReal)
  n : ∀ (b : Fin 4) (h : Fin 8) (x : Fin 256),
    V (Proc.devRef .tc main_v103_8) (ix3 b h x) = ((nAt I b h (64 * k) x : ℝ) : EReal)
  m : ∀ (b : Fin 4) (h : Fin 8), V (Proc.devRef .tc main_v103_9) (ix2 b h) = ((mAt I b h (64 * k) : ℝ) : EReal)
  o : ∀ j : Fin 64, (j : ℕ) < k → ∀ (b : Fin 4) (h : Fin 8) (t : Fin 64) (e : Fin 256),
    V (Proc.devRef .tc main_v103_10) (ix5 j b h t e) = ((hAt I b h (64 * j + t) e : ℝ) : EReal)
  k16 : ∀ j : Fin 64, (j : ℕ) < k → ∀ (b : Fin 4) (h : Fin 8) (t : Fin 64) (e : Fin 256),
    V (Proc.devRef .tc main_v103_11) (ix5 j b h t e) = ((key I b h (64 * j + t) e : ℝ) : EReal)
  q16 : ∀ j : Fin 64, (j : ℕ) < k → ∀ (b : Fin 4) (h : Fin 8) (t : Fin 64) (e : Fin 256),
    V (Proc.devRef .tc main_v103_12) (ix5 j b h t e) = ((query I b h (64 * j + t) e : ℝ) : EReal)

variable {I : Inputs} {k : ℕ} {V : Valuation τ sig (Elt Ideal)} (C : Carried I k V) (hk : k < 64) (b : Fin 4) (h : Fin 8)
include C hk

theorem key_at (t : Fin 64) (e : Fin 256) :
    res_main_while0b_v119 V (ix4 b h t e) = ((key I b h (64 * k + t) e : ℝ) : EReal) := by
  unfold res_main_while0b_v119
  exact (slice5 hk C.ctr _ b h t e).trans (C.kc ⟨k, hk⟩ b h t e)

theorem val_at (t : Fin 64) (e : Fin 256) :
    res_main_while0b_v120 V (ix4 b h t e) = ((val I b h (64 * k + t) e : ℝ) : EReal) := by
  unfold res_main_while0b_v120
  exact (slice5 hk C.ctr _ b h t e).trans (C.vc ⟨k, hk⟩ b h t e)

theorem query_at (t : Fin 64) (e : Fin 256) :
    res_main_while0b_v123 V (ix4 b h t e) = ((query I b h (64 * k + t) e : ℝ) : EReal) := by
  unfold res_main_while0b_v123
  exact (slice5 hk C.ctr _ b h t e).trans (C.qc ⟨k, hk⟩ b h t e)

theorem gate_at (t : Fin 64) :
    res_main_while0b_v121 V (ix3 b h t) = ((gateI I b h (64 * k + t) : ℝ) : EReal) := by
  unfold res_main_while0b_v121
  exact (slice4 hk C.ctr _ b h t).trans (C.ic ⟨k, hk⟩ b h t)

theorem forget_at (t : Fin 64) :
    res_main_while0b_v124 V (ix3 b h t) = ((gF I b h (64 * k + t + 1) - gF I b h (64 * k) : ℝ) : EReal) := by
  unfold res_main_while0b_v124
  refine (cumsum_apply _ _ (by pointwise) b h t).trans ?_
  refine (Finset.sum_congr rfl fun s _ => ?_).trans (sum_gates (gateF I b h) (64 * k) 64 t t.2)
  exact if_congr Iff.rfl ((slice4 hk C.ctr _ b h s).trans (C.fc ⟨k, hk⟩ b h s)) rfl

theorem forget_all :
    res_main_while0b_v126 V (ix2 b h) = ((gF I b h (64 * k + 64) - gF I b h (64 * k) : ℝ) : EReal) := by
  unfold res_main_while0b_v126
  clean_types
  pointwise
  exact forget_at C hk b h 63

theorem logw_at (t : Fin 64) :
    res_main_while0b_v130 V (ix3 b h t)
      = (((gF I b h (64 * k + 64) - gF I b h (64 * k)) - (gF I b h (64 * k + t + 1) - gF I b h (64 * k))
        + gateI I b h (64 * k + t) : ℝ) : EReal) := by
  unfold res_main_while0b_v130
  clean_types
  pointwise
  rw [forget_all C hk, forget_at C hk, gate_at C hk, ← EReal.coe_sub, ← EReal.coe_add]

/-- The stabiliser after the chunk. -/
theorem stab_at : res_main_while0b_v133 V (ix2 b h) = ((mAt I b h (64 * k + 64) : ℝ) : EReal) := by
  unfold res_main_while0b_v133
  clean_types
  pointwise
  rw [forget_all C hk, C.m, minus_infinity, ← EReal.coe_add]
  exact chunk_stab _ _ _ (64 * k) 64 _ fun s => logw_at C hk b h s

/-- How much of the earlier state is left after the chunk. -/
theorem decay_at : res_main_while0b_v136 V (ix2 b h)
      = ((Real.exp (top (gateF I b h) (gateI I b h) (I.m0 b h) (64 * k)
          - top (gateF I b h) (gateI I b h) (I.m0 b h) (64 * k + 64)) : ℝ) : EReal) := by
  unfold res_main_while0b_v136
  clean_types
  pointwise
  rw [forget_all C hk, C.m, stab_at C hk, ← EReal.coe_add]
  exact exp_prev _ _ _ (64 * k) 64

/-- A token's weight in the state after the chunk. -/
theorem weight_at (t : Fin 64) : res_main_while0b_v140 V (ix3 b h t)
      = ((Real.exp (pot (gateF I b h) (gateI I b h) (64 * k + t)
          - top (gateF I b h) (gateI I b h) (I.m0 b h) (64 * k + 64)) : ℝ) : EReal) := by
  unfold res_main_while0b_v140
  clean_types
  pointwise
  rw [logw_at C hk, stab_at C hk]
  exact exp_weight _ _ _ (64 * k) 64 t

theorem logd_at (a x : Fin 64) :
    res_main_while0b_v161 V (ix4 b h a x)
      = (((gF I b h (64 * k + a + 1) - gF I b h (64 * k)) - (gF I b h (64 * k + x + 1) - gF I b h (64 * k))
        + gateI I b h (64 * k + x) : ℝ) : EReal) := by
  unfold res_main_while0b_v161
  clean_types
  pointwise
  rw [forget_at C hk, forget_at C hk, gate_at C hk, ← EReal.coe_sub, ← EReal.coe_add]

theorem logprev_at (a : Fin 64) :
    res_main_while0b_v164 V (ix3 b h a)
      = (((gF I b h (64 * k + a + 1) - gF I b h (64 * k)) + mAt I b h (64 * k) : ℝ) : EReal) := by
  unfold res_main_while0b_v164
  clean_types
  pointwise
  rw [forget_at C hk, C.m, ← EReal.coe_add]

/-- A row's stabiliser. -/
theorem rowstab_at (a : Fin 64) :
    res_main_while0b_v167 V (ix3 b h a) = ((mAt I b h (64 * k + a + 1) : ℝ) : EReal) := by
  unfold res_main_while0b_v167
  simp only [id_eq]
  clean_types
  pointwise
  rw [logprev_at C hk, minus_infinity]
  refine row_stab _ _ _ (64 * k) 64 a a.2 _ fun s => ?_
  rw [C.mask, select_ite, logd_at C hk]
  rfl

/-- How much of the earlier state is left at a row. -/
theorem rowprev_at (a : Fin 64) :
    res_main_while0b_v169 V (ix3 b h a)
      = ((Real.exp (top (gateF I b h) (gateI I b h) (I.m0 b h) (64 * k)
          - top (gateF I b h) (gateI I b h) (I.m0 b h) (64 * k + a + 1)) : ℝ) : EReal) := by
  unfold res_main_while0b_v169
  clean_types
  pointwise
  rw [logprev_at C hk, rowstab_at C hk]
  exact exp_prev _ _ _ (64 * k) (a + 1)

/-- A row's score of a token of the chunk, by the token's weight; a later token has none. -/
theorem score_at (a x : Fin 64) :
    res_main_while0b_v177 V (ix4 b h a x)
      = if (x : ℕ) ≤ a then
          (((∑ y : Fin 256, query I b h (64 * k + a) y * key I b h (64 * k + x) y)
            * Real.exp (pot (gateF I b h) (gateI I b h) (64 * k + x)
              - top (gateF I b h) (gateI I b h) (I.m0 b h) (64 * k + a + 1)) : ℝ) : EReal)
        else 0 := by
  have hw : Ideal.exp ((show EReal from res_main_while0b_v161 V (ix4 b h a x))
        - (show EReal from res_main_while0b_v167 V (ix3 b h a)))
      = ((Real.exp (pot (gateF I b h) (gateI I b h) (64 * k + x)
          - top (gateF I b h) (gateI I b h) (I.m0 b h) (64 * k + a + 1)) : ℝ) : EReal) := by
    rw [logd_at C hk, rowstab_at C hk]
    exact exp_weight _ _ _ (64 * k) (a + 1) x
  have hq := query_at C hk b h a
  have hkey := key_at C hk b h x
  have hm := C.mask a x
  unfold res_main_while0b_v177
  simp only [id_eq]
  clean_types
  pointwise
  simp only [hm, select_ite, hq, hkey, ← EReal.coe_mul, coe_sum]
  by_cases hs : (x : ℕ) ≤ a
  · rw [if_pos hs, if_pos hs, if_pos hs, hw, EReal.coe_mul, coe_sum]
  · simp only [if_neg hs, mul_zero]

end MLstm.Ref

end
-- ==== Proof.MLstm.RefEntry.lean ====
/-
  What the reference's scan starts from: the chunks of 64 tokens of keys, values, gates and queries, the causal mask and
  the initial states, as real functions of the arguments.
-/
module

public import proofs.«01_k».proof.Proof.MLstm.RefWords

@[expose] public section

set_option maxRecDepth 16384

noncomputable section

namespace MLstm.Ref

open Cert.ReferenceIdeal Cert.ReferenceIdeal.Gen Cert.ReferenceIdeal.Value Idealize.ShloMosaic Idealize.ShloMosaic.TcCoe
  Idealize.SL.Sem Idealize.ShloMosaic.StableHlo

variable (m : (ℓ : Loc nD τ sig) → Buf (Elt Ideal) ℓ) (c : Dev nD) {I : Inputs}
  (A : Args I (launchContents m c (Proc.devRef .tc main_arg0)) (launchContents m c (Proc.devRef .tc main_arg1))
    (launchContents m c (Proc.devRef .tc main_arg2)) (launchContents m c (Proc.devRef .tc main_arg3))
    (launchContents m c (Proc.devRef .tc main_arg4)) (launchContents m c (Proc.devRef .tc main_arg5))
    (launchContents m c (Proc.devRef .tc main_arg6)) (launchContents m c (Proc.devRef .tc main_arg7)))

include A

/-- The chunks of keys. -/
theorem entry_k (k : Fin 64) (b : Fin 4) (h : Fin 8) (t : Fin 64) (e : Fin 256) :
    entryContents (preI (F := Ideal)) m c (Proc.devRef .tc main_v103_0) (ix5 k b h t e)
      = ((key I b h (64 * k + t) e : ℝ) : EReal) := by
  rw [key, Nat.mul_comm 64, Nat.mul_comm 256]
  have R := row_cases (k * 64 + t) (by omega)
  by_cases h0 : (k.val * 64 + t.val) % 64 = 0
  · obtain ⟨e0, e1, e2, i1, i2⟩ := R.1 h0
    simp only [entryContents, afterL_cons, afterL_nil]
    after_reads_at
    try simp only [id_eq]
    try clean_types
    try pointwise
    simp only [e0, e1, e2, i1, i2, dite_true, dite_false, A.p, A.cb, A.cw, Fin.isValue, Fin.val_zero, Fin.val_one,
      Fin.val_two, word_zero, mul_zero, add_zero, sum_first _ _ _ _ _ h0, silu_div, sixteenth]
    simp only [← EReal.coe_mul]
  by_cases h1 : (k.val * 64 + t.val) % 64 = 63
  · obtain ⟨e0, e1, e2, i1, i2⟩ := R.2.1 h1
    simp only [entryContents, afterL_cons, afterL_nil]
    after_reads_at
    try simp only [id_eq]
    try clean_types
    try pointwise
    simp only [e0, e1, e2, i1, i2, dite_true, dite_false, A.p, A.cb, A.cw, Fin.isValue, Fin.val_zero, Fin.val_one,
      Fin.val_two, word_zero, mul_zero, add_zero, sum_last _ _ _ _ _ h1, silu_div, sixteenth]
    simp only [← EReal.coe_mul]
  · obtain ⟨e0, e1, e2, i0, i1, i2⟩ := R.2.2 h0 h1
    simp only [entryContents, afterL_cons, afterL_nil]
    after_reads_at
    try simp only [id_eq]
    try clean_types
    try pointwise
    simp only [e0, e1, e2, i0, i1, i2, dite_true, dite_false, A.p, A.cb, A.cw, Fin.isValue, Fin.val_zero, Fin.val_one,
      Fin.val_two, sum_inner _ _ _ _ _ h0 h1, silu_div, sixteenth]
    simp only [← EReal.coe_mul]

/-- The chunks of queries. -/
theorem entry_q (k : Fin 64) (b : Fin 4) (h : Fin 8) (t : Fin 64) (e : Fin 256) :
    entryContents (preI (F := Ideal)) m c (Proc.devRef .tc main_v103_4) (ix5 k b h t e)
      = ((query I b h (64 * k + t) e : ℝ) : EReal) := by
  rw [query, Nat.mul_comm 64, Nat.mul_comm 256]
  have R := row_cases (k * 64 + t) (by omega)
  by_cases h0 : (k.val * 64 + t.val) % 64 = 0
  · obtain ⟨e0, e1, e2, i1, i2⟩ := R.1 h0
    simp only [entryContents, afterL_cons, afterL_nil]
    after_reads_at
    try simp only [id_eq]
    try clean_types
    try pointwise
    simp only [e0, e1, e2, i1, i2, dite_true, dite_false, A.p, A.cb, A.cw, Fin.isValue, Fin.val_zero, Fin.val_one,
      Fin.val_two, word_zero, mul_zero, add_zero, sum_first _ _ _ _ _ h0, silu_div]
  by_cases h1 : (k.val * 64 + t.val) % 64 = 63
  · obtain ⟨e0, e1, e2, i1, i2⟩ := R.2.1 h1
    simp only [entryContents, afterL_cons, afterL_nil]
    after_reads_at
    try simp only [id_eq]
    try clean_types
    try pointwise
    simp only [e0, e1, e2, i1, i2, dite_true, dite_false, A.p, A.cb, A.cw, Fin.isValue, Fin.val_zero, Fin.val_one,
      Fin.val_two, word_zero, mul_zero, add_zero, sum_last _ _ _ _ _ h1, silu_div]
  · obtain ⟨e0, e1, e2, i0, i1, i2⟩ := R.2.2 h0 h1
    simp only [entryContents, afterL_cons, afterL_nil]
    after_reads_at
    try simp only [id_eq]
    try clean_types
    try pointwise
    simp only [e0, e1, e2, i0, i1, i2, dite_true, dite_false, A.p, A.cb, A.cw, Fin.isValue, Fin.val_zero, Fin.val_one,
      Fin.val_two, sum_inner _ _ _ _ _ h0 h1, silu_div]

/-- The chunks of values. -/
theorem entry_v (k : Fin 64) (b : Fin 4) (h : Fin 8) (t : Fin 64) (e : Fin 256) :
    entryContents (preI (F := Ideal)) m c (Proc.devRef .tc main_v103_1) (ix5 k b h t e)
      = ((val I b h (64 * k + t) e : ℝ) : EReal) := by
  rw [val, Nat.mul_comm 64, Nat.mul_comm 256]
  simp only [entryContents, afterL_cons, afterL_nil]
  after_reads_at
  try simp only [id_eq]
  try clean_types
  try pointwise
  simp only [A.p]

/-- The chunks of log input gates. -/
theorem entry_i (k : Fin 64) (b : Fin 4) (h : Fin 8) (t : Fin 64) :
    entryContents (preI (F := Ideal)) m c (Proc.devRef .tc main_v103_2) (ix4 k b h t)
      = ((gateI I b h (64 * k + t) : ℝ) : EReal) := by
  rw [gateI, Nat.mul_comm 64]
  simp only [entryContents, afterL_cons, afterL_nil]
  after_reads_at
  try simp only [id_eq]
  try clean_types
  try pointwise
  simp only [A.g, A.gb, ← EReal.coe_add]

/-- The chunks of log forget gates. -/
theorem entry_f (k : Fin 64) (b : Fin 4) (h : Fin 8) (t : Fin 64) :
    entryContents (preI (F := Ideal)) m c (Proc.devRef .tc main_v103_3) (ix4 k b h t)
      = ((gateF I b h (64 * k + t) : ℝ) : EReal) := by
  rw [gateF, Nat.mul_comm 64]
  simp only [entryContents, afterL_cons, afterL_nil]
  after_reads_at
  try simp only [id_eq]
  try clean_types
  try pointwise
  simp only [A.g, A.gb, ← EReal.coe_add, log_sigmoid _ _ (absf_coe FTy.f32)]

omit A

/-- The causal mask. -/
theorem entry_mask (a x : Fin 64) :
    entryContents (preI (F := Ideal)) m c (Proc.devRef .tc main_v103_5) (ix2 a x) = if (x : ℕ) ≤ a then 1#1 else 0#1 := by
  simp only [entryContents, afterL_cons, afterL_nil]
  after_reads_at
  try simp only [id_eq]
  try clean_types
  try pointwise
  revert a x
  decide +kernel

include A

/-- The initial memory. -/
theorem entry_c (b : Fin 4) (h : Fin 8) (x e : Fin 256) :
    entryContents (preI (F := Ideal)) m c (Proc.devRef .tc main_v103_7) (ix4 b h x e) = ((cAt I b h 0 x e : ℝ) : EReal) := by
  rw [cAt, state_zero]
  simp only [entryContents, afterL_cons, afterL_nil]
  after_reads_at
  try simp only [id_eq]
  try clean_types
  try pointwise
  simp only [A.c0]

/-- The initial normaliser. -/
theorem entry_n (b : Fin 4) (h : Fin 8) (x : Fin 256) :
    entryContents (preI (F := Ideal)) m c (Proc.devRef .tc main_v103_8) (ix3 b h x) = ((nAt I b h 0 x : ℝ) : EReal) := by
  rw [nAt, state_zero]
  simp only [entryContents, afterL_cons, afterL_nil]
  after_reads_at
  try simp only [id_eq]
  try clean_types
  try pointwise
  simp only [A.n0]

/-- The initial stabiliser. -/
theorem entry_m (b : Fin 4) (h : Fin 8) :
    entryContents (preI (F := Ideal)) m c (Proc.devRef .tc main_v103_9) (ix2 b h) = ((mAt I b h 0 : ℝ) : EReal) := by
  rw [mAt, stab_zero]
  simp only [entryContents, afterL_cons, afterL_nil]
  after_reads_at
  try simp only [id_eq]
  try clean_types
  try pointwise
  simp only [A.m0]

end MLstm.Ref

end
-- ==== Proof.MLstm.RefNext.lean ====
/-
  One trip of the reference's scan: it takes what the scan carries before chunk `k` to what it carries before the next, so
  that after its 64 trips it carries the layer's outputs, keys, queries and final states.
-/
module

public import proofs.«01_k».proof.Proof.MLstm.RefStep
public import proofs.«01_k».proof.Proof.MLstm.RefEntry

@[expose] public section

set_option maxRecDepth 16384

noncomputable section

namespace MLstm.Ref

open Cert.ReferenceIdeal Cert.ReferenceIdeal.Gen Cert.ReferenceIdeal.Value Idealize.ShloMosaic Idealize.ShloMosaic.TcCoe
  Idealize.SL.Sem Idealize.ShloMosaic.StableHlo

section

variable {I : Inputs} {k : ℕ} {V : Valuation τ sig (Elt Ideal)} (C : Carried I k V) (hk : k < 64)
include C hk

theorem next_c (b : Fin 4) (h : Fin 8) (x e : Fin 256) :
    step_main_v103_7 V (ix4 b h x e) = ((cAt I b h (64 * k + 64) x e : ℝ) : EReal) := by
  have hd := decay_at C hk b h
  have hw := weight_at C hk b h
  have hkey := fun t => key_at C hk b h t x
  have hv := fun t => val_at C hk b h t e
  have hc := C.c b h x e
  unfold step_main_v103_7
  simp only [id_eq]
  clean_types
  pointwise
  rw [hc]
  refine chunk_state _ _ _ (64 * k) 64 _ (fun s => key I b h s x * val I b h s e) _ _ hd fun s => ?_
  rw [hw, hkey, hv, ← EReal.coe_mul, ← EReal.coe_mul, mul_assoc]

theorem next_n (b : Fin 4) (h : Fin 8) (x : Fin 256) :
    step_main_v103_8 V (ix3 b h x) = ((nAt I b h (64 * k + 64) x : ℝ) : EReal) := by
  have hd := decay_at C hk b h
  have hw := weight_at C hk b h
  have hkey := fun t => key_at C hk b h t x
  have hc := C.n b h x
  unfold step_main_v103_8
  simp only [id_eq]
  clean_types
  pointwise
  rw [hc]
  refine chunk_state _ _ _ (64 * k) 64 _ (fun s => key I b h s x) _ _ hd fun s => ?_
  rw [hw, hkey, ← EReal.coe_mul]

theorem next_m (b : Fin 4) (h : Fin 8) :
    step_main_v103_9 V (ix2 b h) = ((mAt I b h (64 * k + 64) : ℝ) : EReal) := by
  unfold step_main_v103_9
  exact stab_at C hk b h

theorem next_ctr : step_main_v103_6 V = fun _ => BitVec.ofNat 32 (k + 1) := by
  unfold step_main_v103_6
  rw [C.ctr]
  funext i
  show BitVec.ofNat 32 k + 1#32 = _
  rw [← BitVec.ofNat_add]

theorem next_k (j : Fin 64) (hj : (j : ℕ) < k + 1) (b : Fin 4) (h : Fin 8) (t : Fin 64) (e : Fin 256) :
    step_main_v103_11 V (ix5 j b h t e) = ((key I b h (64 * j + t) e : ℝ) : EReal) := by
  unfold step_main_v103_11
  refine (update5 hk C.ctr _ _ j b h t e).trans ?_
  by_cases hjk : (j : ℕ) = k
  · rw [if_pos hjk, hjk]
    exact key_at C hk b h t e
  · rw [if_neg hjk]
    exact C.k16 j (by omega) b h t e

theorem next_q (j : Fin 64) (hj : (j : ℕ) < k + 1) (b : Fin 4) (h : Fin 8) (t : Fin 64) (e : Fin 256) :
    step_main_v103_12 V (ix5 j b h t e) = ((query I b h (64 * j + t) e : ℝ) : EReal) := by
  unfold step_main_v103_12
  refine (update5 hk C.ctr _ _ j b h t e).trans ?_
  by_cases hjk : (j : ℕ) = k
  · rw [if_pos hjk, hjk]
    exact query_at C hk b h t e
  · rw [if_neg hjk]
    exact C.q16 j (by omega) b h t e

theorem next_o (j : Fin 64) (hj : (j : ℕ) < k + 1) (b : Fin 4) (h : Fin 8) (t : Fin 64) (e : Fin 256) :
    step_main_v103_10 V (ix5 j b h t e) = ((hAt I b h (64 * j + t) e : ℝ) : EReal) := by
  unfold step_main_v103_10
  refine (update5 hk C.ctr _ _ j b h t e).trans ?_
  by_cases hjk : (j : ℕ) = k
  · rw [if_pos hjk, hjk]
    have hq := query_at C hk b h t
    have hv := fun s => val_at C hk b h s e
    have hs := score_at C hk b h t
    have hp := rowprev_at C hk b h t
    have hr := rowstab_at C hk b h t
    have hc := fun x => C.c b h x e
    have hn := fun x => C.n b h x
    clean_types
    pointwise
    simp only [hq, hv, hs, hp, hr, hc, hn]
    refine row_output _ _ _ _ _ _ _ _ _ _ _ _ ?_ ?_ ?_
    · refine row_read _ _ _ (64 * k) 64 t t.2 _ _ _ _ _ _ _ rfl ?_ fun s => ?_
      · simp only [← EReal.coe_mul, coe_sum]; rfl
      · by_cases hs : (s : ℕ) ≤ t
        · rw [if_pos hs, if_pos hs, ← EReal.coe_mul]
        · rw [if_neg hs, if_neg hs, zero_mul]
    · have := row_read (gateF I b h) (gateI I b h) (I.m0 b h) (64 * k) 64 t t.2 (fun x : Fin 256 => I.n0 b h x) (key I b h)
        (query I b h (64 * k + t)) (fun _ => 1)
      simp only [mul_one] at this
      refine this _ _ _ rfl ?_ fun s => ?_
      · simp only [← EReal.coe_mul, coe_sum]; rfl
      · rfl
    · rw [← EReal.coe_neg]; rfl
  · rw [if_neg hjk]
    exact C.o j (by omega) b h t e

/-- One trip. -/
theorem carried_next : Carried I (k + 1) (STEP V) where
  ctr := (STEP_main_v103_6 V).trans (next_ctr C hk)
  kc j b h t e := (congrFun (STEP_main_v103_0 V) _).trans (C.kc j b h t e)
  vc j b h t e := (congrFun (STEP_main_v103_1 V) _).trans (C.vc j b h t e)
  ic j b h t := (congrFun (STEP_main_v103_2 V) _).trans (C.ic j b h t)
  fc j b h t := (congrFun (STEP_main_v103_3 V) _).trans (C.fc j b h t)
  qc j b h t e := (congrFun (STEP_main_v103_4 V) _).trans (C.qc j b h t e)
  mask a x := (congrFun (STEP_main_v103_5 V) _).trans (C.mask a x)
  c b h x e := (congrFun (STEP_main_v103_7 V) _).trans (next_c C hk b h x e)
  n b h x := (congrFun (STEP_main_v103_8 V) _).trans (next_n C hk b h x)
  m b h := (congrFun (STEP_main_v103_9 V) _).trans (next_m C hk b h)
  o j hj b h t e := (congrFun (STEP_main_v103_10 V) _).trans (next_o C hk j hj b h t e)
  k16 j hj b h t e := (congrFun (STEP_main_v103_11 V) _).trans (next_k C hk j hj b h t e)
  q16 j hj b h t e := (congrFun (STEP_main_v103_12 V) _).trans (next_q C hk j hj b h t e)

end

/-- What the scan carries after any number of trips. -/
theorem carried_iterate {I : Inputs} {V : Valuation τ sig (Elt Ideal)} (C : Carried I 0 V) :
    ∀ k : ℕ, k ≤ 64 → Carried I k (STEP^[k] V)
  | 0, _ => C
  | k + 1, hk => by
    rw [Function.iterate_succ_apply']
    exact carried_next (carried_iterate C k (by omega)) (by omega)

end MLstm.Ref

end
-- ==== Proof.MLstm.RefResults.lean ====
/-
  The reference's six results: what its scan leaves after the last chunk, laid out as the kernel's results are.
-/
module

public import proofs.«01_k».proof.Proof.MLstm.RefNext
public import proofs.«01_k».proof.Proof.MLstm.KernelArrays

@[expose] public section

set_option maxRecDepth 16384

noncomputable section

namespace MLstm.Ref

open Cert.ReferenceIdeal Cert.ReferenceIdeal.Gen Cert.ReferenceIdeal.Value Idealize.ShloMosaic Idealize.ShloMosaic.TcCoe
  Idealize.SL.Sem Idealize.ShloMosaic.StableHlo

/-- What the scan starts from. -/
theorem carried_entry (m : (ℓ : Loc nD τ sig) → Buf (Elt Ideal) ℓ) (c : Dev nD) {I : Inputs}
    (A : Args I (launchContents m c (Proc.devRef .tc main_arg0)) (launchContents m c (Proc.devRef .tc main_arg1))
      (launchContents m c (Proc.devRef .tc main_arg2)) (launchContents m c (Proc.devRef .tc main_arg3))
      (launchContents m c (Proc.devRef .tc main_arg4)) (launchContents m c (Proc.devRef .tc main_arg5))
      (launchContents m c (Proc.devRef .tc main_arg6)) (launchContents m c (Proc.devRef .tc main_arg7))) :
    Carried I 0 (entryContents (preI (F := Ideal)) m c) where
  ctr := ctr_entry m c
  kc := entry_k m c A
  vc := entry_v m c A
  ic := entry_i m c A
  fc := entry_f m c A
  qc := entry_q m c A
  mask := entry_mask m c
  c := entry_c m c A
  n := entry_n m c A
  m := entry_m m c A
  o j hj := absurd hj (Nat.not_lt_zero _)
  k16 j hj := absurd hj (Nat.not_lt_zero _)
  q16 j hj := absurd hj (Nat.not_lt_zero _)

variable {I : Inputs} {V : Valuation τ sig (Elt Ideal)} (C : Carried I 64 V)
include C

theorem out_o : out_main_v107 V = resO I := by
  funext i
  obtain ⟨b, T, j, rfl⟩ : ∃ (b : Fin 4) (T : Fin 4096) (j : Fin 2048), i = ix3 b T j := ⟨i 0, i 1, i 2, by blk_ext⟩
  unfold out_main_v107
  clean_types
  pointwise
  refine (C.o _ (Fin.is_lt _) _ _ _ _).trans ?_
  show ((hAt I b (j / 256) (64 * (T / 64) + T % 64) (j % 256) : ℝ) : EReal) = ((hAt I b (j / 256) T (j % 256) : ℝ) : EReal)
  rw [Nat.div_add_mod]

theorem out_k : out_main_v111 V = resK I := by
  funext i
  obtain ⟨b, T, j, rfl⟩ : ∃ (b : Fin 4) (T : Fin 4096) (j : Fin 2048), i = ix3 b T j := ⟨i 0, i 1, i 2, by blk_ext⟩
  unfold out_main_v111
  clean_types
  pointwise
  refine (C.k16 _ (Fin.is_lt _) _ _ _ _).trans ?_
  show ((key I b (j / 256) (64 * (T / 64) + T % 64) (en j) : ℝ) : EReal) = ((key I b (j / 256) T (en j) : ℝ) : EReal)
  rw [Nat.div_add_mod]

theorem out_q : out_main_v115 V = resQ I := by
  funext i
  obtain ⟨b, T, j, rfl⟩ : ∃ (b : Fin 4) (T : Fin 4096) (j : Fin 2048), i = ix3 b T j := ⟨i 0, i 1, i 2, by blk_ext⟩
  unfold out_main_v115
  clean_types
  pointwise
  refine (C.q16 _ (Fin.is_lt _) _ _ _ _).trans ?_
  show ((query I b (j / 256) (64 * (T / 64) + T % 64) (en j) : ℝ) : EReal) = ((query I b (j / 256) T (en j) : ℝ) : EReal)
  rw [Nat.div_add_mod]

theorem out_c : V (Proc.devRef .tc main_v103_7) = resC I := by
  funext i
  obtain ⟨b, h, z, x, rfl⟩ : ∃ (b : Fin 4) (h : Fin 8) (z : Fin 256) (x : Fin 256), i = ix4 b h z x :=
    ⟨i 0, i 1, i 2, i 3, by blk_ext⟩
  exact C.c b h z x

theorem out_n : out_main_v116 V = resN I := by
  funext i
  obtain ⟨b, h, z, x, rfl⟩ : ∃ (b : Fin 4) (h : Fin 8) (z : Fin 1) (x : Fin 256), i = ix4 b h z x :=
    ⟨i 0, i 1, i 2, i 3, by blk_ext⟩
  unfold out_main_v116
  clean_types
  pointwise
  exact C.n b h x

theorem out_m : out_main_v118 V = resM I := by
  funext i
  obtain ⟨b, h, z, x, rfl⟩ : ∃ (b : Fin 4) (h : Fin 8) (z : Fin 8) (x : Fin 128), i = ix4 b h z x :=
    ⟨i 0, i 1, i 2, i 3, by blk_ext⟩
  unfold out_main_v118
  clean_types
  pointwise
  exact C.m b h

end MLstm.Ref

end
-- ==== Proof.MLstm.Finite.lean ====
/-
  Finite arguments are real numbers: from the precondition, the layer's inputs.
-/
module

public import proofs.«01_k».proof.Proof.MLstm.KernelArgs
public import proofs.«01_k».proof.Pre_finite

@[expose] public section

set_option maxRecDepth 16384

noncomputable section

namespace MLstm

open Cert.Pre_finite Idealize.ShloMosaic

theorem pre_facts : Cert.Pre_finite.Facts where
  bitsLt_bf16_f32 := by decide
  bcast_S_S4x4096x28672 := by decide
  bcast_S_S4x4096x128 := by decide
  bcast_S_S32 := by decide
  bcast_S_S2x3x4096 := by decide
  bcast_S_S2x4096 := by decide
  bcast_S_S4x8x256x256 := by decide
  bcast_S_S4x8x1x256 := by decide
  bcast_S_S4x8x8x128 := by decide

theorem infinity : Ideal.ofBits .f32 0x7F800000#32 = ⊤ := by
  simp [Ideal.ofBits, Ideal.ieee]

/-- A number whose absolute value is below infinity is real. -/
theorem real_of_finite (x : EReal) (h : Ideal.cmp .olt (max x (-x)) (Ideal.ofBits .f32 0x7F800000#32) = 1#1) :
    x = ((x.toReal : ℝ) : EReal) := by
  rw [infinity] at h
  have hlt : max x (-x) < ⊤ := by
    by_contra hn
    simp [Ideal.cmp, hn] at h
  refine (EReal.coe_toReal (fun ht => ?_) (fun hb => ?_)).symm
  · rw [ht] at hlt; simp at hlt
  · rw [hb] at hlt; simp at hlt

/-- The same, of every entry of an array. -/
theorem real_array {s : Shape} (x : Vec Ideal s .f32) (hb : S_.BroadcastsInDim s (![] : Fin 0 → Fin s.rank))
    (h : cmpf (F := Ideal) (φ := .f32) .olt (Host.absf (F := Ideal) (φ := .f32) x) (broadcastInDim s ![] hb (constant S_ .f32 0x7F800000#32)) = fun _ => 1#1) (i : s.Idx) :
    x i = (((show EReal from x i).toReal : ℝ) : EReal) :=
  real_of_finite _ (congrFun h i)

/-- The layer's inputs, read off the arrays; where an index is outside its array, zero. -/
def inputsOf (x0 : Vec Ideal S4x4096x28672 .bf16) (x1 : Vec Ideal S4x4096x128 .f32) (x2 : Vec Ideal S32 .f32)
    (x3 : Vec Ideal S2x3x4096 .f32) (x4 : Vec Ideal S2x4096 .f32) (x5 : Vec Ideal S4x8x256x256 .f32)
    (x6 : Vec Ideal S4x8x1x256 .f32) (x7 : Vec Ideal S4x8x8x128 .f32) : Inputs where
  p b t j := if h : b < 4 ∧ t < 4096 ∧ j < 28672 then (show EReal from x0 (ix3 ⟨b, h.1⟩ ⟨t, h.2.1⟩ ⟨j, h.2.2⟩)).toReal else 0
  g b t j := if h : b < 4 ∧ t < 4096 ∧ j < 128 then (show EReal from x1 (ix3 ⟨b, h.1⟩ ⟨t, h.2.1⟩ ⟨j, h.2.2⟩)).toReal else 0
  gb j := if h : j < 32 then (show EReal from x2 (ix1 ⟨j, h⟩)).toReal else 0
  cw j e := if h : j < 3 ∧ e < 4096 then (show EReal from x3 (ix3 0 ⟨j, h.1⟩ ⟨e, h.2⟩)).toReal else 0
  cb e := if h : e < 4096 then (show EReal from x4 (ix2 0 ⟨e, h⟩)).toReal else 0
  c0 b h x e := if w : b < 4 ∧ h < 8 ∧ x < 256 ∧ e < 256 then
    (show EReal from x5 (ix4 ⟨b, w.1⟩ ⟨h, w.2.1⟩ ⟨x, w.2.2.1⟩ ⟨e, w.2.2.2⟩)).toReal else 0
  n0 b h x := if w : b < 4 ∧ h < 8 ∧ x < 256 then
    (show EReal from x6 (ix4 ⟨b, w.1⟩ ⟨h, w.2.1⟩ 0 ⟨x, w.2.2⟩)).toReal else 0
  m0 b h := if w : b < 4 ∧ h < 8 then (show EReal from x7 (ix4 ⟨b, w.1⟩ ⟨h, w.2⟩ 0 0)).toReal else 0

/-- Arrays that satisfy the precondition hold the layer's inputs. -/
theorem args_of_finite [Cert.Pre_finite.Facts] (x0 : Vec Ideal S4x4096x28672 .bf16) (x1 : Vec Ideal S4x4096x128 .f32)
    (x2 : Vec Ideal S32 .f32) (x3 : Vec Ideal S2x3x4096 .f32) (x4 : Vec Ideal S2x4096 .f32) (x5 : Vec Ideal S4x8x256x256 .f32)
    (x6 : Vec Ideal S4x8x1x256 .f32) (x7 : Vec Ideal S4x8x8x128 .f32)
    (h : (fn (F := Ideal) x0 x1 x2 x3 x4 x5 x6 x7).1 = (fun _ => 1#1)
      ∧ (fn (F := Ideal) x0 x1 x2 x3 x4 x5 x6 x7).2.1 = (fun _ => 1#1)
      ∧ (fn (F := Ideal) x0 x1 x2 x3 x4 x5 x6 x7).2.2.1 = (fun _ => 1#1)
      ∧ (fn (F := Ideal) x0 x1 x2 x3 x4 x5 x6 x7).2.2.2.1 = (fun _ => 1#1)
      ∧ (fn (F := Ideal) x0 x1 x2 x3 x4 x5 x6 x7).2.2.2.2.1 = (fun _ => 1#1)
      ∧ (fn (F := Ideal) x0 x1 x2 x3 x4 x5 x6 x7).2.2.2.2.2.1 = (fun _ => 1#1)
      ∧ (fn (F := Ideal) x0 x1 x2 x3 x4 x5 x6 x7).2.2.2.2.2.2.1 = (fun _ => 1#1)
      ∧ (fn (F := Ideal) x0 x1 x2 x3 x4 x5 x6 x7).2.2.2.2.2.2.2 = (fun _ => 1#1)) :
    Args (inputsOf x0 x1 x2 x3 x4 x5 x6 x7) x0 x1 x2 x3 x4 x5 x6 x7 where
  p b t j := by
    refine (real_of_finite _ (congrFun h.1 (ix3 b t j))).trans (congrArg Real.toEReal (Eq.symm ?_))
    exact dif_pos ⟨b.2, t.2, j.2⟩
  g b t j := by
    refine (real_array x1 _ h.2.1 (ix3 b t j)).trans (congrArg Real.toEReal (Eq.symm ?_))
    exact dif_pos ⟨b.2, t.2, j.2⟩
  gb j := by
    refine (real_array x2 _ h.2.2.1 (ix1 j)).trans (congrArg Real.toEReal (Eq.symm ?_))
    exact dif_pos j.2
  cw j e := by
    refine (real_array x3 _ h.2.2.2.1 (ix3 0 j e)).trans (congrArg Real.toEReal (Eq.symm ?_))
    exact dif_pos ⟨j.2, e.2⟩
  cb e := by
    refine (real_array x4 _ h.2.2.2.2.1 (ix2 0 e)).trans (congrArg Real.toEReal (Eq.symm ?_))
    exact dif_pos e.2
  c0 b h' x e := by
    refine (real_array x5 _ h.2.2.2.2.2.1 (ix4 b h' x e)).trans (congrArg Real.toEReal (Eq.symm ?_))
    exact dif_pos ⟨b.2, h'.2, x.2, e.2⟩
  n0 b h' x := by
    refine (real_array x6 _ h.2.2.2.2.2.2.1 (ix4 b h' 0 x)).trans (congrArg Real.toEReal (Eq.symm ?_))
    exact dif_pos ⟨b.2, h'.2, x.2⟩
  m0 b h' := by
    refine (real_array x7 _ h.2.2.2.2.2.2.2 (ix4 b h' 0 0)).trans (congrArg Real.toEReal (Eq.symm ?_))
    exact dif_pos ⟨b.2, h'.2⟩

end MLstm

end
-- ==== Proof.MLstm.Claims.lean ====
/-
  The claims about the mLSTM layer's recurrence: frames, the mask's constant, and equality of the six results.
-/
module

public import proofs.«01_k».proof.Defs
public import proofs.«01_k».proof.Proof.Gen.Kernel.Frame
public import proofs.«01_k».proof.Proof.MLstm.KernelArrays
public import proofs.«01_k».proof.Proof.MLstm.RefResults
public import proofs.«01_k».proof.Proof.MLstm.Finite
public import Idealize.ShloMosaic.Lib.Quiescent

@[expose] public section

set_option maxRecDepth 16384

noncomputable section

namespace MLstm.Claims

open Idealize.ShloMosaic Idealize.ShloMosaic.TcCoe Idealize.SL.Sem

attribute [local instance] Cert.Kernel.Gen.facts Cert.KernelIdeal.Gen.facts Cert.ReferenceIdeal.Gen.facts

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite [h : Cert.Pre_finite.Facts] : Cert.quiescent_KernelIdeal_pre_finite :=
  fun m ρ _ => Cert.KernelIdeal.Gen.frame m ρ

theorem frame_reference : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

theorem frame_reference_finite [h : Cert.Pre_finite.Facts] : Cert.quiescent_ReferenceIdeal_pre_finite :=
  fun m ρ _ => frame_reference m ρ trivial

theorem preserves : Cert.preserves_Kernel_KernelIdeal :=
  IdealRules.named_const.statement Cert.KernelIdeal.κ "mask" .f32 0xF149F2CA#32 ⊥ rfl

/-- The layer's inputs on one device, read off the kernel's arguments. -/
def inputs (m : (ℓ : Loc Cert.KernelIdeal.nD Cert.KernelIdeal.τ Cert.KernelIdeal.sig) → Buf (Elt Ideal) ℓ)
    (c : Dev Cert.KernelIdeal.nD) : Inputs :=
  inputsOf (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3))
    (m ((c.tc : Thread _ _).loc Cert.KernelIdeal.main_arg4)) (m ((c.tc : Thread _ _).loc Cert.KernelIdeal.main_arg5))
    (m ((c.tc : Thread _ _).loc Cert.KernelIdeal.main_arg6)) (m ((c.tc : Thread _ _).loc Cert.KernelIdeal.main_arg7))

/-- Kernel and reference both leave the recurrence's values, so their results are equal. -/
theorem algebraic [h : Cert.Pre_finite.Facts] : Cert.algebraic_KernelIdeal_ReferenceIdeal_pre_finite := by
  intro m ρ m' ρ' hpre hag
  have A : ∀ c, Args (inputs m c) _ _ _ _ _ _ _ _ := fun c => args_of_finite _ _ _ _ _ _ _ _ (hpre c)
  have B : ∀ c, Args (inputs m c) (m' ((c.tc : Thread _ _).loc Cert.ReferenceIdeal.main_arg0))
      (m' ((c.tc : Thread _ _).loc Cert.ReferenceIdeal.main_arg1)) (m' ((c.tc : Thread _ _).loc Cert.ReferenceIdeal.main_arg2))
      (m' ((c.tc : Thread _ _).loc Cert.ReferenceIdeal.main_arg3)) (m' ((c.tc : Thread _ _).loc Cert.ReferenceIdeal.main_arg4))
      (m' ((c.tc : Thread _ _).loc Cert.ReferenceIdeal.main_arg5)) (m' ((c.tc : Thread _ _).loc Cert.ReferenceIdeal.main_arg6))
      (m' ((c.tc : Thread _ _).loc Cert.ReferenceIdeal.main_arg7)) := by
    intro c
    obtain ⟨h0, h1, h2, h3, h4, h5, h6, h7⟩ := hag c
    rw [h0, h1, h2, h3, h4, h5, h6, h7]
    exact A c
  have C := fun c => Ref.carried_iterate (Ref.carried_entry m' c (B c)) 64 le_rfl
  refine ⟨fun c => resO (inputs m c), fun c => resK (inputs m c), fun c => resQ (inputs m c), fun c => resC (inputs m c),
    fun c => resN (inputs m c), fun c => resM (inputs m c), ?_, ?_⟩
  · refine (θ_run Cert.KernelIdeal.defs _ _).mono (fun r h c => ?_) (Cert.KernelIdeal.Value.run_blocks (F := Ideal) m ρ)
    obtain ⟨h0, h1, h2, h3, h4, h5, hargs⟩ := h c
    exact ⟨h0.trans (array_o m c (A c)), h1.trans (array_k m c (A c)), h2.trans (array_q m c (A c)),
      h3.trans (array_c m c (A c)), h4.trans (array_n m c (A c)), h5.trans (array_m m c (A c)), hargs⟩
  · refine (θ_run Cert.ReferenceIdeal.defs _ _).mono (fun r h c => ?_) (Cert.ReferenceIdeal.Value.run (F := Ideal) m' ρ')
    obtain ⟨h0, h1, h2, h3, h4, h5, hargs⟩ := h c
    exact ⟨h0.trans (Ref.out_o (C c)), h1.trans (Ref.out_k (C c)), h2.trans (Ref.out_q (C c)),
      h3.trans (Ref.out_c (C c)), h4.trans (Ref.out_n (C c)), h5.trans (Ref.out_m (C c)), hargs⟩

end MLstm.Claims

end
-- ==== Proof.Products.Input.lean ====
/-
  The layer's input projection: the array the kernel leaves, entry by entry. The kernel leaves out the 32 columns of the
  weights that make the gates.
-/
module

public import proofs.«01_k».proof.Proof.Gen.Kernel2Ideal.Value
public import Idealize.ShloMosaic.Lib.Claim
public import Idealize.ShloMosaic.Lib.StableHlo.ReadAt
public import Idealize.ShloMosaic.Lib.Pipeline.ValueKit
public import Idealize.ShloMosaic.Lib.Pipeline.Covers

@[expose] public section

set_option maxRecDepth 16384

noncomputable section

namespace Products.Input

open Cert.Kernel2Ideal Cert.Kernel2Ideal.Gen Idealize.ShloMosaic Idealize.ShloMosaic.TcCoe Idealize.SL.Sem

/-- The weights' column that the projection's column `j` is made with: the 32 gate columns from 7168 on are skipped. -/
def column (j : Fin 28672) : Fin 28704 := if h : j.val < 7168 then ⟨j, by omega⟩ else ⟨j + 32, by omega⟩

theorem column_main (j : Fin 7168) : column ⟨j, by omega⟩ = ⟨j, by omega⟩ := dif_pos j.isLt

theorem column_rest (j : Fin 21504) : column ⟨7168 + j, by omega⟩ = ⟨7200 + j, by omega⟩ :=
  (dif_neg (by simp)).trans (Fin.ext (by show 7168 + j.val + 32 = 7200 + j.val; omega))

/-- A column is in the first part or in the second. -/
theorem column_cases (j : Fin 28672) : (∃ a : Fin 7168, j = ⟨a, by omega⟩) ∨ (∃ a : Fin 21504, j = ⟨7168 + a, by omega⟩) := by
  by_cases h : j.val < 7168
  · exact .inl ⟨⟨j, h⟩, rfl⟩
  · exact .inr ⟨⟨j - 7168, by omega⟩, Fin.ext (by simp; omega)⟩

/-- The projection. -/
def projection (x : Vec Ideal S16384x4096 .bf16) (w : Vec Ideal S4096x28704 .f32) : Vec Ideal S16384x28672 .bf16 :=
  fun i => ∑ k : Fin 4096, (show EReal from x (ix2 (i 0) k)) * (show EReal from w (ix2 k (column (i 1))))

theorem index_at : ∀ t : Fin cfg0.N,
    win0_0.index t = ![t.val / 28, 0] ∧ win0_1.index t = ![0, t.val % 28] ∧ win0_2.index t = ![t.val / 28, t.val % 28] :=
  (by decide +kernel : ∀ t : Fin grid0.N, _)

theorem points (t : Fin cfg0.N) : t.val < 448 := t.isLt

variable (m : (ℓ : Loc nD τ sig) → Buf (Elt Ideal) ℓ) (c : Dev nD)

/-- The weights as the host prepares them. -/
theorem weights (k : Fin 4096) (j : Fin 28672) :
    V m c main_v3 (ix2 k j : S4096x28672.Idx) = m ((c : Thread nD τ).loc main_arg1) (ix2 k (column j) : S4096x28704.Idx) := by
  unfold V
  simp only [hostOps0, List.flatten_cons, List.flatten_nil, List.append_nil, List.cons_append,
    List.nil_append]
  obtain ⟨a, rfl⟩ | ⟨a, rfl⟩ := column_cases j
  · rw [column_main]
    after_reads_at
    after_reads_at
  · rw [column_rest]
    after_reads_at
    after_reads_at

/-- The product a grid point stores. -/
theorem payload (x : Vec Ideal S1024x4096 .bf16) (w : Vec Ideal S4096x1024 .bf16) (a b : Fin 1024) :
    k0_pay1 x w (ix2 a b) = ∑ k : Fin 4096, (show EReal from x (ix2 a k)) * (show EReal from w (ix2 k b)) := by
  unfold k0_pay1
  pointwise

/-- The kernel's array is the projection. -/
theorem array : (dats m 0 c).arrAt 2 cfg0.N
    = projection (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a b : Fin 1024), y = ix2 a b := ⟨y 0, y 1, by blk_ext⟩
  have ht := points t
  obtain ⟨i0, i1, i2⟩ := index_at t
  have hemb : (win0_2.blk t).view.emb (ix2 a b : S1024x1024.Idx)
      = (ix2 (⟨1024 * (t.val / 28) + a, by omega⟩ : Fin 16384) (⟨1024 * (t.val % 28) + b, by omega⟩ : Fin 28672) : S16384x28672.Idx) := by
    blk_ext [i2]
  have h0 : ∀ k : Fin 4096, iblk m c 0 t (ix2 a k : S1024x4096.Idx) = m ((c : Thread nD τ).loc main_arg0)
      (ix2 (⟨1024 * (t.val / 28) + a, by omega⟩ : Fin 16384) k : S16384x4096.Idx) := fun k => by
    blk_ext [iblk, V, i0]
  have h1 : ∀ k : Fin 4096, iblk m c 1 t (ix2 k b : S4096x1024.Idx) = V m c main_v3
      (ix2 k (⟨1024 * (t.val % 28) + b, by omega⟩ : Fin 28672) : S4096x28672.Idx) := fun k => by
    blk_ext [iblk, i1]
  rw [hemb]
  unfold out0_2
  frame_out
  refine (payload _ _ a b).trans (Finset.sum_congr rfl fun k _ => ?_)
  rw [h0, h1, weights]
  rfl

end Products.Input

end
-- ==== Proof.Products.InputRef.lean ====
/-
  The reference's input projection, entry by entry.
-/
module

public import proofs.«01_k».proof.Proof.Products.Input
public import proofs.«01_k».proof.Proof.Gen.Reference2Ideal.Run

@[expose] public section

set_option maxRecDepth 16384

noncomputable section

namespace Products.Input.Ref

open Cert.Reference2Ideal Cert.Reference2Ideal.Gen Idealize.ShloMosaic Idealize.ShloMosaic.TcCoe Idealize.SL.Sem

/-- The reference's result is the projection. -/
theorem result (x0 : FVec Ideal S16384x4096 .bf16) (x1 : FVec Ideal S4096x28704 .f32) :
    (truncf .bf16 (concatenate S16384x28672 1 [⟨S16384x7168, (extractStridedSlice S16384x7168 ![0, 0] (Host.dotGeneral dot_S16384x4096_S4096x28704_S16384x28704_1_0_0_1_n_n none (extf .f32 x0 bitsLt_bf16_f32) x1) slices_S16384x28704_S16384x7168_0_0)⟩, ⟨S16384x21504, (extractStridedSlice S16384x21504 ![0, 7200] (Host.dotGeneral dot_S16384x4096_S4096x28704_S16384x28704_1_0_0_1_n_n none (extf .f32 x0 bitsLt_bf16_f32) x1) slices_S16384x28704_S16384x21504_0_7200)⟩] concatenates_S16384x7168_S16384x21504_S16384x28672_d1) bitsLt_bf16_f32 : FVec Ideal S16384x28672 .bf16) = projection x0 x1 := by
  funext i
  obtain ⟨r, j, rfl⟩ : ∃ (r : Fin 16384) (j : Fin 28672), i = ix2 r j := ⟨i 0, i 1, by blk_ext⟩
  show _ = ∑ k : Fin 4096, (show EReal from x0 (ix2 r k)) * (show EReal from x1 (ix2 k (column j)))
  obtain ⟨a, rfl⟩ | ⟨a, rfl⟩ := column_cases j
  · rw [column_main]
    pointwise
  · rw [column_rest]
    pointwise

end Products.Input.Ref

end
-- ==== Proof.Products.InputClaims.lean ====
/-
  The claims about the input projection: frames, and equality of the kernel's result and the reference's.
-/
module

public import proofs.«01_k».proof.Defs
public import proofs.«01_k».proof.Proof.Gen.Kernel2.Frame
public import proofs.«01_k».proof.Proof.Products.Input
public import proofs.«01_k».proof.Proof.Products.InputRef
public import Idealize.ShloMosaic.Lib.Quiescent

@[expose] public section

set_option maxRecDepth 16384

noncomputable section

namespace Products.Input.Claims

open Idealize.ShloMosaic Idealize.ShloMosaic.TcCoe Idealize.SL.Sem

attribute [local instance] Cert.Kernel2.Gen.facts Cert.Kernel2Ideal.Gen.facts Cert.Reference2Ideal.Gen.facts

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m ρ m' ρ' _ hag
  refine ⟨fun c => projection (m ((c.tc : Thread _ _).loc Cert.Kernel2Ideal.main_arg0)) (m ((c.tc : Thread _ _).loc Cert.Kernel2Ideal.main_arg1)), ?_, ?_⟩
  · refine (θ_run Cert.Kernel2Ideal.defs _ _).mono (fun r h c => ?_) (Cert.Kernel2Ideal.Value.run_blocks (F := Ideal) m ρ)
    exact ⟨(h c).1.trans (array m c), (h c).2⟩
  · refine (θ_run Cert.Reference2Ideal.defs _ _).mono (fun r h c => ?_) (Cert.Reference2Ideal.Value.run (F := Ideal) m' ρ')
    refine ⟨(h c).1.trans ((Ref.result _ _).trans ?_), (h c).2⟩
    obtain ⟨h0, h1⟩ := hag c
    rw [h0, h1]

end Products.Input.Claims

end
-- ==== Proof.Products.Hidden.lean ====
/-
  The gated hidden layer of the dense feed-forward part: the array the kernel leaves, entry by entry. The weights are
  padded with 256 columns of zeros, which make 256 columns of zeros.
-/
module

public import proofs.«01_k».proof.Proof.Gen.Kernel3Ideal.Value
public import Idealize.ShloMosaic.Lib.Claim
public import Idealize.ShloMosaic.Lib.StableHlo.ReadAt
public import Idealize.ShloMosaic.Lib.Pipeline.ValueKit
public import Idealize.ShloMosaic.Lib.Pipeline.Covers

@[expose] public section

set_option maxRecDepth 16384

noncomputable section

namespace Products.Hidden

open Cert.Kernel3Ideal Cert.Kernel3Ideal.Gen Idealize.ShloMosaic Idealize.ShloMosaic.TcCoe Idealize.SL.Sem

/-- An entry of the product with an unpadded weight column. -/
def prod (x : Vec Ideal S16384x4096 .bf16) (w : Vec Ideal S4096x11008 .f32) (r : Fin 16384) (j : Fin 11008) : EReal :=
  ∑ k : Fin 4096, (show EReal from x (ix2 r k)) * (show EReal from w (ix2 k j))

/-- The hidden layer: SiLU of the gate product times the up product, and zeros in the padding. -/
def hidden (x : Vec Ideal S16384x4096 .bf16) (wg wu : Vec Ideal S4096x11008 .f32) : Vec Ideal S16384x11264 .bf16 := fun i =>
  if h : (i 1).val < 11008 then
    prod x wg (i 0) ⟨i 1, h⟩ * Ideal.logistic (prod x wg (i 0) ⟨i 1, h⟩) * prod x wu (i 0) ⟨i 1, h⟩
  else (0 : EReal)

/-- A column is one of the weights' or one of the padding's. -/
theorem column_cases (j : Fin 11264) : (∃ a : Fin 11008, j = ⟨a, by omega⟩) ∨ (∃ a : Fin 256, j = ⟨11008 + a, by omega⟩) := by
  by_cases h : j.val < 11008
  · exact .inl ⟨⟨j, h⟩, rfl⟩
  · exact .inr ⟨⟨j - 11008, by omega⟩, Fin.ext (by simp; omega)⟩

theorem hidden_main (x : Vec Ideal S16384x4096 .bf16) (wg wu : Vec Ideal S4096x11008 .f32) (r : Fin 16384) (j : Fin 11008) :
    hidden x wg wu (ix2 r (⟨j, by omega⟩ : Fin 11264))
      = prod x wg r j * Ideal.logistic (prod x wg r j) * prod x wu r j := dif_pos j.isLt

theorem hidden_pad (x : Vec Ideal S16384x4096 .bf16) (wg wu : Vec Ideal S4096x11008 .f32) (r : Fin 16384) (j : Fin 256) :
    hidden x wg wu (ix2 r (⟨11008 + j, by omega⟩ : Fin 11264)) = (0 : EReal) := dif_neg (by show ¬ (11008 + j.val < 11008); omega)

theorem index_at : ∀ t : Fin cfg0.N,
    win0_0.index t = ![t.val / 22, 0] ∧ win0_1.index t = ![0, t.val % 22] ∧ win0_2.index t = ![0, t.val % 22]
    ∧ win0_3.index t = ![t.val / 22, t.val % 22] :=
  (by decide +kernel : ∀ t : Fin grid0.N, _)

theorem points (t : Fin cfg0.N) : t.val < 352 := t.isLt

/-- The padding's value. -/
theorem pad_value (φ : FTy) : FloatOps.sitofp (F := Ideal) φ (0#32 : BitVec 32) = (0 : EReal) := by
  show (((0#32 : BitVec 32).toInt : ℝ) : EReal) = 0
  simp

variable (m : (ℓ : Loc nD τ sig) → Buf (Elt Ideal) ℓ) (c : Dev nD)

/-- The gate weights as the host prepares them. -/
theorem gate_weights (k : Fin 4096) (j : Fin 11008) :
    V m c main_v1 (ix2 k (⟨j, by omega⟩ : Fin 11264) : S4096x11264.Idx)
      = m ((c : Thread nD τ).loc main_arg1) (ix2 k j : S4096x11008.Idx) := by
  unfold V
  simp only [hostOps0, hostOps0_1, hostOps0_2, hostOps0_3, List.flatten_cons, List.flatten_nil, List.append_nil, List.cons_append,
    List.nil_append]
  after_reads_at

/-- Their padding. -/
theorem gate_weights_pad (k : Fin 4096) (j : Fin 256) :
    V m c main_v1 (ix2 k (⟨11008 + j, by omega⟩ : Fin 11264) : S4096x11264.Idx) = (0 : EReal) := by
  unfold V
  simp only [hostOps0, hostOps0_1, hostOps0_2, hostOps0_3, List.flatten_cons, List.flatten_nil, List.append_nil, List.cons_append,
    List.nil_append]
  after_reads_at
  exact pad_value _

/-- The up weights as the host prepares them. -/
theorem up_weights (k : Fin 4096) (j : Fin 11008) :
    V m c main_v3 (ix2 k (⟨j, by omega⟩ : Fin 11264) : S4096x11264.Idx)
      = m ((c : Thread nD τ).loc main_arg2) (ix2 k j : S4096x11008.Idx) := by
  unfold V
  simp only [hostOps0, hostOps0_1, hostOps0_2, hostOps0_3, List.flatten_cons, List.flatten_nil, List.append_nil, List.cons_append,
    List.nil_append]
  after_reads_at

/-- Their padding. -/
theorem up_weights_pad (k : Fin 4096) (j : Fin 256) :
    V m c main_v3 (ix2 k (⟨11008 + j, by omega⟩ : Fin 11264) : S4096x11264.Idx) = (0 : EReal) := by
  unfold V
  simp only [hostOps0, hostOps0_1, hostOps0_2, hostOps0_3, List.flatten_cons, List.flatten_nil, List.append_nil, List.cons_append,
    List.nil_append]
  after_reads_at
  exact pad_value _

/-- The block a grid point stores. -/
theorem payload (x : Vec Ideal S1024x4096 .bf16) (wg wu : Vec Ideal S4096x512 .bf16) (a : Fin 1024) (b : Fin 512) :
    k0_pay1 x wg wu (ix2 a b) = (∑ k : Fin 4096, (show EReal from x (ix2 a k)) * (show EReal from wg (ix2 k b)))
      * Ideal.logistic (∑ k : Fin 4096, (show EReal from x (ix2 a k)) * (show EReal from wg (ix2 k b)))
      * ∑ k : Fin 4096, (show EReal from x (ix2 a k)) * (show EReal from wu (ix2 k b)) := by
  unfold k0_pay1
  pointwise

/-- The kernel's array is the hidden layer. -/
theorem array : (dats m 0 c).arrAt 3 cfg0.N
    = hidden (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨a, b, rfl⟩ : ∃ (a : Fin 1024) (b : Fin 512), y = ix2 a b := ⟨y 0, y 1, by blk_ext⟩
  have ht := points t
  obtain ⟨i0, i1, i2, i3⟩ := index_at t
  have hemb : (win0_3.blk t).view.emb (ix2 a b : S1024x512.Idx)
      = (ix2 (⟨1024 * (t.val / 22) + a, by omega⟩ : Fin 16384) (⟨512 * (t.val % 22) + b, by omega⟩ : Fin 11264) : S16384x11264.Idx) := by
    blk_ext [i3]
  have h0 : ∀ k : Fin 4096, iblk m c 0 t (ix2 a k : S1024x4096.Idx) = m ((c : Thread nD τ).loc main_arg0)
      (ix2 (⟨1024 * (t.val / 22) + a, by omega⟩ : Fin 16384) k : S16384x4096.Idx) := fun k => by
    blk_ext [iblk, V, i0]
  have h1 : ∀ k : Fin 4096, iblk m c 1 t (ix2 k b : S4096x512.Idx) = V m c main_v1
      (ix2 k (⟨512 * (t.val % 22) + b, by omega⟩ : Fin 11264) : S4096x11264.Idx) := fun k => by
    blk_ext [iblk, i1]
  have h2 : ∀ k : Fin 4096, iblk m c 2 t (ix2 k b : S4096x512.Idx) = V m c main_v3
      (ix2 k (⟨512 * (t.val % 22) + b, by omega⟩ : Fin 11264) : S4096x11264.Idx) := fun k => by
    blk_ext [iblk, i2]
  rw [hemb]
  unfold out0_3
  frame_out
  refine (payload _ _ _ a b).trans ?_
  obtain ⟨j, hj⟩ | ⟨j, hj⟩ := column_cases ⟨512 * (t.val % 22) + b, by omega⟩
  · have p1 : (∑ k : Fin 4096, (show EReal from iblk m c 0 t (ix2 a k : S1024x4096.Idx))
        * (show EReal from iblk m c 1 t (ix2 k b : S4096x512.Idx)))
        = prod (m ((c : Thread nD τ).loc main_arg0)) (m ((c : Thread nD τ).loc main_arg1)) ⟨1024 * (t.val / 22) + a, by omega⟩ j :=
      Finset.sum_congr rfl fun k _ => by
        rw [h0, h1, hj, gate_weights]
    have p2 : (∑ k : Fin 4096, (show EReal from iblk m c 0 t (ix2 a k : S1024x4096.Idx))
        * (show EReal from iblk m c 2 t (ix2 k b : S4096x512.Idx)))
        = prod (m ((c : Thread nD τ).loc main_arg0)) (m ((c : Thread nD τ).loc main_arg2)) ⟨1024 * (t.val / 22) + a, by omega⟩ j :=
      Finset.sum_congr rfl fun k _ => by
        rw [h0, h2, hj, up_weights]
    rw [hj, hidden_main]
    exact congrArg₂ (· * ·) (congrArg₂ (· * ·) p1 (congrArg Ideal.logistic p1)) p2
  · have p2 : (∑ k : Fin 4096, (show EReal from iblk m c 0 t (ix2 a k : S1024x4096.Idx))
        * (show EReal from iblk m c 2 t (ix2 k b : S4096x512.Idx))) = 0 :=
      Finset.sum_eq_zero fun k _ => by
        rw [h2, hj, up_weights_pad]
        exact mul_zero _
    rw [hj, hidden_pad]
    exact (congrArg _ p2).trans (mul_zero _)

end Products.Hidden

end
-- ==== Proof.Products.HiddenRef.lean ====
/-
  The reference's hidden layer, entry by entry.
-/
module

public import proofs.«01_k».proof.Proof.Products.Hidden
public import proofs.«01_k».proof.Proof.Gen.Reference3Ideal.Run

@[expose] public section

set_option maxRecDepth 16384

noncomputable section

namespace Products.Hidden.Ref

open Cert.Reference3Ideal Cert.Reference3Ideal.Gen Idealize.ShloMosaic Idealize.ShloMosaic.TcCoe Idealize.SL.Sem

/-- The reference's result is the hidden layer. -/
theorem result (x0 : FVec Ideal S16384x4096 .bf16) (x1 x2 : FVec Ideal S4096x11008 .f32) :
    (truncf .bf16 (pad S16384x11264 ![0, 0] ![0, 256] ![0, 0] (mulf (mulf (Host.dotGeneral dot_S16384x4096_S4096x11008_S16384x11008_1_0_0_1_n_n none (extf .f32 x0 bitsLt_bf16_f32) x1) (Host.divf (broadcastInDim S16384x11008 ![] bcast_S_S16384x11008 (constant S_ .f32 0x3F800000#32)) (addf (broadcastInDim S16384x11008 ![] bcast_S_S16384x11008 (constant S_ .f32 0x3F800000#32)) (Host.exp (Host.negf (Host.dotGeneral dot_S16384x4096_S4096x11008_S16384x11008_1_0_0_1_n_n none (extf .f32 x0 bitsLt_bf16_f32) x1)))))) (Host.dotGeneral dot_S16384x4096_S4096x11008_S16384x11008_1_0_0_1_n_n none (extf .f32 x0 bitsLt_bf16_f32) x2)) (sitofp .f32 (constantI S_ 32 0#32)) pads_S16384x11008_S16384x11264_000_02560 h_S_) bitsLt_bf16_f32 : FVec Ideal S16384x11264 .bf16) = hidden x0 x1 x2 := by
  funext i
  obtain ⟨r, j, rfl⟩ : ∃ (r : Fin 16384) (j : Fin 11264), i = ix2 r j := ⟨i 0, i 1, by blk_ext⟩
  obtain ⟨a, rfl⟩ | ⟨a, rfl⟩ := column_cases j
  · rw [hidden_main]
    unfold prod
    pointwise
    simp only [Ideal.logistic]
  · rw [hidden_pad]
    pointwise
    exact pad_value _

end Products.Hidden.Ref

end
-- ==== Proof.Products.HiddenClaims.lean ====
/-
  The claims about the hidden layer of the dense feed-forward part: frames, and equality of the kernel's result and the reference's.
-/
module

public import proofs.«01_k».proof.Defs
public import proofs.«01_k».proof.Proof.Gen.Kernel3.Frame
public import proofs.«01_k».proof.Proof.Products.Hidden
public import proofs.«01_k».proof.Proof.Products.HiddenRef
public import Idealize.ShloMosaic.Lib.Quiescent

@[expose] public section

set_option maxRecDepth 16384

noncomputable section

namespace Products.Hidden.Claims

open Idealize.ShloMosaic Idealize.ShloMosaic.TcCoe Idealize.SL.Sem

attribute [local instance] Cert.Kernel3.Gen.facts Cert.Kernel3Ideal.Gen.facts Cert.Reference3Ideal.Gen.facts

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m ρ m' ρ' _ hag
  refine ⟨fun c => hidden (m ((c.tc : Thread _ _).loc Cert.Kernel3Ideal.main_arg0)) (m ((c.tc : Thread _ _).loc Cert.Kernel3Ideal.main_arg1)) (m ((c.tc : Thread _ _).loc Cert.Kernel3Ideal.main_arg2)), ?_, ?_⟩
  · refine (θ_run Cert.Kernel3Ideal.defs _ _).mono (fun r h c => ?_) (Cert.Kernel3Ideal.Value.run_blocks (F := Ideal) m ρ)
    exact ⟨(h c).1.trans (array m c), (h c).2⟩
  · refine (θ_run Cert.Reference3Ideal.defs _ _).mono (fun r h c => ?_) (Cert.Reference3Ideal.Value.run (F := Ideal) m' ρ')
    refine ⟨(h c).1.trans ((Ref.result _ _ _).trans ?_), (h c).2⟩
    obtain ⟨h0, h1, h2⟩ := hag c
    rw [h0, h1, h2]

end Products.Hidden.Claims

end
-- ==== Proof.Products.Down.lean ====
/-
  The down projection of the dense feed-forward part, added to the stream it came from: the array the kernel leaves,
  entry by entry. The product is accumulated over four blocks of 2816 rows of the weights, of which the last 256 are zeros.
-/
module

public import proofs.«01_k».proof.Proof.Gen.Kernel4Ideal.Value
public import Idealize.ShloMosaic.Lib.Claim
public import Idealize.ShloMosaic.Lib.StableHlo.ReadAt
public import Idealize.ShloMosaic.Lib.Pipeline.ValueKit
public import Idealize.ShloMosaic.Lib.Pipeline.Covers

@[expose] public section

set_option maxRecDepth 16384

noncomputable section

namespace Products.Down

open Cert.Kernel4Ideal Cert.Kernel4Ideal.Gen Idealize.ShloMosaic Idealize.ShloMosaic.TcCoe Idealize.SL.Sem

/-- Batch element of a row of all batches' tokens. -/
def batch (r : Fin 16384) : Fin 4 := ⟨r / 4096, by omega⟩

/-- Token, within its batch element, of a row of all batches' tokens. -/
def token (r : Fin 16384) : Fin 4096 := ⟨r % 4096, by omega⟩

/-- The stream with the gated product added. -/
def down (x : Vec Ideal S16384x11264 .bf16) (w : Vec Ideal S11008x4096 .f32) (s : Vec Ideal S4x4096x4096 .f32)
    (g : Vec Ideal S4x1x4096 .f32) : Vec Ideal S16384x4096 .f32 := fun i =>
  (show EReal from s (ix3 (batch (i 0)) (token (i 0)) (i 1))) + (show EReal from g (ix3 (batch (i 0)) 0 (i 1)))
    * ∑ k : Fin 11008, (show EReal from x (ix2 (i 0) (⟨k, by omega⟩ : Fin 11264))) * (show EReal from w (ix2 k (i 1)))

theorem down_at (x : Vec Ideal S16384x11264 .bf16) (w : Vec Ideal S11008x4096 .f32) (s : Vec Ideal S4x4096x4096 .f32)
    (g : Vec Ideal S4x1x4096 .f32) (r : Fin 16384) (j : Fin 4096) : down x w s g (ix2 r j)
      = (show EReal from s (ix3 (batch r) (token r) j)) + (show EReal from g (ix3 (batch r) 0 j))
        * ∑ k : Fin 11008, (show EReal from x (ix2 r (⟨k, by omega⟩ : Fin 11264))) * (show EReal from w (ix2 k j)) := rfl

/-- A summand of the product's entry, zero past the last row of the weights. -/
def term (x : Vec Ideal S16384x11264 .bf16) (w : Vec Ideal S11008x4096 .f32) (r j k : ℕ) : EReal :=
  if h : k < 11008 ∧ r < 16384 ∧ j < 4096 then
    (show EReal from x (ix2 (⟨r, h.2.1⟩ : Fin 16384) (⟨k, by omega⟩ : Fin 11264)))
      * (show EReal from w (ix2 (⟨k, h.1⟩ : Fin 11008) (⟨j, h.2.2⟩ : Fin 4096)))
  else 0

/-- The sum of the first `n` summands. -/
def part (x : Vec Ideal S16384x11264 .bf16) (w : Vec Ideal S11008x4096 .f32) (r j n : ℕ) : EReal :=
  ∑ k ∈ Finset.range n, term x w r j k

theorem part_add (x : Vec Ideal S16384x11264 .bf16) (w : Vec Ideal S11008x4096 .f32) (r j n l : ℕ) :
    part x w r j (n + l) = part x w r j n + ∑ k : Fin l, term x w r j (n + k) :=
  (Finset.sum_range_add _ n l).trans (congrArg _ (Finset.sum_range _))

/-- All summands together are the product's entry. -/
theorem part_all (x : Vec Ideal S16384x11264 .bf16) (w : Vec Ideal S11008x4096 .f32) (r : Fin 16384) (j : Fin 4096) :
    part x w r j (11008 + 256) = ∑ k : Fin 11008, (show EReal from x (ix2 r (⟨k, by omega⟩ : Fin 11264)))
      * (show EReal from w (ix2 k j)) := by
  rw [part_add]
  have hz : (∑ k : Fin 256, term x w r j (11008 + k)) = 0 :=
    Finset.sum_eq_zero fun k _ => dif_neg fun h => by omega
  rw [hz, add_zero]
  refine (Finset.sum_range _).trans (Finset.sum_congr rfl fun k _ => ?_)
  exact dif_pos ⟨k.isLt, r.isLt, j.isLt⟩

theorem index_at : ∀ t : Fin cfg0.N,
    win0_0.index t = ![t.val / 16, t.val % 4] ∧ win0_1.index t = ![t.val % 4, t.val / 4 % 4]
    ∧ win0_2.index t = ![t.val / 16, t.val / 4 % 4] ∧ win0_3.index t = ![t.val / 64, 0, t.val / 4 % 4]
    ∧ win0_4.index t = ![t.val / 16, t.val / 4 % 4] :=
  (by decide +kernel : ∀ t : Fin grid0.N, _)

/-- A block of the result is written back only after its last summands. -/
theorem last_block : ∀ t : Fin cfg0.N, (cfg0.win 4).flush t = true → t.val % 4 = 3 :=
  (by decide +kernel : ∀ t : Fin grid0.N, _)

theorem points (t : Fin cfg0.N) : t.val < 256 := t.isLt

/-- The padding's value. -/
theorem pad_value (φ : FTy) : FloatOps.sitofp (F := Ideal) φ (0#32 : BitVec 32) = (0 : EReal) := by
  show (((0#32 : BitVec 32).toInt : ℝ) : EReal) = 0
  simp

variable (m : (ℓ : Loc nD τ sig) → Buf (Elt Ideal) ℓ) (c : Dev nD)

/-- The weights as the host prepares them. -/
theorem weights (k : Fin 11008) (j : Fin 4096) :
    V m c main_v1 (ix2 (⟨k, by omega⟩ : Fin 11264) j : S11264x4096.Idx)
      = m ((c : Thread nD τ).loc main_arg1) (ix2 k j : S11008x4096.Idx) := by
  unfold V
  simp only [hostOps0, hostOps0_1, hostOps0_2, List.flatten_cons, List.flatten_nil, List.append_nil, List.cons_append,
    List.nil_append]
  after_reads_at

/-- Their padding. -/
theorem weights_pad (k : Fin 256) (j : Fin 4096) :
    V m c main_v1 (ix2 (⟨11008 + k, by omega⟩ : Fin 11264) j : S11264x4096.Idx) = (0 : EReal) := by
  unfold V
  simp only [hostOps0, hostOps0_1, hostOps0_2, List.flatten_cons, List.flatten_nil, List.append_nil, List.cons_append,
    List.nil_append]
  after_reads_at
  exact pad_value _

/-- The stream as the host lays it out. -/
theorem stream (b : Fin 4) (t j : Fin 4096) :
    V m c main_v2 (ix2 (⟨4096 * b + t, by omega⟩ : Fin 16384) j : S16384x4096.Idx)
      = m ((c : Thread nD τ).loc main_arg2) (ix3 b t j : S4x4096x4096.Idx) := by
  unfold V
  simp only [hostOps0, hostOps0_1, hostOps0_2, List.flatten_cons, List.flatten_nil, List.append_nil, List.cons_append,
    List.nil_append]
  after_reads_at

/-- A product of two blocks. -/
theorem block_prod (x : Vec Ideal S1024x2816 .bf16) (w : Vec Ideal S2816x1024 .bf16) (a b : Fin 1024) :
    k0_pay1 x w (ix2 a b) = ∑ k : Fin 2816, (show EReal from x (ix2 a k)) * (show EReal from w (ix2 k b)) := by
  unfold k0_pay1
  pointwise

theorem start_block (x : Vec Ideal S1024x2816 .bf16) (w : Vec Ideal S2816x1024 .bf16) (a b : Fin 1024) :
    k0_pay2 x w (ix2 a b) = k0_pay1 x w (ix2 a b) := by
  unfold k0_pay2
  pointwise

theorem next_block (x : Vec Ideal S1024x2816 .bf16) (w : Vec Ideal S2816x1024 .bf16) (v : Vec Ideal S1024x1024 .f32) (a b : Fin 1024) :
    k0_pay3 x w v (ix2 a b) = (show EReal from v (ix2 a b)) + (show EReal from k0_pay1 x w (ix2 a b)) := by
  unfold k0_pay3
  pointwise

theorem last_payload (v s : Vec Ideal S1024x1024 .f32) (g : Vec Ideal S1x1x1024 .f32) (a b : Fin 1024) :
    k0_pay4 v s g (ix2 a b) = (show EReal from s (ix2 a b)) + (show EReal from g (ix3 0 0 b)) * (show EReal from v (ix2 a b)) := by
  unfold k0_pay4
  pointwise

/-- The product a grid point makes: 2816 of the summands. -/
theorem point_prod (t : Fin cfg0.N) (a b : Fin 1024) :
    k0_pay1 (iblk m c 0 t) (iblk m c 1 t) (ix2 a b) = ∑ k : Fin 2816, term (m ((c : Thread nD τ).loc main_arg0))
      (m ((c : Thread nD τ).loc main_arg1)) (1024 * (t.val / 16) + a.val) (1024 * (t.val / 4 % 4) + b.val) (2816 * (t.val % 4) + k) := by
  have ht := points t
  obtain ⟨i0, i1, i2, i3, i4⟩ := index_at t
  have hr : 1024 * (t.val / 16) + a.val < 16384 := by omega
  have hj : 1024 * (t.val / 4 % 4) + b.val < 4096 := by omega
  refine (block_prod _ _ a b).trans (Finset.sum_congr rfl fun k _ => ?_)
  have hk : 2816 * (t.val % 4) + k < 11264 := by omega
  have h0 : iblk m c 0 t (ix2 a k : S1024x2816.Idx) = m ((c : Thread nD τ).loc main_arg0)
      (ix2 (⟨1024 * (t.val / 16) + a.val, hr⟩ : Fin 16384) (⟨2816 * (t.val % 4) + k, hk⟩ : Fin 11264) : S16384x11264.Idx) := by
    blk_ext [iblk, V, i0]
  have h1 : iblk m c 1 t (ix2 k b : S2816x1024.Idx) = V m c main_v1
      (ix2 (⟨2816 * (t.val % 4) + k, hk⟩ : Fin 11264) (⟨1024 * (t.val / 4 % 4) + b.val, hj⟩ : Fin 4096) : S11264x4096.Idx) := by
    blk_ext [iblk, i1]
  rw [h0, h1]
  unfold term
  by_cases h : 2816 * (t.val % 4) + k < 11008
  · rw [dif_pos ⟨h, hr, hj⟩]
    exact congrArg _ (weights m c ⟨_, h⟩ _)
  · rw [dif_neg (fun q => h q.1)]
    have e : (⟨2816 * (t.val % 4) + k, hk⟩ : Fin 11264)
        = ⟨11008 + (⟨2816 * (t.val % 4) + k - 11008, by omega⟩ : Fin 256), by dsimp only; omega⟩ := Fin.ext (by dsimp only; omega)
    rw [e, weights_pad]
    exact mul_zero _

/-- After a grid point the accumulator holds the sum of all summands so far. -/
theorem scratch_at (n : ℕ) (hn : n < cfg0.N) (a b : Fin 1024) :
    (outsAt0 m c n hn).2 (ix2 a b) = part (m ((c : Thread nD τ).loc main_arg0)) (m ((c : Thread nD τ).loc main_arg1))
      (1024 * (n / 16) + a.val) (1024 * (n / 4 % 4) + b.val) (2816 * (n % 4) + 2816) := by
  induction n with
  | zero =>
    have P := point_prod m c ⟨0, hn⟩ a b
    have hA := outsAt0_A m c ⟨0, hn⟩ rfl (by dsimp only; omega) (by dsimp only; omega)
    rw [hA]
    frame_out
    refine (start_block _ _ a b).trans (P.trans ?_)
    rw [part_add]
    exact (zero_add _).symm
  | succ n ih =>
    have P := point_prod m c ⟨n + 1, hn⟩ a b
    dsimp only at P
    by_cases h0 : (n + 1) % 4 = 0
    · have hA := outsAt0_A m c ⟨n + 1, hn⟩ h0 (by dsimp only; omega) (by dsimp only; omega)
      rw [hA]
      frame_out
      refine (start_block _ _ a b).trans (P.trans ?_)
      rw [part_add, h0]
      exact (zero_add _).symm
    · have e1 : 1024 * (n / 16) + a.val = 1024 * ((n + 1) / 16) + a.val := by omega
      have e2 : 1024 * (n / 4 % 4) + b.val = 1024 * ((n + 1) / 4 % 4) + b.val := by omega
      have e3 : 2816 * (n % 4) + 2816 = 2816 * ((n + 1) % 4) := by omega
      have S := ih (by omega)
      rw [e1, e2, e3] at S
      by_cases h2 : (n + 1) % 4 = 3
      · have hC := outsAt0_C m c ⟨n + 1, hn⟩ h0 (by dsimp only; omega) h2
        rw [hC]
        frame_out
        refine (next_block _ _ _ a b).trans ?_
        rw [part_add]
        exact congrArg₂ (· + ·) ((congrFun (Memref.IsWhole.read_unread (Memref.isWhole_whole cc0_scratch0) _) _).trans S) P
      · have hB := outsAt0_B m c ⟨n + 1, hn⟩ h0 (by dsimp only; omega) h2
        rw [hB]
        frame_out
        refine (next_block _ _ _ a b).trans ?_
        rw [part_add]
        exact congrArg₂ (· + ·) ((congrFun (Memref.IsWhole.read_unread (Memref.isWhole_whole cc0_scratch0) _) _).trans S) P

/-- What the last grid point of a block leaves in its output block, over what it leaves in the accumulator. -/
theorem out_at (t : Fin cfg0.N) (h : t.val % 4 = 3) (a b : Fin 1024) :
    (outsAt0 m c t.val t.isLt).1 (ix2 a b) = (show EReal from iblk m c 2 t (ix2 a b : S1024x1024.Idx))
      + (show EReal from iblk m c 3 t (ix3 0 0 b : S1x1x1024.Idx)) * (show EReal from (outsAt0 m c t.val t.isLt).2 (ix2 a b)) := by
  have hC := outsAt0_C m c t (by omega) (by omega) h
  rw [hC]
  frame_out
  exact last_payload _ _ _ a b

/-- The kernel's array is the stream with the gated product added. -/
theorem array : (dats m 0 c).arrAt 4 cfg0.N
    = down (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  obtain ⟨a, b, rfl⟩ : ∃ (a b : Fin 1024), y = ix2 a b := ⟨y 0, y 1, by blk_ext⟩
  have ht := points t
  have h3 := last_block t hf
  obtain ⟨i0, i1, i2, i3, i4⟩ := index_at t
  have hr : 1024 * (t.val / 16) + a.val < 16384 := by omega
  have hj : 1024 * (t.val / 4 % 4) + b.val < 4096 := by omega
  have hemb : (win0_4.blk t).view.emb (ix2 a b : S1024x1024.Idx)
      = (ix2 (⟨1024 * (t.val / 16) + a.val, hr⟩ : Fin 16384) (⟨1024 * (t.val / 4 % 4) + b.val, hj⟩ : Fin 4096) : S16384x4096.Idx) := by
    blk_ext [i4]
  have hs : (⟨1024 * (t.val / 16) + a.val, hr⟩ : Fin 16384)
      = ⟨4096 * ((⟨t.val / 64, by omega⟩ : Fin 4) : ℕ) + ((⟨1024 * (t.val / 16 % 4) + a, by omega⟩ : Fin 4096) : ℕ), by
        dsimp only; omega⟩ := Fin.ext (by dsimp only; omega)
  have g2 : iblk m c 2 t (ix2 a b : S1024x1024.Idx) = V m c main_v2
      (ix2 (⟨1024 * (t.val / 16) + a.val, hr⟩ : Fin 16384) (⟨1024 * (t.val / 4 % 4) + b.val, hj⟩ : Fin 4096) : S16384x4096.Idx) := by
    blk_ext [iblk, i2]
  have g3 : iblk m c 3 t (ix3 0 0 b : S1x1x1024.Idx) = m ((c : Thread nD τ).loc main_arg3)
      (ix3 (⟨t.val / 64, by omega⟩ : Fin 4) 0 (⟨1024 * (t.val / 4 % 4) + b.val, hj⟩ : Fin 4096) : S4x1x4096.Idx) := by
    blk_ext [iblk, V, i3]
  have hb : batch ⟨1024 * (t.val / 16) + a.val, hr⟩ = (⟨t.val / 64, by omega⟩ : Fin 4) :=
    Fin.ext (by show (1024 * (t.val / 16) + a.val) / 4096 = _; dsimp only; omega)
  have hk : token ⟨1024 * (t.val / 16) + a.val, hr⟩ = (⟨1024 * (t.val / 16 % 4) + a, by omega⟩ : Fin 4096) :=
    Fin.ext (by show (1024 * (t.val / 16) + a.val) % 4096 = _; dsimp only; omega)
  have hp := part_all (m ((c : Thread nD τ).loc main_arg0)) (m ((c : Thread nD τ).loc main_arg1)) ⟨1024 * (t.val / 16) + a.val, hr⟩ ⟨1024 * (t.val / 4 % 4) + b.val, hj⟩
  have hn : 2816 * (t.val % 4) + 2816 = 11008 + 256 := by omega
  have S := scratch_at m c t.val t.isLt a b
  rw [hn] at S
  refine (out_at m c t h3 a b).trans ?_
  rw [hemb, down_at, hb, hk, g2, g3, hs, stream, ← hs]
  exact congrArg _ (congrArg _ (S.trans hp))

end Products.Down

end
-- ==== Proof.Products.DownRef.lean ====
/-
  The reference's down projection and sum, entry by entry.
-/
module

public import proofs.«01_k».proof.Proof.Products.Down
public import proofs.«01_k».proof.Proof.Gen.Reference4Ideal.Run

@[expose] public section

set_option maxRecDepth 16384

noncomputable section

namespace Products.Down.Ref

open Cert.Reference4Ideal Cert.Reference4Ideal.Gen Idealize.ShloMosaic Idealize.ShloMosaic.TcCoe Idealize.SL.Sem

/-- The reference's result is the stream with the gated product added. -/
theorem result (x0 : FVec Ideal S16384x11264 .bf16) (x1 : FVec Ideal S11008x4096 .f32) (x2 : FVec Ideal S4x4096x4096 .f32)
    (x3 : FVec Ideal S4x1x4096 .f32) :
    (shapeCast S16384x4096 (addf x2 (mulf (broadcastInDim S4x4096x4096 ![0, 1, 2] bcast_S4x1x4096_S4x4096x4096_0_1_2 x3) (shapeCast S4x4096x4096 (Host.dotGeneral dot_S16384x11008_S11008x4096_S16384x4096_1_0_0_1_n_n none (extf .f32 (extractStridedSlice S16384x11008 ![0, 0] x0 slices_S16384x11264_S16384x11008_0_0) bitsLt_bf16_f32) x1) shapeCasts_S16384x4096_S4x4096x4096))) shapeCasts_S4x4096x4096_S16384x4096 : FVec Ideal S16384x4096 .f32) = down x0 x1 x2 x3 := by
  funext i
  obtain ⟨b, t, j, rfl⟩ : ∃ (b : Fin 4) (t j : Fin 4096), i = ix2 (⟨b * 4096 + t, by omega⟩ : Fin 16384) j :=
    ⟨batch (i 0), token (i 0), i 1, by blk_ext [batch, token]⟩
  have hb : batch ⟨b * 4096 + t, by omega⟩ = b := Fin.ext (by show (b.val * 4096 + t.val) / 4096 = _; omega)
  have ht : token ⟨b * 4096 + t, by omega⟩ = t := Fin.ext (by show (b.val * 4096 + t.val) % 4096 = _; omega)
  rw [down_at, hb, ht]
  pointwise

end Products.Down.Ref

end
-- ==== Proof.Products.DownClaims.lean ====
/-
  The claims about the down projection of the dense feed-forward part: frames, and equality of the kernel's result and the reference's.
-/
module

public import proofs.«01_k».proof.Defs
public import proofs.«01_k».proof.Proof.Gen.Kernel4.Frame
public import proofs.«01_k».proof.Proof.Products.Down
public import proofs.«01_k».proof.Proof.Products.DownRef
public import Idealize.ShloMosaic.Lib.Quiescent

@[expose] public section

set_option maxRecDepth 16384

noncomputable section

namespace Products.Down.Claims

open Idealize.ShloMosaic Idealize.ShloMosaic.TcCoe Idealize.SL.Sem

attribute [local instance] Cert.Kernel4.Gen.facts Cert.Kernel4Ideal.Gen.facts Cert.Reference4Ideal.Gen.facts

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal := by
  intro m ρ m' ρ' _ hag
  refine ⟨fun c => down (m ((c.tc : Thread _ _).loc Cert.Kernel4Ideal.main_arg0)) (m ((c.tc : Thread _ _).loc Cert.Kernel4Ideal.main_arg1)) (m ((c.tc : Thread _ _).loc Cert.Kernel4Ideal.main_arg2)) (m ((c.tc : Thread _ _).loc Cert.Kernel4Ideal.main_arg3)), ?_, ?_⟩
  · refine (θ_run Cert.Kernel4Ideal.defs _ _).mono (fun r h c => ?_) (Cert.Kernel4Ideal.Value.run_blocks (F := Ideal) m ρ)
    exact ⟨(h c).1.trans (array m c), (h c).2⟩
  · refine (θ_run Cert.Reference4Ideal.defs _ _).mono (fun r h c => ?_) (Cert.Reference4Ideal.Value.run (F := Ideal) m' ρ')
    refine ⟨(h c).1.trans ((Ref.result _ _ _ _).trans ?_), (h c).2⟩
    obtain ⟨h0, h1, h2, h3⟩ := hag c
    rw [h0, h1, h2, h3]

end Products.Down.Claims

end
-- ==== Proof.Products.Merge.lean ====
/-
  The gated sum of the three branches' output products: the array the kernel leaves, entry by entry.
-/
module

public import proofs.«01_k».proof.Proof.Gen.Kernel5Ideal.Value
public import Idealize.ShloMosaic.Lib.Claim
public import Idealize.ShloMosaic.Lib.StableHlo.ReadAt
public import Idealize.ShloMosaic.Lib.Pipeline.ValueKit
public import Idealize.ShloMosaic.Lib.Pipeline.Covers

@[expose] public section

set_option maxRecDepth 16384

noncomputable section

namespace Products.Merge

open Cert.Kernel5Ideal Cert.Kernel5Ideal.Gen Idealize.ShloMosaic Idealize.ShloMosaic.TcCoe Idealize.SL.Sem

/-- An entry of a narrow branch's product, with the weights' rows from `o` on. -/
def narrow (o : ℕ) (ho : o + 1024 ≤ 4096) (y : Vec Ideal S16384x1024 .bf16) (w : Vec Ideal S4096x4096 .f32) (r : Fin 16384)
    (j : Fin 4096) : EReal :=
  ∑ k : Fin 1024, (show EReal from y (ix2 r k)) * (show EReal from w (ix2 (⟨o + k, by omega⟩ : Fin 4096) j))

/-- An entry of the wide branch's product, with the weights' rows from 1024 on. -/
def wide (y : Vec Ideal S16384x2048 .bf16) (w : Vec Ideal S4096x4096 .f32) (r : Fin 16384) (j : Fin 4096) : EReal :=
  ∑ k : Fin 2048, (show EReal from y (ix2 r k)) * (show EReal from w (ix2 (⟨1024 + k, by omega⟩ : Fin 4096) j))

/-- A branch's gate, with the projection's columns from `o` on. -/
def gate (o : ℕ) (ho : o + 4096 ≤ 28672) (p : Vec Ideal S16384x28672 .bf16) (r : Fin 16384) (j : Fin 4096) : EReal :=
  Ideal.logistic (show EReal from p (ix2 r (⟨o + j, by omega⟩ : Fin 28672)))

/-- The gated sum of the branches. -/
def merged (y0 : Vec Ideal S16384x1024 .bf16) (y1 : Vec Ideal S16384x2048 .bf16) (y2 : Vec Ideal S16384x1024 .bf16)
    (w : Vec Ideal S4096x4096 .f32) (p : Vec Ideal S16384x28672 .bf16) : Vec Ideal S16384x4096 .bf16 := fun i =>
  gate 16384 (by decide) p (i 0) (i 1) * narrow 0 (by decide) y0 w (i 0) (i 1)
    + gate 20480 (by decide) p (i 0) (i 1) * wide y1 w (i 0) (i 1)
    + gate 24576 (by decide) p (i 0) (i 1) * narrow 3072 (by decide) y2 w (i 0) (i 1)

theorem merged_at (y0 : Vec Ideal S16384x1024 .bf16) (y1 : Vec Ideal S16384x2048 .bf16) (y2 : Vec Ideal S16384x1024 .bf16)
    (w : Vec Ideal S4096x4096 .f32) (p : Vec Ideal S16384x28672 .bf16) (r : Fin 16384) (j : Fin 4096) :
    merged y0 y1 y2 w p (ix2 r j) = gate 16384 (by decide) p r j * narrow 0 (by decide) y0 w r j
      + gate 20480 (by decide) p r j * wide y1 w r j + gate 24576 (by decide) p r j * narrow 3072 (by decide) y2 w r j := rfl

/-- The wide product as two products over half the rows. -/
theorem wide_halves (y : Vec Ideal S16384x2048 .bf16) (w : Vec Ideal S4096x4096 .f32) (r : Fin 16384) (j : Fin 4096) :
    wide y w r j = (∑ k : Fin 1024, (show EReal from y (ix2 r (⟨k, by omega⟩ : Fin 2048)))
        * (show EReal from w (ix2 (⟨1024 + k, by omega⟩ : Fin 4096) j)))
      + ∑ k : Fin 1024, (show EReal from y (ix2 r (⟨1024 + k, by omega⟩ : Fin 2048)))
        * (show EReal from w (ix2 (⟨2048 + k, by omega⟩ : Fin 4096) j)) := by
  refine (Fin.sum_univ_add (a := 1024) (b := 1024) _).trans (congrArg₂ (· + ·) rfl (Finset.sum_congr rfl fun k _ => ?_))
  have e : (⟨1024 + (Fin.natAdd 1024 k : Fin (1024 + 1024)), by have := (Fin.natAdd 1024 k : Fin (1024 + 1024)).isLt; omega⟩ : Fin 4096)
      = ⟨2048 + k, by omega⟩ := Fin.ext (by simp; omega)
  exact congrArg (fun q => (show EReal from y (ix2 r (⟨1024 + k, by omega⟩ : Fin 2048))) * (show EReal from w (ix2 q j))) e

theorem index_in : ∀ t : Fin cfg0.N,
    win0_0.index t = ![t.val / 8, 0] ∧ win0_1.index t = ![t.val / 8, 0] ∧ win0_2.index t = ![t.val / 8, 0]
    ∧ win0_3.index t = ![0, t.val % 8] ∧ win0_4.index t = ![1, t.val % 8] ∧ win0_5.index t = ![2, t.val % 8]
    ∧ win0_6.index t = ![3, t.val % 8] :=
  (by decide +kernel : ∀ t : Fin grid0.N, _)

theorem index_gates : ∀ t : Fin cfg0.N,
    win0_7.index t = ![t.val / 8, 32 + t.val % 8] ∧ win0_8.index t = ![t.val / 8, 40 + t.val % 8]
    ∧ win0_9.index t = ![t.val / 8, 48 + t.val % 8] ∧ win0_10.index t = ![t.val / 8, t.val % 8] :=
  (by decide +kernel : ∀ t : Fin grid0.N, _)

theorem points (t : Fin cfg0.N) : t.val < 128 := t.isLt

variable (m : (ℓ : Loc nD τ sig) → Buf (Elt Ideal) ℓ) (c : Dev nD)

/-- The weights as the host prepares them. -/
theorem weights (k j : Fin 4096) :
    V m c main_v0 (ix2 k j : S4096x4096.Idx) = m ((c : Thread nD τ).loc main_arg3) (ix2 k j : S4096x4096.Idx) := by
  unfold V
  simp only [hostOps0, List.flatten_cons, List.flatten_nil, List.append_nil, List.cons_append,
    List.nil_append]
  after_reads_at

/-- A product of two blocks. -/
def blockProd (x : Vec Ideal S1024x1024 .bf16) (w : Vec Ideal S1024x512 .bf16) (a : Fin 1024) (b : Fin 512) : EReal :=
  ∑ k : Fin 1024, (show EReal from x (ix2 a k)) * (show EReal from w (ix2 k b))

/-- The block a grid point stores. -/
theorem payload (x0 x1 x2 x3 : Vec Ideal S1024x1024 .bf16) (w0 w1 w2 w3 g0 g1 g2 : Vec Ideal S1024x512 .bf16) (a : Fin 1024) (b : Fin 512) :
    k0_pay1 x0 w0 x1 w1 x2 w2 x3 w3 g0 g1 g2 (ix2 a b) = Ideal.logistic (show EReal from g0 (ix2 a b)) * blockProd x0 w0 a b
      + Ideal.logistic (show EReal from g1 (ix2 a b)) * (blockProd x1 w1 a b + blockProd x2 w2 a b)
      + Ideal.logistic (show EReal from g2 (ix2 a b)) * blockProd x3 w3 a b := by
  unfold k0_pay1 blockProd
  pointwise

theorem left_half (x : Vec Ideal S1024x2048 .bf16) (a k : Fin 1024) :
    View.ld x r0_2 (ix2 a k : S1024x1024.Idx) = x (ix2 a (⟨k, by omega⟩ : Fin 2048) : S1024x2048.Idx) := by
  refine View.ld_unit_apply_of x _ _ _ _ _ fun u => ?_
  match u with
  | ⟨0, _⟩ => show a.val = 0 + a.val; omega
  | ⟨1, _⟩ => show k.val = 0 + k.val; omega

theorem right_half (x : Vec Ideal S1024x2048 .bf16) (a k : Fin 1024) :
    View.ld x r0_3 (ix2 a k : S1024x1024.Idx) = x (ix2 a (⟨1024 + k, by omega⟩ : Fin 2048) : S1024x2048.Idx) := by
  refine View.ld_unit_apply_of x _ _ _ _ _ fun u => ?_
  match u with
  | ⟨0, _⟩ => show a.val = 0 + a.val; omega
  | ⟨1, _⟩ => show 1024 + k.val = 1024 + k.val; omega

/-- The kernel's array is the gated sum of the branches. -/
theorem array : (dats m 0 c).arrAt 10 cfg0.N
    = merged (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 10 _ (by decide +kernel) fun t hf y => ?_
  blk_simp
  rw [after0_10]
  obtain ⟨a, b, rfl⟩ : ∃ (a : Fin 1024) (b : Fin 512), y = ix2 a b := ⟨y 0, y 1, by blk_ext⟩
  have ht := points t
  obtain ⟨i0, i1, i2, i3, i4, i5, i6⟩ := index_in t
  obtain ⟨i7, i8, i9, i10⟩ := index_gates t
  have hr : 1024 * (t.val / 8) + a < 16384 := by omega
  have hj : 512 * (t.val % 8) + b < 4096 := by omega
  have hemb : (win0_10.blk t).view.emb (ix2 a b : S1024x512.Idx)
      = (ix2 (⟨1024 * (t.val / 8) + a, hr⟩ : Fin 16384) (⟨512 * (t.val % 8) + b, hj⟩ : Fin 4096) : S16384x4096.Idx) := by
    blk_ext [i10]
  have h0 : ∀ k : Fin 1024, iblk m c 0 t (ix2 a k : S1024x1024.Idx) = m ((c : Thread nD τ).loc main_arg0)
      (ix2 (⟨1024 * (t.val / 8) + a, hr⟩ : Fin 16384) k : S16384x1024.Idx) := fun k => by blk_ext [iblk, V, i0]
  have h1 : ∀ k : Fin 2048, iblk m c 1 t (ix2 a k : S1024x2048.Idx) = m ((c : Thread nD τ).loc main_arg1)
      (ix2 (⟨1024 * (t.val / 8) + a, hr⟩ : Fin 16384) k : S16384x2048.Idx) := fun k => by blk_ext [iblk, V, i1]
  have h2 : ∀ k : Fin 1024, iblk m c 2 t (ix2 a k : S1024x1024.Idx) = m ((c : Thread nD τ).loc main_arg2)
      (ix2 (⟨1024 * (t.val / 8) + a, hr⟩ : Fin 16384) k : S16384x1024.Idx) := fun k => by blk_ext [iblk, V, i2]
  have h3 : ∀ k : Fin 1024, iblk m c 3 t (ix2 k b : S1024x512.Idx) = V m c main_v0
      (ix2 (⟨0 + k, by omega⟩ : Fin 4096) (⟨512 * (t.val % 8) + b, hj⟩ : Fin 4096) : S4096x4096.Idx) := fun k => by
    blk_ext [iblk, i3]
  have h4 : ∀ k : Fin 1024, iblk m c 4 t (ix2 k b : S1024x512.Idx) = V m c main_v0
      (ix2 (⟨1024 + k, by omega⟩ : Fin 4096) (⟨512 * (t.val % 8) + b, hj⟩ : Fin 4096) : S4096x4096.Idx) := fun k => by
    blk_ext [iblk, i4]
  have h5 : ∀ k : Fin 1024, iblk m c 5 t (ix2 k b : S1024x512.Idx) = V m c main_v0
      (ix2 (⟨2048 + k, by omega⟩ : Fin 4096) (⟨512 * (t.val % 8) + b, hj⟩ : Fin 4096) : S4096x4096.Idx) := fun k => by
    blk_ext [iblk, i5]
  have h6 : ∀ k : Fin 1024, iblk m c 6 t (ix2 k b : S1024x512.Idx) = V m c main_v0
      (ix2 (⟨3072 + k, by omega⟩ : Fin 4096) (⟨512 * (t.val % 8) + b, hj⟩ : Fin 4096) : S4096x4096.Idx) := fun k => by
    blk_ext [iblk, i6]
  have h7 : iblk m c 7 t (ix2 a b : S1024x512.Idx) = m ((c : Thread nD τ).loc main_arg4)
      (ix2 (⟨1024 * (t.val / 8) + a, hr⟩ : Fin 16384) (⟨16384 + (512 * (t.val % 8) + b), by omega⟩ : Fin 28672) : S16384x28672.Idx) := by
    blk_ext [iblk, V, i7]
  have h8 : iblk m c 8 t (ix2 a b : S1024x512.Idx) = m ((c : Thread nD τ).loc main_arg4)
      (ix2 (⟨1024 * (t.val / 8) + a, hr⟩ : Fin 16384) (⟨20480 + (512 * (t.val % 8) + b), by omega⟩ : Fin 28672) : S16384x28672.Idx) := by
    blk_ext [iblk, V, i8]
  have h9 : iblk m c 9 t (ix2 a b : S1024x512.Idx) = m ((c : Thread nD τ).loc main_arg4)
      (ix2 (⟨1024 * (t.val / 8) + a, hr⟩ : Fin 16384) (⟨24576 + (512 * (t.val % 8) + b), by omega⟩ : Fin 28672) : S16384x28672.Idx) := by
    blk_ext [iblk, V, i9]
  rw [hemb, merged_at, wide_halves]
  unfold out0_10
  frame_out
  refine (payload _ _ _ _ _ _ _ _ _ _ _ a b).trans ?_
  refine congrArg₂ (· + ·) (congrArg₂ (· + ·) (congrArg₂ (· * ·) (congrArg Ideal.logistic h7) ?_)
    (congrArg₂ (· * ·) (congrArg Ideal.logistic h8) (congrArg₂ (· + ·) ?_ ?_))) (congrArg₂ (· * ·) (congrArg Ideal.logistic h9) ?_)
  · refine Finset.sum_congr rfl fun k _ => ?_
    rw [h0, h3, weights]
  · refine Finset.sum_congr rfl fun k _ => ?_
    rw [left_half, h1, h4, weights]
  · refine Finset.sum_congr rfl fun k _ => ?_
    rw [right_half, h1, h5, weights]
  · refine Finset.sum_congr rfl fun k _ => ?_
    rw [h2, h6, weights]

end Products.Merge

end
-- ==== Proof.Products.MergeRef.lean ====
/-
  The reference's gated sum of the branches, entry by entry.
-/
module

public import proofs.«01_k».proof.Proof.Products.Merge
public import proofs.«01_k».proof.Proof.Gen.Reference5Ideal.Run

@[expose] public section

set_option maxRecDepth 16384

noncomputable section

namespace Products.Merge.Ref

open Cert.Reference5Ideal Cert.Reference5Ideal.Gen Idealize.ShloMosaic Idealize.ShloMosaic.TcCoe Idealize.SL.Sem

/-- The reference's result is the gated sum. -/
theorem result (x0 : FVec Ideal S16384x1024 .bf16) (x1 : FVec Ideal S16384x2048 .bf16) (x2 : FVec Ideal S16384x1024 .bf16)
    (x3 : FVec Ideal S4096x4096 .f32) (x4 : FVec Ideal S16384x28672 .bf16) :
    (truncf .bf16 (addf (addf (mulf (extractStridedSlice S16384x4096 ![0, 0] (Host.divf (broadcastInDim S16384x12288 ![] bcast_S_S16384x12288 (constant S_ .f32 0x3F800000#32)) (addf (broadcastInDim S16384x12288 ![] bcast_S_S16384x12288 (constant S_ .f32 0x3F800000#32)) (Host.exp (Host.negf (extf .f32 (extractStridedSlice S16384x12288 ![0, 16384] x4 slices_S16384x28672_S16384x12288_0_16384) bitsLt_bf16_f32))))) slices_S16384x12288_S16384x4096_0_0) (Host.dotGeneral dot_S16384x1024_S1024x4096_S16384x4096_1_0_0_1_n_n none (extf .f32 x0 bitsLt_bf16_f32) (extractStridedSlice S1024x4096 ![0, 0] x3 slices_S4096x4096_S1024x4096_0_0))) (mulf (extractStridedSlice S16384x4096 ![0, 4096] (Host.divf (broadcastInDim S16384x12288 ![] bcast_S_S16384x12288 (constant S_ .f32 0x3F800000#32)) (addf (broadcastInDim S16384x12288 ![] bcast_S_S16384x12288 (constant S_ .f32 0x3F800000#32)) (Host.exp (Host.negf (extf .f32 (extractStridedSlice S16384x12288 ![0, 16384] x4 slices_S16384x28672_S16384x12288_0_16384) bitsLt_bf16_f32))))) slices_S16384x12288_S16384x4096_0_4096) (Host.dotGeneral dot_S16384x2048_S2048x4096_S16384x4096_1_0_0_1_n_n none (extf .f32 x1 bitsLt_bf16_f32) (extractStridedSlice S2048x4096 ![1024, 0] x3 slices_S4096x4096_S2048x4096_1024_0)))) (mulf (extractStridedSlice S16384x4096 ![0, 8192] (Host.divf (broadcastInDim S16384x12288 ![] bcast_S_S16384x12288 (constant S_ .f32 0x3F800000#32)) (addf (broadcastInDim S16384x12288 ![] bcast_S_S16384x12288 (constant S_ .f32 0x3F800000#32)) (Host.exp (Host.negf (extf .f32 (extractStridedSlice S16384x12288 ![0, 16384] x4 slices_S16384x28672_S16384x12288_0_16384) bitsLt_bf16_f32))))) slices_S16384x12288_S16384x4096_0_8192) (Host.dotGeneral dot_S16384x1024_S1024x4096_S16384x4096_1_0_0_1_n_n none (extf .f32 x2 bitsLt_bf16_f32) (extractStridedSlice S1024x4096 ![3072, 0] x3 slices_S4096x4096_S1024x4096_3072_0)))) bitsLt_bf16_f32 : FVec Ideal S16384x4096 .bf16) = merged x0 x1 x2 x3 x4 := by
  funext i
  obtain ⟨r, j, rfl⟩ : ∃ (r : Fin 16384) (j : Fin 4096), i = ix2 r j := ⟨i 0, i 1, by blk_ext⟩
  rw [merged_at]
  unfold gate narrow wide
  pointwise
  simp only [Ideal.logistic, ← Nat.add_assoc, Nat.reduceAdd]

end Products.Merge.Ref

end
-- ==== Proof.Products.MergeClaims.lean ====
/-
  The claims about the gated sum of the branches: frames, and equality of the kernel's result and the reference's.
-/
module

public import proofs.«01_k».proof.Defs
public import proofs.«01_k».proof.Proof.Gen.Kernel5.Frame
public import proofs.«01_k».proof.Proof.Products.Merge
public import proofs.«01_k».proof.Proof.Products.MergeRef
public import Idealize.ShloMosaic.Lib.Quiescent

@[expose] public section

set_option maxRecDepth 16384

noncomputable section

namespace Products.Merge.Claims

open Idealize.ShloMosaic Idealize.ShloMosaic.TcCoe Idealize.SL.Sem

attribute [local instance] Cert.Kernel5.Gen.facts Cert.Kernel5Ideal.Gen.facts Cert.Reference5Ideal.Gen.facts

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem preserves : Cert.preserves_Kernel5_Kernel5Ideal := trivial

theorem algebraic : Cert.algebraic_Kernel5Ideal_Reference5Ideal := by
  intro m ρ m' ρ' _ hag
  refine ⟨fun c => merged (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)) (m ((c.tc : Thread _ _).loc Cert.Kernel5Ideal.main_arg4)), ?_, ?_⟩
  · refine (θ_run Cert.Kernel5Ideal.defs _ _).mono (fun r h c => ?_) (Cert.Kernel5Ideal.Value.run_blocks (F := Ideal) m ρ)
    exact ⟨(h c).1.trans (array m c), (h c).2⟩
  · refine (θ_run Cert.Reference5Ideal.defs _ _).mono (fun r h c => ?_) (Cert.Reference5Ideal.Value.run (F := Ideal) m' ρ')
    refine ⟨(h c).1.trans ((Ref.result _ _ _ _ _).trans ?_), (h c).2⟩
    obtain ⟨h0, h1, h2, h3, h4⟩ := hag c
    rw [h0, h1, h2, h3, h4]

end Products.Merge.Claims

end
-- ==== Proof.Products.Output.lean ====
/-
  The layer's output projection, added to the stream it came from: the array the kernel leaves, entry by entry.
-/
module

public import proofs.«01_k».proof.Proof.Gen.Kernel6Ideal.Value
public import Idealize.ShloMosaic.Lib.Claim
public import Idealize.ShloMosaic.Lib.StableHlo.ReadAt
public import Idealize.ShloMosaic.Lib.Pipeline.ValueKit
public import Idealize.ShloMosaic.Lib.Pipeline.Covers

@[expose] public section

set_option maxRecDepth 16384

noncomputable section

namespace Products.Output

open Cert.Kernel6Ideal Cert.Kernel6Ideal.Gen Idealize.ShloMosaic Idealize.ShloMosaic.TcCoe Idealize.SL.Sem

/-- Batch element of a row of all batches' tokens. -/
def batch (r : Fin 16384) : Fin 4 := ⟨r / 4096, by omega⟩

/-- Token, within its batch element, of a row of all batches' tokens. -/
def token (r : Fin 16384) : Fin 4096 := ⟨r % 4096, by omega⟩

/-- The stream with the gated product added. -/
def output (x : Vec Ideal S16384x4096 .bf16) (w : Vec Ideal S4096x4096 .f32) (s : Vec Ideal S4x4096x4096 .f32)
    (g : Vec Ideal S4x1x4096 .f32) : Vec Ideal S16384x4096 .f32 := fun i =>
  (show EReal from s (ix3 (batch (i 0)) (token (i 0)) (i 1))) + (show EReal from g (ix3 (batch (i 0)) 0 (i 1)))
    * ∑ k : Fin 4096, (show EReal from x (ix2 (i 0) k)) * (show EReal from w (ix2 k (i 1)))

theorem output_at (x : Vec Ideal S16384x4096 .bf16) (w : Vec Ideal S4096x4096 .f32) (s : Vec Ideal S4x4096x4096 .f32)
    (g : Vec Ideal S4x1x4096 .f32) (r : Fin 16384) (j : Fin 4096) : output x w s g (ix2 r j)
      = (show EReal from s (ix3 (batch r) (token r) j)) + (show EReal from g (ix3 (batch r) 0 j))
        * ∑ k : Fin 4096, (show EReal from x (ix2 r k)) * (show EReal from w (ix2 k j)) := rfl

theorem index_at : ∀ t : Fin cfg0.N,
    win0_0.index t = ![t.val / 4, 0] ∧ win0_1.index t = ![0, t.val % 4] ∧ win0_2.index t = ![t.val / 4, t.val % 4]
    ∧ win0_3.index t = ![t.val / 16, 0, t.val % 4] ∧ win0_4.index t = ![t.val / 4, t.val % 4] :=
  (by decide +kernel : ∀ t : Fin grid0.N, _)

theorem points (t : Fin cfg0.N) : t.val < 64 := t.isLt

variable (m : (ℓ : Loc nD τ sig) → Buf (Elt Ideal) ℓ) (c : Dev nD)

/-- The weights as the host prepares them. -/
theorem weights (k j : Fin 4096) :
    V m c main_v0 (ix2 k j : S4096x4096.Idx) = m ((c : Thread nD τ).loc main_arg1) (ix2 k j : S4096x4096.Idx) := by
  unfold V
  simp only [hostOps0, List.flatten_cons, List.flatten_nil, List.append_nil, List.cons_append,
    List.nil_append]
  after_reads_at

/-- The stream as the host lays it out. -/
theorem stream (b : Fin 4) (t j : Fin 4096) :
    V m c main_v1 (ix2 (⟨4096 * b + t, by omega⟩ : Fin 16384) j : S16384x4096.Idx)
      = m ((c : Thread nD τ).loc main_arg2) (ix3 b t j : S4x4096x4096.Idx) := by
  unfold V
  simp only [hostOps0, List.flatten_cons, List.flatten_nil, List.append_nil, List.cons_append,
    List.nil_append]
  after_reads_at

/-- The block a grid point stores. -/
theorem payload (x : Vec Ideal S1024x4096 .bf16) (w : Vec Ideal S4096x1024 .bf16) (s : Vec Ideal S1024x1024 .f32)
    (g : Vec Ideal S1x1x1024 .f32) (a b : Fin 1024) :
    k0_pay1 x w s g (ix2 a b) = (show EReal from s (ix2 a b)) + (show EReal from g (ix3 0 0 b))
      * ∑ k : Fin 4096, (show EReal from x (ix2 a k)) * (show EReal from w (ix2 k b)) := by
  unfold k0_pay1
  pointwise

/-- The kernel's array is the stream with the gated product added. -/
theorem array : (dats m 0 c).arrAt 4 cfg0.N
    = output (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  obtain ⟨a, b, rfl⟩ : ∃ (a b : Fin 1024), y = ix2 a b := ⟨y 0, y 1, by blk_ext⟩
  have ht := points t
  obtain ⟨i0, i1, i2, i3, i4⟩ := index_at t
  have hemb : (win0_4.blk t).view.emb (ix2 a b : S1024x1024.Idx)
      = (ix2 (⟨1024 * (t.val / 4) + a, by omega⟩ : Fin 16384) (⟨1024 * (t.val % 4) + b, by omega⟩ : Fin 4096) : S16384x4096.Idx) := by
    blk_ext [i4]
  have h0 : ∀ k : Fin 4096, iblk m c 0 t (ix2 a k : S1024x4096.Idx) = m ((c : Thread nD τ).loc main_arg0)
      (ix2 (⟨1024 * (t.val / 4) + a, by omega⟩ : Fin 16384) k : S16384x4096.Idx) := fun k => by
    blk_ext [iblk, V, i0]
  have h1 : ∀ k : Fin 4096, iblk m c 1 t (ix2 k b : S4096x1024.Idx) = V m c main_v0
      (ix2 k (⟨1024 * (t.val % 4) + b, by omega⟩ : Fin 4096) : S4096x4096.Idx) := fun k => by
    blk_ext [iblk, i1]
  have hr : (⟨1024 * (t.val / 4) + a, by omega⟩ : Fin 16384)
      = ⟨4096 * ((⟨t.val / 16, by omega⟩ : Fin 4) : ℕ) + ((⟨1024 * (t.val / 4 % 4) + a, by omega⟩ : Fin 4096) : ℕ), by
        dsimp only; omega⟩ := Fin.ext (by dsimp only; omega)
  have h2 : iblk m c 2 t (ix2 a b : S1024x1024.Idx) = V m c main_v1
      (ix2 (⟨1024 * (t.val / 4) + a, by omega⟩ : Fin 16384) (⟨1024 * (t.val % 4) + b, by omega⟩ : Fin 4096) : S16384x4096.Idx) := by
    blk_ext [iblk, i2]
  have h3 : iblk m c 3 t (ix3 0 0 b : S1x1x1024.Idx) = m ((c : Thread nD τ).loc main_arg3)
      (ix3 (⟨t.val / 16, by omega⟩ : Fin 4) 0 (⟨1024 * (t.val % 4) + b, by omega⟩ : Fin 4096) : S4x1x4096.Idx) := by
    blk_ext [iblk, V, i3]
  have hb : batch ⟨1024 * (t.val / 4) + a, by omega⟩ = (⟨t.val / 16, by omega⟩ : Fin 4) :=
    Fin.ext (by show (1024 * (t.val / 4) + a.val) / 4096 = _; dsimp only; omega)
  have hk : token ⟨1024 * (t.val / 4) + a, by omega⟩ = (⟨1024 * (t.val / 4 % 4) + a, by omega⟩ : Fin 4096) :=
    Fin.ext (by show (1024 * (t.val / 4) + a.val) % 4096 = _; dsimp only; omega)
  rw [hemb]
  unfold out0_4
  frame_out
  refine (payload _ _ _ _ a b).trans ?_
  rw [h2, h3, hr, stream, ← hr]
  rw [output_at, hb, hk]
  refine congrArg _ (congrArg _ (Finset.sum_congr rfl fun k _ => ?_))
  rw [h0, h1, weights]

end Products.Output

end
-- ==== Proof.Products.OutputRef.lean ====
/-
  The reference's output projection and sum, entry by entry.
-/
module

public import proofs.«01_k».proof.Proof.Products.Output
public import proofs.«01_k».proof.Proof.Gen.Reference6Ideal.Run

@[expose] public section

set_option maxRecDepth 16384

noncomputable section

namespace Products.Output.Ref

open Cert.Reference6Ideal Cert.Reference6Ideal.Gen Idealize.ShloMosaic Idealize.ShloMosaic.TcCoe Idealize.SL.Sem

/-- The reference's result is the stream with the gated product added. -/
theorem result (x0 : FVec Ideal S16384x4096 .bf16) (x1 : FVec Ideal S4096x4096 .f32) (x2 : FVec Ideal S4x4096x4096 .f32)
    (x3 : FVec Ideal S4x1x4096 .f32) :
    (shapeCast S16384x4096 (addf x2 (mulf (broadcastInDim S4x4096x4096 ![0, 1, 2] bcast_S4x1x4096_S4x4096x4096_0_1_2 x3) (shapeCast S4x4096x4096 (Host.dotGeneral dot_S16384x4096_S4096x4096_S16384x4096_1_0_0_1_n_n none (extf .f32 x0 bitsLt_bf16_f32) x1) shapeCasts_S16384x4096_S4x4096x4096))) shapeCasts_S4x4096x4096_S16384x4096 : FVec Ideal S16384x4096 .f32) = output x0 x1 x2 x3 := by
  funext i
  obtain ⟨b, t, j, rfl⟩ : ∃ (b : Fin 4) (t j : Fin 4096), i = ix2 (⟨b * 4096 + t, by omega⟩ : Fin 16384) j :=
    ⟨batch (i 0), token (i 0), i 1, by blk_ext [batch, token]⟩
  have hb : batch ⟨b * 4096 + t, by omega⟩ = b := Fin.ext (by show (b.val * 4096 + t.val) / 4096 = _; omega)
  have ht : token ⟨b * 4096 + t, by omega⟩ = t := Fin.ext (by show (b.val * 4096 + t.val) % 4096 = _; omega)
  rw [output_at, hb, ht]
  pointwise

end Products.Output.Ref

end
-- ==== Proof.Products.OutputClaims.lean ====
/-
  The claims about the output projection: frames, and equality of the kernel's result and the reference's.
-/
module

public import proofs.«01_k».proof.Defs
public import proofs.«01_k».proof.Proof.Gen.Kernel6.Frame
public import proofs.«01_k».proof.Proof.Products.Output
public import proofs.«01_k».proof.Proof.Products.OutputRef
public import Idealize.ShloMosaic.Lib.Quiescent

@[expose] public section

set_option maxRecDepth 16384

noncomputable section

namespace Products.Output.Claims

open Idealize.ShloMosaic Idealize.ShloMosaic.TcCoe Idealize.SL.Sem

attribute [local instance] Cert.Kernel6.Gen.facts Cert.Kernel6Ideal.Gen.facts Cert.Reference6Ideal.Gen.facts

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem preserves : Cert.preserves_Kernel6_Kernel6Ideal := trivial

theorem algebraic : Cert.algebraic_Kernel6Ideal_Reference6Ideal := by
  intro m ρ m' ρ' _ hag
  refine ⟨fun c => output (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg3)), ?_, ?_⟩
  · refine (θ_run Cert.Kernel6Ideal.defs _ _).mono (fun r h c => ?_) (Cert.Kernel6Ideal.Value.run_blocks (F := Ideal) m ρ)
    exact ⟨(h c).1.trans (array m c), (h c).2⟩
  · refine (θ_run Cert.Reference6Ideal.defs _ _).mono (fun r h c => ?_) (Cert.Reference6Ideal.Value.run (F := Ideal) m' ρ')
    refine ⟨(h c).1.trans ((Ref.result _ _ _ _).trans ?_), (h c).2⟩
    obtain ⟨h0, h1, h2, h3⟩ := hag c
    rw [h0, h1, h2, h3]

end Products.Output.Claims

end
-- ==== Proof.Experts.Kernel7Ideal.Table.lean ====
/-
  The table of the tiles' experts: what the precondition says of it, and so every weight block is inside the weights.
-/
module

public import proofs.«01_k».proof.Defs
public import proofs.«01_k».proof.Proof.Experts.Kernel7Ideal.Setting
public import proofs.«01_k».proof.Proof.Gen.Pre_experts_named
public import Idealize.ShloMosaic.Lib.StableHlo.Predicate
public import Idealize.ShloMosaic.Lib.Pointwise.Index

@[expose] public section

set_option maxRecDepth 16384

noncomputable section

namespace Experts.Kernel7Ideal

open Cert.Kernel7Ideal Cert.Kernel7Ideal.Gen
open Idealize.ShloMosaic Idealize.ShloMosaic.TcCoe

attribute [local instance] Cert.Pre_experts_named.Gen.facts

variable {F : FTy → Type} [FloatOps F]

/-- The expert of the tile of a grid point, as the table has it. -/
def expertAt (pf : pre0.Contents (Elt F)) (i : grid0.Coords) : BitVec 32 := pf 0 (ix1 (⟨(i 1).val, (i 1).isLt⟩ : Fin 72) : S72.Idx)

theorem word_at (pf : pre0.Contents (Elt F)) (i : grid0.Coords) :
    pf.at 0 (Rect.unit (s := S72) (k0_off1 i) S1.size (k0_off1_inb i)) numel1_S1 = expertAt pf i := by
  refine congrArg (pf 0) (funext fun a => Fin.ext ?_)
  match a with
  | ⟨0, _⟩ =>
    show (BitVec.ofNat 32 (i 1).val).toNat + 1 * _ = (i 1).val
    have h : (i 1).val < 72 := (i 1).isLt
    rw [BitVec.toNat_ofNat, Nat.mod_eq_of_lt (by omega)]
    have hz : ∀ x : Fin 1, x.val = 0 := fun x => by omega
    exact (congrArg (fun z => (i 1).val + 1 * z) (hz _)).trans (by omega)

/-- The weight block a grid point reads. -/
theorem block_at_1 (pf : pre0.Contents (Elt F)) (i : grid0.Coords) :
    cc0_transform_1 k0_off1_inb numel1_S1 pf i = ![(expertAt pf i).toNat, 0, (i 0).val] := by
  have h : (i 0).val < 4 := (i 0).isLt
  have h0 : (BitVec.ofNat 32 (i 0).val).toNat = (i 0).val := by rw [BitVec.toNat_ofNat, Nat.mod_eq_of_lt (by omega)]
  have h1 := word_at pf i
  unfold cc0_transform_1
  show ![(pf.at 0 (Rect.unit (s := S72) (k0_off1 i) S1.size (k0_off1_inb i)) numel1_S1).toNat, 0, (BitVec.ofNat 32 (i 0).val).toNat] = _
  rw [h0, h1]

/-- The weight block a grid point reads. -/
theorem block_at_2 (pf : pre0.Contents (Elt F)) (i : grid0.Coords) :
    cc0_transform_2 k0_off1_inb numel1_S1 pf i = ![(expertAt pf i).toNat, 0, (i 0).val] := by
  have h : (i 0).val < 4 := (i 0).isLt
  have h0 : (BitVec.ofNat 32 (i 0).val).toNat = (i 0).val := by rw [BitVec.toNat_ofNat, Nat.mod_eq_of_lt (by omega)]
  have h1 := word_at pf i
  unfold cc0_transform_2
  show ![(pf.at 0 (Rect.unit (s := S72) (k0_off1 i) S1.size (k0_off1_inb i)) numel1_S1).toNat, 0, (BitVec.ofNat 32 (i 0).val).toNat] = _
  rw [h0, h1]

variable (m : (ℓ : Loc nD τ sig) → Buf (Elt F) ℓ)

/-- Every tile's expert is one of the eight: then the weight blocks are inside the weights. -/
theorem ok_of_range (hr : ∀ x : S72.Idx, (show BitVec 32 from m (((0 : Dev nD) : Thread nD τ).loc main_arg4) x).toNat < 8) : Ok m := by
  have ht : ∀ i : grid0.Coords, (expertAt (tbl m) i).toNat < 8 := fun i => by
    have e : tbl m 0 = m (((0 : Dev nD) : Thread nD τ).loc main_arg4) := V_main_arg4 m 0
    unfold expertAt
    rw [e]
    exact hr _
  unfold Ok ok0
  refine ⟨fun i => ⟨fun a => by
    have h0 := ht i
    have h1 : (i 0).val < 4 := (i 0).isLt
    rw [block_at_1]
    match a with
    | ⟨0, _⟩ => show ((expertAt (tbl m) i).toNat + 1) * 1 ≤ 8; omega
    | ⟨1, _⟩ => show (0 + 1) * 4096 ≤ 4096; omega
    | ⟨2, _⟩ => show ((i 0).val + 1) * 512 ≤ 2048; omega,
    .inr (Affine.block_words_dvd (of_decide_eq_true rfl) (by decide))⟩, fun i => ⟨fun a => by
    have h0 := ht i
    have h1 : (i 0).val < 4 := (i 0).isLt
    rw [block_at_2]
    match a with
    | ⟨0, _⟩ => show ((expertAt (tbl m) i).toNat + 1) * 1 ≤ 8; omega
    | ⟨1, _⟩ => show (0 + 1) * 4096 ≤ 4096; omega
    | ⟨2, _⟩ => show ((i 0).val + 1) * 512 ≤ 2048; omega,
    .inr (Affine.block_words_dvd (of_decide_eq_true rfl) (by decide))⟩⟩

/-- The precondition says so. -/
theorem range_of_pre (m : (ℓ : Loc nD τ sig) → Buf (Elt Ideal) ℓ) (h : Cert.Pre_Kernel7Ideal m) (c : Dev nD) (x : S72.Idx) :
    (show BitVec 32 from m ((c : Thread nD τ).loc main_arg4) x).toNat < 8 := by
  have e := congrFun (h c) x
  simp only [Cert.Pre_experts_named.fn, andi, cmpi] at e
  generalize m ((c : Thread nD τ).loc main_arg4) x = v at e ⊢
  revert e
  show IntOp.andi (BitVec.ofBool ((0#32).sle v)) (BitVec.ofBool (v.slt 8#32)) = 1#1 → v.toNat < 8
  rw [WordCmp.andi_ofBool, WordCmp.ofBool_eq_one_iff, Bool.and_eq_true, BitVec.sle_eq_decide, BitVec.slt_eq_decide]
  simp only [decide_eq_true_eq]
  intro ⟨h0, h8⟩
  have t0 : (0#32).toInt = 0 := rfl
  have t8 : (8#32).toInt = 8 := rfl
  rw [t0] at h0
  rw [t8] at h8
  have := BitVec.toInt_eq_toNat_cond v
  have hlt := v.isLt
  split at this <;> omega

theorem ok_of_pre (m : (ℓ : Loc nD τ sig) → Buf (Elt Ideal) ℓ) (h : Cert.Pre_Kernel7Ideal m) : Ok m := ok_of_range m (range_of_pre m h 0)

end Experts.Kernel7Ideal

end
-- ==== Proof.Experts.Tiles.lean ====
/-
  The experts' tiles of rows: which tiles are used, whose weights a tile goes through, and the sum over the experts that
  picks out a tile's own.
-/
module

public import proofs.«01_k».proof.Kernel8Ideal
public import Idealize.ShloMosaic.Lib.Claim
public import Idealize.ShloMosaic.Lib.StableHlo.Predicate
public import Idealize.ShloMosaic.Lib.Pointwise.Index
public import Idealize.ShloMosaic.Lib.Pipeline.ValueKit

@[expose] public section

set_option maxRecDepth 16384

noncomputable section

namespace Experts.Tiles

open Cert.Kernel8Ideal Idealize.ShloMosaic

/-- The tile is among the used ones. -/
def used (nu : IVec S1 32) (t : ℕ) : Prop := (BitVec.ofNat 32 t).slt (nu (ix1 (0 : Fin 1))) = true

instance (nu : IVec S1 32) (t : ℕ) : Decidable (used nu t) := by unfold used; infer_instance

/-- The expert of a tile. -/
def expert (te : IVec S72 32) (t : Fin 72) : Fin 8 := ⟨(te (ix1 t)).toNat % 8, Nat.mod_lt _ (by omega)⟩

theorem select_slt {α : Type} (u v : BitVec 32) (x y : α) :
    Scalar.select (IntOp.cmpi .slt u v) x y = if u.slt v = true then x else y := by
  show (if BitVec.ofBool (u.slt v) = 1 then x else y) = _
  cases u.slt v <;> rfl

theorem select_eq {α : Type} (u v : BitVec 32) (x y : α) :
    Scalar.select (IntOp.cmpi .eq u v) x y = if u = v then x else y := by
  show (if BitVec.ofBool (u == v) = 1 then x else y) = _
  by_cases h : u = v
  · subst h; simp
  · have : (u == v) = false := by simpa using h
    rw [this, if_neg h]; rfl

/-- Over the eight experts, only a used tile's own contributes. -/
theorem sum_own (te : IVec S72 32) (nu : IVec S1 32) (t : Fin 72) (hr : (te (ix1 t)).toNat < 8) (f : Fin 8 → EReal) :
    (∑ e : Fin 8, Scalar.select (IntOp.cmpi .eq
        (Scalar.select (IntOp.cmpi .slt (BitVec.ofNat 32 t.val) (nu (ix1 (0 : Fin 1)))) (te (ix1 t)) 4294967295#32)
        (BitVec.ofNat 32 e.val)) (f e) (0 : EReal))
      = if used nu t.val then f (expert te t) else 0 := by
  have he : ∀ e : Fin 8, (BitVec.ofNat 32 e.val).toNat = e.val := fun e => by
    rw [BitVec.toNat_ofNat, Nat.mod_eq_of_lt (by omega)]
  simp only [select_slt, select_eq]
  by_cases hu : used nu t.val
  · rw [if_pos hu]
    have hu' : (BitVec.ofNat 32 t.val).slt (nu (ix1 (0 : Fin 1))) = true := hu
    rw [if_pos hu']
    have hx : (expert te t).val = (te (ix1 t)).toNat := Nat.mod_eq_of_lt hr
    rw [Finset.sum_eq_single (expert te t)]
    · rw [if_pos (BitVec.eq_of_toNat_eq (by rw [he, hx]))]
    · intro e _ hne
      refine if_neg fun h => hne (Fin.ext ?_)
      rw [hx, h, he]
    · exact fun h => absurd (Finset.mem_univ _) h
  · rw [if_neg hu]
    have hu' : ¬ (BitVec.ofNat 32 t.val).slt (nu (ix1 (0 : Fin 1))) = true := hu
    rw [if_neg hu']
    refine Finset.sum_eq_zero fun e _ => if_neg fun h => ?_
    have := congrArg BitVec.toNat h
    rw [he] at this
    have h2 : (4294967295#32).toNat = 4294967295 := rfl
    omega

end Experts.Tiles

end
-- ==== Proof.Experts.Gate.lean ====
/-
  The experts' gated hidden layer: the array the kernel leaves, entry by entry.
-/
module

public import proofs.«01_k».proof.Proof.Experts.Kernel7Ideal.Frame
public import proofs.«01_k».proof.Proof.Experts.Kernel7Ideal.Table
public import proofs.«01_k».proof.Proof.Experts.Tiles
public import Idealize.ShloMosaic.Lib.Claim
public import Idealize.ShloMosaic.Lib.StableHlo.ReadAt
public import Idealize.ShloMosaic.Lib.Pipeline.ValueKit
public import Idealize.ShloMosaic.Lib.Pipeline.Covers

@[expose] public section

set_option maxRecDepth 16384

noncomputable section

namespace Experts.Gate

open Cert.Kernel7Ideal Cert.Kernel7Ideal.Gen Experts.Kernel7Ideal Experts.Tiles Idealize.ShloMosaic Idealize.ShloMosaic.TcCoe Idealize.SL.Sem

/-- An entry of the product with an expert's weights. -/
def prod (x : Vec Ideal S36864x4096 .f32) (w : Vec Ideal S8x4096x2048 .f32) (e : Fin 8) (r : Fin 36864) (j : Fin 2048) : EReal :=
  ∑ k : Fin 4096, (show EReal from x (ix2 r k)) * (show EReal from w (ix3 e k j))

/-- SiLU of a row's gate product times its up product, times the row's weight. -/
def entry (x : Vec Ideal S36864x4096 .f32) (wg wu : Vec Ideal S8x4096x2048 .f32) (wr : Vec Ideal S36864 .f32)
    (e : Fin 8) (r : Fin 36864) (j : Fin 2048) : EReal :=
  prod x wg e r j * Ideal.logistic (prod x wg e r j) * prod x wu e r j * (show EReal from wr (ix1 r))

/-- Each row of a used tile through its expert's gate and up weights, and zeros in the rows of the others. -/
def gate (x : Vec Ideal S36864x4096 .f32) (wg wu : Vec Ideal S8x4096x2048 .f32) (wr : Vec Ideal S36864 .f32)
    (te : IVec S72 32) (nu : IVec S1 32) : Vec Ideal S36864x2048 .bf16 := fun i =>
  if used nu ((i 0).val / 512) then
    entry x wg wu wr (expert te ⟨(i 0).val / 512, by have : (i 0).val < 36864 := (i 0).isLt; omega⟩) (i 0) (i 1)
  else (0 : EReal)

/-- An entry in a tile's row. -/
theorem gate_row (x : Vec Ideal S36864x4096 .f32) (wg wu : Vec Ideal S8x4096x2048 .f32) (wr : Vec Ideal S36864 .f32)
    (te : IVec S72 32) (nu : IVec S1 32) (r : Fin 36864) (j : Fin 2048) (t : Fin 72) (ht : r.val / 512 = t.val) :
    gate x wg wu wr te nu (ix2 r j : S36864x2048.Idx)
      = if used nu t.val then entry x wg wu wr (expert te t) r j else (0 : EReal) := by
  obtain ⟨t, hlt⟩ := t
  obtain rfl : r.val / 512 = t := ht
  rfl

/-- What the index maps say at each grid point. -/
theorem index_at : ∀ t : Fin grid0.N,
    cc0_transform_0 (grid0.coords t) = ![t.val % 72, 0] ∧ cc0_transform_4 (grid0.coords t) = ![t.val % 72, t.val / 72]
    ∧ (grid0.coords t 0).val = t.val / 72 ∧ (grid0.coords t 1).val = t.val % 72
    ∧ cc0_transform_3 (grid0.coords t) = ![t.val % 72, 0] := by decide +kernel

theorem points (t : Fin grid0.N) : t.val < 288 := t.isLt

variable (m : (ℓ : Loc nD τ sig) → Buf (Elt Ideal) ℓ) (hO : Ok m) (c : Dev nD)

theorem index_0 (t : Fin (cfgM m hO).N) : ((cfgM m hO).win 0).index t = ![t.val % 72, 0] := (index_at t).1
theorem index_1 (t : Fin (cfgM m hO).N) : ((cfgM m hO).win 1).index t = ![(expertAt (tbl m) (grid0.coords t)).toNat, 0, t.val / 72] :=
  (block_at_1 (tbl m) (grid0.coords t)).trans (by rw [(index_at t).2.2.1])
theorem index_2 (t : Fin (cfgM m hO).N) : ((cfgM m hO).win 2).index t = ![(expertAt (tbl m) (grid0.coords t)).toNat, 0, t.val / 72] :=
  (block_at_2 (tbl m) (grid0.coords t)).trans (by rw [(index_at t).2.2.1])
theorem index_3 (t : Fin (cfgM m hO).N) : ((cfgM m hO).win 3).index t = ![t.val % 72, 0] := (index_at t).2.2.2.2
theorem index_4 (t : Fin (cfgM m hO).N) : ((cfgM m hO).win 4).index t = ![t.val % 72, t.val / 72] := (index_at t).2.1

/-- The stored blocks are the whole result. -/
theorem covers : ((cfgM m hO).win 4).Covers := by
  refine ⟨fun a => ?_, fun β => ?_⟩
  · match a with
    | ⟨0, _⟩ => show 0 < 512; omega
    | ⟨1, _⟩ => show 0 < 512; omega
  · have b0 : (β (0 : Fin 2)).val < 72 := lt_of_lt_of_eq (β (0 : Fin 2)).isLt (by show (36864 + 512 - 1) / 512 = 72; rfl)
    have b1 : (β (1 : Fin 2)).val < 4 := lt_of_lt_of_eq (β (1 : Fin 2)).isLt (by show (2048 + 512 - 1) / 512 = 4; rfl)
    refine ⟨(⟨(β (1 : Fin 2)).val * 72 + (β (0 : Fin 2)).val, by show _ < 288; omega⟩ : Fin grid0.N), flush0_4 _ _, fun a => ⟨?_, .inl ?_⟩⟩
    · rw [index_4]
      match a with
      | ⟨0, _⟩ => show ((β (1 : Fin 2)).val * 72 + (β (0 : Fin 2)).val) % 72 = (β (0 : Fin 2)).val; omega
      | ⟨1, _⟩ => show ((β (1 : Fin 2)).val * 72 + (β (0 : Fin 2)).val) / 72 = (β (1 : Fin 2)).val; omega
    · rfl

/-- The gate weights as the host prepares them, -/
theorem gate_weights (e : Fin 8) (k : Fin 4096) (j : Fin 2048) :
    V m c main_v2 (ix3 e k j : S8x4096x2048.Idx) = m ((c : Thread nD τ).loc main_arg1) (ix3 e k j : S8x4096x2048.Idx) := by
  unfold V
  simp only [hostOps0, List.flatten_cons, List.flatten_nil, List.append_nil, List.cons_append, List.nil_append]
  after_reads_at

/-- the up weights, -/
theorem up_weights (e : Fin 8) (k : Fin 4096) (j : Fin 2048) :
    V m c main_v3 (ix3 e k j : S8x4096x2048.Idx) = m ((c : Thread nD τ).loc main_arg2) (ix3 e k j : S8x4096x2048.Idx) := by
  unfold V
  simp only [hostOps0, List.flatten_cons, List.flatten_nil, List.append_nil, List.cons_append, List.nil_append]
  after_reads_at

/-- and the rows' weights, the same along the lanes. -/
theorem row_weights (r : Fin 36864) (l : Fin 128) :
    V m c main_v1 (ix2 r l : S36864x128.Idx) = m ((c : Thread nD τ).loc main_arg3) (ix1 r : S36864.Idx) := by
  unfold V
  simp only [hostOps0, List.flatten_cons, List.flatten_nil, List.append_nil, List.cons_append, List.nil_append]
  after_reads_at

/-- The block stored at a used tile. -/
theorem payload (x : Vec Ideal S512x4096 .f32) (wg wu : Vec Ideal S1x4096x512 .bf16) (wr : Vec Ideal S512x1 .f32) (a b : Fin 512) :
    k0_pay1 x wg wu wr (ix2 a b) = (∑ k : Fin 4096, (show EReal from x (ix2 a k)) * (show EReal from wg (ix3 (0 : Fin 1) k b)))
      * Ideal.logistic (∑ k : Fin 4096, (show EReal from x (ix2 a k)) * (show EReal from wg (ix3 (0 : Fin 1) k b)))
      * (∑ k : Fin 4096, (show EReal from x (ix2 a k)) * (show EReal from wu (ix3 (0 : Fin 1) k b)))
      * (show EReal from wr (ix2 a (0 : Fin 1))) := by
  unfold k0_pay1
  pointwise

/-- The block stored at another. -/
theorem payload_unused (a b : Fin 512) : (k0_pay2 (F := Ideal)) (ix2 a b) = (0 : EReal) := by
  unfold k0_pay2
  pointwise

/-- The body's condition is that the tile is used. -/
theorem cond_iff (t : Fin grid0.N) : cond0_0 (grid0.coords t) (tbM0_1.view.readAt (Elt Ideal) (Rect.unit (s := S1) ![0] S1.size inb_S1_S1_0).toLoadRect (tbl m 1) (Shape.Idx.first (numel1_S1.symm ▸ Nat.one_pos)))
    ↔ used (m (((0 : Dev nD) : Thread nD τ).loc main_arg5)) (t.val % 72) := by
  have e : tbl m 1 = m (((0 : Dev nD) : Thread nD τ).loc main_arg5) := V_main_arg5 m 0
  have e1 : tbM0_1.view.readAt (Elt Ideal) (Rect.unit (s := S1) ![0] S1.size inb_S1_S1_0).toLoadRect (tbl m 1) (Shape.Idx.first (numel1_S1.symm ▸ Nat.one_pos))
      = m (((0 : Dev nD) : Thread nD τ).loc main_arg5) (ix1 (0 : Fin 1) : S1.Idx) := by
    rw [e]
    exact congrArg (m (((0 : Dev nD) : Thread nD τ).loc main_arg5)) (funext fun a => by
      match a with
      | ⟨0, _⟩ => exact Subsingleton.elim (α := Fin 1) _ _)
  rw [e1]
  unfold cond0_0 k0_cond1 used
  rw [(index_at t).2.2.2.1]
  exact ne_zero_iff _

/-- The first lane of the rows' weights, as the body reads it. -/
theorem first_lane (v : Vec Ideal S512x128 .f32) (a : Fin 512) :
    View.ld v (Rect.unit (s := S512x128) ![0, 0] S512x1.size inb_S512x128_S512x1_0_0) (ix2 a (0 : Fin 1) : S512x1.Idx)
      = v (ix2 a (0 : Fin 128) : S512x128.Idx) := by
  refine congrArg v (funext fun d => Fin.ext ?_)
  match d with
  | ⟨0, _⟩ => show 0 + 1 * a.val = a.val; omega
  | ⟨1, _⟩ => show 0 + 1 * 0 = 0; rfl

/-- The kernel's array. -/
theorem array (hr : ∀ x : S72.Idx, (show BitVec 32 from m (((0 : Dev nD) : Thread nD τ).loc main_arg4) x).toNat < 8) :
    (dats m hO 0 c).arrAt 4 (cfgM m hO).N
    = gate (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  obtain rfl : c = 0 := Subsingleton.elim _ _
  refine (dats m hO 0 0).arrAt_eq_of_covers 4 _ (covers m hO) fun t hf y => ?_
  blk_simp
  rw [after0_4]
  obtain ⟨a, b, rfl⟩ : ∃ (a : Fin 512) (b : Fin 512), y = ix2 a b := ⟨y (0 : Fin 2), y (1 : Fin 2), by blk_ext⟩
  have ht := points t
  have i0 := index_0 m hO t
  have i1 := index_1 m hO t
  have i2 := index_2 m hO t
  have i3 := index_3 m hO t
  have i4 := index_4 m hO t
  have hemb : (((cfgM m hO).win 4).blk t).view.emb (ix2 a b : S512x512.Idx)
      = (ix2 (⟨512 * (t.val % 72) + a, by omega⟩ : Fin 36864) (⟨512 * (t.val / 72) + b, by omega⟩ : Fin 2048) : S36864x2048.Idx) := by
    blk_ext [i4]
  have h0 : ∀ k : Fin 4096, iblk m hO 0 0 t (ix2 a k : S512x4096.Idx) = m (((0 : Dev nD) : Thread nD τ).loc main_arg0)
      (ix2 (⟨512 * (t.val % 72) + a, by omega⟩ : Fin 36864) k : S36864x4096.Idx) := fun k => by
    blk_ext [iblk, V, i0]
  have h3 : ∀ l : Fin 128, iblk m hO 0 3 t (ix2 a l : S512x128.Idx) = V m 0 main_v1
      (ix2 (⟨512 * (t.val % 72) + a, by omega⟩ : Fin 36864) l : S36864x128.Idx) := fun l => by
    blk_ext [iblk, i3]
  have he : expertAt (tbl m) (grid0.coords t) = m (((0 : Dev nD) : Thread nD τ).loc main_arg4) (ix1 (⟨t.val % 72, by omega⟩ : Fin 72) : S72.Idx) := by
    unfold expertAt
    rw [show tbl m 0 = m (((0 : Dev nD) : Thread nD τ).loc main_arg4) from V_main_arg4 m 0]
    exact congrArg _ (congrArg ix1 (Fin.ext (index_at t).2.2.2.1))
  have hx : (expertAt (tbl m) (grid0.coords t)).toNat
      = (expert (m (((0 : Dev nD) : Thread nD τ).loc main_arg4)) (⟨t.val % 72, by omega⟩ : Fin 72)).val := by
    rw [he]
    exact (Nat.mod_eq_of_lt (hr _)).symm
  generalize hE : expert (m (((0 : Dev nD) : Thread nD τ).loc main_arg4)) (⟨t.val % 72, by omega⟩ : Fin 72) = E at hx
  rw [hx] at i1 i2
  have h1 : ∀ k : Fin 4096, iblk m hO 0 1 t (ix3 (0 : Fin 1) k b : S1x4096x512.Idx) = V m 0 main_v2
      (ix3 E k (⟨512 * (t.val / 72) + b, by omega⟩ : Fin 2048) : S8x4096x2048.Idx) := fun k => by
    blk_ext [iblk, i1]
  have h2 : ∀ k : Fin 4096, iblk m hO 0 2 t (ix3 (0 : Fin 1) k b : S1x4096x512.Idx) = V m 0 main_v3
      (ix3 E k (⟨512 * (t.val / 72) + b, by omega⟩ : Fin 2048) : S8x4096x2048.Idx) := fun k => by
    blk_ext [iblk, i2]
  rw [hemb, gate_row _ _ _ _ _ _ _ _ (⟨t.val % 72, by omega⟩ : Fin 72) (by show (512 * (t.val % 72) + a.val) / 512 = t.val % 72; omega), hE]
  by_cases hu : used (m (((0 : Dev nD) : Thread nD τ).loc main_arg5)) (t.val % 72)
  · rw [if_pos hu, outsAt0_A m hO 0 t ((cond_iff m t).2 hu)]
    unfold out0_A_4
    frame_out
    refine (payload _ _ _ _ a b).trans ?_
    have p1 := fun k : Fin 4096 => congrFun ((hs0_0 m hO t).read_unread (iblk m hO 0 0 t)) (ix2 a k : S512x4096.Idx)
    have pg : (∑ k : Fin 4096, (show EReal from (ms0_0 m hO t).view.read (Elt Ideal) ((hs0_0 m hO t).unread (iblk m hO 0 0 t)) (ix2 a k : S512x4096.Idx))
          * (show EReal from (ms0_1 m hO t).view.read (Elt Ideal) ((hs0_1 m hO t).unread (iblk m hO 0 1 t)) (ix3 (0 : Fin 1) k b : S1x4096x512.Idx)))
        = prod (m (((0 : Dev nD) : Thread nD τ).loc main_arg0)) (m (((0 : Dev nD) : Thread nD τ).loc main_arg1)) E
            ⟨512 * (t.val % 72) + a, by omega⟩ ⟨512 * (t.val / 72) + b, by omega⟩ :=
      Finset.sum_congr rfl fun k _ => congrArg₂ (fun x y : EReal => x * y) ((p1 k).trans (h0 k))
        ((congrFun ((hs0_1 m hO t).read_unread (iblk m hO 0 1 t)) _).trans ((h1 k).trans (gate_weights m 0 E k _)))
    have pu : (∑ k : Fin 4096, (show EReal from (ms0_0 m hO t).view.read (Elt Ideal) ((hs0_0 m hO t).unread (iblk m hO 0 0 t)) (ix2 a k : S512x4096.Idx))
          * (show EReal from (ms0_2 m hO t).view.read (Elt Ideal) ((hs0_2 m hO t).unread (iblk m hO 0 2 t)) (ix3 (0 : Fin 1) k b : S1x4096x512.Idx)))
        = prod (m (((0 : Dev nD) : Thread nD τ).loc main_arg0)) (m (((0 : Dev nD) : Thread nD τ).loc main_arg2)) E
            ⟨512 * (t.val % 72) + a, by omega⟩ ⟨512 * (t.val / 72) + b, by omega⟩ :=
      Finset.sum_congr rfl fun k _ => congrArg₂ (fun x y : EReal => x * y) ((p1 k).trans (h0 k))
        ((congrFun ((hs0_2 m hO t).read_unread (iblk m hO 0 2 t)) _).trans ((h2 k).trans (up_weights m 0 E k _)))
    have pw := (congrArg (fun v : Vec Ideal S512x128 .f32 => View.ld v (Rect.unit (s := S512x128) ![0, 0] S512x1.size inb_S512x128_S512x1_0_0) (ix2 a (0 : Fin 1) : S512x1.Idx))
      ((hs0_3 m hO t).read_unread (iblk m hO 0 3 t))).trans ((first_lane (iblk m hO 0 3 t) a).trans ((h3 0).trans (row_weights m 0 _ _)))
    exact congrArg₂ (fun x y : EReal => x * y)
      (congrArg₂ (fun x y : EReal => x * y) (congrArg₂ (fun x y : EReal => x * y) pg (congrArg Ideal.logistic pg)) pu) pw
  · rw [if_neg hu, outsAt0_B m hO 0 t (fun h => hu ((cond_iff m t).1 h))]
    unfold out0_B_4
    frame_out
    exact payload_unused a b

end Experts.Gate

end
-- ==== Proof.Experts.GateRef.lean ====
/-
  The reference's gated hidden layer of the experts, entry by entry.
-/
module

public import proofs.«01_k».proof.Proof.Experts.Gate
public import proofs.«01_k».proof.Proof.Gen.Reference7Ideal.Run

@[expose] public section

set_option maxRecDepth 16384

noncomputable section

namespace Experts.Gate.Ref

open Cert.Reference7Ideal Cert.Reference7Ideal.Gen Experts.Tiles Idealize.ShloMosaic Idealize.ShloMosaic.TcCoe Idealize.SL.Sem

/-- The reference's result is the gated hidden layer. -/
theorem result (x0 : FVec Ideal S36864x4096 .f32) (x1 x2 : FVec Ideal S8x4096x2048 .f32) (x3 : FVec Ideal S36864 .f32)
    (x4 : IVec S72 32) (x5 : IVec S1 32) (hr : ∀ x : S72.Idx, (x4 x).toNat < 8) :
    (truncf .bf16 (Host.reduceAdd (select (broadcastInDim S36864x8x2048 ![0, 1, 2] bcast_S36864x8x1_S36864x8x2048_0_1_2 (broadcastInDim S36864x8x1 ![0, 1] bcast_S36864x8_S36864x8x1_0_1 (cmpi .eq (broadcastInDim S36864x8 ![0, 1] bcast_S36864x1_S36864x8_0_1 (broadcastInDim S36864x1 ![0] bcast_S36864_S36864x1_0 (shapeCast _ (broadcastInDim S72x512 ![0] bcast_S72_S72x512_0 (select (cmpi .slt (iotaInDim S72 32 0) (broadcastInDim S72 ![0] bcast_S1_S72_0 x5)) x4 (broadcastInDim S72 ![] bcast_S_S72 (id (constantI S_ 32 4294967295#32))))) shapeCasts_S72x512_S36864))) (broadcastInDim S36864x8 ![0, 1] bcast_S1x8_S36864x8_0_1 (broadcastInDim S1x8 ![1] bcast_S8_S1x8_1 (iotaInDim S8 32 0)))))) (mulf (broadcastInDim S36864x8x2048 ![0, 1, 2] bcast_S36864x1x1_S36864x8x2048_0_1_2 (broadcastInDim S36864x1x1 ![0] bcast_S36864_S36864x1x1_0 x3)) (mulf (mulf (Host.dotGeneral dot_S36864x4096_S8x4096x2048_S36864x8x2048_1_1_0_02_n_n none x0 x1) (Host.divf (broadcastInDim S36864x8x2048 ![] bcast_S_S36864x8x2048 (constant S_ .f32 0x3F800000#32)) (addf (broadcastInDim S36864x8x2048 ![] bcast_S_S36864x8x2048 (constant S_ .f32 0x3F800000#32)) (Host.exp (Host.negf (Host.dotGeneral dot_S36864x4096_S8x4096x2048_S36864x8x2048_1_1_0_02_n_n none x0 x1)))))) (Host.dotGeneral dot_S36864x4096_S8x4096x2048_S36864x8x2048_1_1_0_02_n_n none x0 x2))) (broadcastInDim S36864x8x2048 ![] bcast_S_S36864x8x2048 (id (constant S_ .f32 0x00000000#32)))) (constant S_ .f32 0x00000000#32) reducesTo_S36864x8x2048_S36864x2048_d1 h_S_) bitsLt_bf16_f32 : FVec Ideal S36864x2048 .bf16) = gate x0 x1 x2 x3 x4 x5 := by
  funext i
  obtain ⟨t, a, j, rfl⟩ : ∃ (t : Fin 72) (a : Fin 512) (j : Fin 2048), i = ix2 (⟨t * 512 + a, by omega⟩ : Fin 36864) j := by
    have hi : (i 0).val < 36864 := (i 0).isLt
    exact ⟨⟨(i 0).val / 512, by omega⟩, ⟨(i 0).val % 512, by omega⟩, i 1, by blk_ext⟩
  rw [gate_row _ _ _ _ _ _ _ _ t (by show (t.val * 512 + a.val) / 512 = t.val; omega),
    ← sum_own x4 x5 t (hr _) fun e => entry x0 x1 x2 x3 e (⟨t.val * 512 + a, by omega⟩ : Fin 36864) j]
  have hz : (constant S_ .f32 0x00000000#32 : FVec Ideal S_ .f32) ix0 = (0 : EReal) := by pointwise
  unfold entry prod
  pointwise
  refine Finset.sum_congr rfl fun e _ => congrArg₂ _ ?_ hz
  simp only [Ideal.logistic]
  exact mul_comm _ _

end Experts.Gate.Ref

end
-- ==== Proof.Experts.GateClaims.lean ====
/-
  The claims about the experts' gated hidden layer: frames, and equality of the kernel's result and
  the reference's.
-/
module

public import proofs.«01_k».proof.Defs
public import proofs.«01_k».proof.Proof.Experts.Kernel7.Frame
public import proofs.«01_k».proof.Proof.Experts.Kernel7.Table
public import proofs.«01_k».proof.Proof.Experts.Gate
public import proofs.«01_k».proof.Proof.Experts.GateRef
public import Idealize.ShloMosaic.Lib.Quiescent

@[expose] public section

set_option maxRecDepth 16384

noncomputable section

namespace Experts.Gate

section

open Cert.Kernel7Ideal Cert.Kernel7Ideal.Gen Experts.Kernel7Ideal Idealize.ShloMosaic Idealize.ShloMosaic.TcCoe Idealize.SL.Sem

/-- A run of the kernel leaves the array and the arguments. -/
theorem run (m : (ℓ : Loc nD τ sig) → Buf (Elt Ideal) ℓ) (ρ : Dev nD → PrngReg) (hO : Ok m)
    (hr : ∀ x : S72.Idx, (show BitVec 32 from m (((0 : Dev nD) : Thread nD τ).loc main_arg4) x).toNat < 8) :
    θ_run defs (onTc (τ := τ) (main (F := Ideal))) ⟨m, fun _ => 0, ρ⟩ (fun r => ∀ c : Dev nD,
      r.2.mem ((c.tc : Thread nD τ).loc main_v4) = gate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 4).trans (array m hO c hr),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) (run_main m ρ hO)

end

namespace Claims

open Idealize.ShloMosaic Idealize.ShloMosaic.TcCoe Idealize.SL.Sem

attribute [local instance] Cert.Kernel7.Gen.facts Cert.Kernel7Ideal.Gen.facts Cert.Reference7Ideal.Gen.facts Cert.Pre_experts_named.Gen.facts

theorem frame_kernel : Cert.quiescent_Kernel7 := fun m ρ h =>
  Experts.Kernel7.frame m ρ (Experts.Kernel7.ok_of_pre m h)

theorem frame_ideal : Cert.quiescent_Kernel7Ideal := fun m ρ h =>
  Experts.Kernel7Ideal.frame m ρ (Experts.Kernel7Ideal.ok_of_pre m h)

theorem frame_reference : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem frame_reference_named : Cert.quiescent_Reference7Ideal_pre_experts_named := fun m ρ _ => frame_reference m ρ trivial

theorem preserves : Cert.preserves_Kernel7_Kernel7Ideal := trivial

theorem algebraic : Cert.algebraic_Kernel7Ideal_Reference7Ideal := by
  intro m ρ m' ρ' hp hag
  have hr := fun c => Experts.Kernel7Ideal.range_of_pre m hp c
  refine ⟨fun c => gate (m ((c.tc : Thread _ _).loc Cert.Kernel7Ideal.main_arg0)) (m ((c.tc : Thread _ _).loc Cert.Kernel7Ideal.main_arg1)) (m ((c.tc : Thread _ _).loc Cert.Kernel7Ideal.main_arg2)) (m ((c.tc : Thread _ _).loc Cert.Kernel7Ideal.main_arg3)) (m ((c.tc : Thread _ _).loc Cert.Kernel7Ideal.main_arg4)) (m ((c.tc : Thread _ _).loc Cert.Kernel7Ideal.main_arg5)), ?_, ?_⟩
  · exact run m ρ (Experts.Kernel7Ideal.ok_of_pre m hp) (hr 0)
  · refine (θ_run Cert.Reference7Ideal.defs _ _).mono (fun r h c => ?_) (Cert.Reference7Ideal.Value.run (F := Ideal) m' ρ')
    obtain ⟨h0, h1, h2, h3, h4, h5⟩ := hag c
    refine ⟨(h c).1.trans ((Ref.result _ _ _ _ _ _ fun x => ?_).trans ?_), (h c).2⟩
    · rw [h4]
      exact hr c x
    · rw [h0, h1, h2, h3, h4, h5]

end Claims

end Experts.Gate

end
-- ==== Proof.Experts.Kernel8Ideal.Table.lean ====
/-
  The table of the tiles' experts: what the precondition says of it, and so every weight block is inside the weights.
-/
module

public import proofs.«01_k».proof.Defs
public import proofs.«01_k».proof.Proof.Experts.Kernel8Ideal.Setting
public import proofs.«01_k».proof.Proof.Gen.Pre_down_experts_named
public import Idealize.ShloMosaic.Lib.StableHlo.Predicate
public import Idealize.ShloMosaic.Lib.Pointwise.Index

@[expose] public section

set_option maxRecDepth 16384

noncomputable section

namespace Experts.Kernel8Ideal

open Cert.Kernel8Ideal Cert.Kernel8Ideal.Gen
open Idealize.ShloMosaic Idealize.ShloMosaic.TcCoe

attribute [local instance] Cert.Pre_down_experts_named.Gen.facts

variable {F : FTy → Type} [FloatOps F]

/-- The expert of the tile of a grid point, as the table has it. -/
def expertAt (pf : pre0.Contents (Elt F)) (i : grid0.Coords) : BitVec 32 := pf 0 (ix1 (⟨(i 1).val, (i 1).isLt⟩ : Fin 72) : S72.Idx)

theorem word_at (pf : pre0.Contents (Elt F)) (i : grid0.Coords) :
    pf.at 0 (Rect.unit (s := S72) (k0_off1 i) S1.size (k0_off1_inb i)) numel1_S1 = expertAt pf i := by
  refine congrArg (pf 0) (funext fun a => Fin.ext ?_)
  match a with
  | ⟨0, _⟩ =>
    show (BitVec.ofNat 32 (i 1).val).toNat + 1 * _ = (i 1).val
    have h : (i 1).val < 72 := (i 1).isLt
    rw [BitVec.toNat_ofNat, Nat.mod_eq_of_lt (by omega)]
    have hz : ∀ x : Fin 1, x.val = 0 := fun x => by omega
    exact (congrArg (fun z => (i 1).val + 1 * z) (hz _)).trans (by omega)

/-- The weight block a grid point reads. -/
theorem block_at_1 (pf : pre0.Contents (Elt F)) (i : grid0.Coords) :
    cc0_transform_1 k0_off1_inb numel1_S1 pf i = ![(expertAt pf i).toNat, 0, (i 0).val] := by
  have h : (i 0).val < 4 := (i 0).isLt
  have h0 : (BitVec.ofNat 32 (i 0).val).toNat = (i 0).val := by rw [BitVec.toNat_ofNat, Nat.mod_eq_of_lt (by omega)]
  have h1 := word_at pf i
  unfold cc0_transform_1
  show ![(pf.at 0 (Rect.unit (s := S72) (k0_off1 i) S1.size (k0_off1_inb i)) numel1_S1).toNat, 0, (BitVec.ofNat 32 (i 0).val).toNat] = _
  rw [h0, h1]

variable (m : (ℓ : Loc nD τ sig) → Buf (Elt F) ℓ)

/-- Every tile's expert is one of the eight: then the weight blocks are inside the weights. -/
theorem ok_of_range (hr : ∀ x : S72.Idx, (show BitVec 32 from m (((0 : Dev nD) : Thread nD τ).loc main_arg2) x).toNat < 8) : Ok m := by
  have ht : ∀ i : grid0.Coords, (expertAt (tbl m) i).toNat < 8 := fun i => by
    have e : tbl m 0 = m (((0 : Dev nD) : Thread nD τ).loc main_arg2) := V_main_arg2 m 0
    unfold expertAt
    rw [e]
    exact hr _
  unfold Ok ok0
  exact fun i => ⟨fun a => by
    have h0 := ht i
    have h1 : (i 0).val < 4 := (i 0).isLt
    rw [block_at_1]
    match a with
    | ⟨0, _⟩ => show ((expertAt (tbl m) i).toNat + 1) * 1 ≤ 8; omega
    | ⟨1, _⟩ => show (0 + 1) * 2048 ≤ 2048; omega
    | ⟨2, _⟩ => show ((i 0).val + 1) * 1024 ≤ 4096; omega,
    .inr (Affine.block_words_dvd (of_decide_eq_true rfl) (by decide))⟩

/-- The precondition says so. -/
theorem range_of_pre (m : (ℓ : Loc nD τ sig) → Buf (Elt Ideal) ℓ) (h : Cert.Pre_Kernel8Ideal m) (c : Dev nD) (x : S72.Idx) :
    (show BitVec 32 from m ((c : Thread nD τ).loc main_arg2) x).toNat < 8 := by
  have e := congrFun (h c) x
  simp only [Cert.Pre_down_experts_named.fn, andi, cmpi] at e
  generalize m ((c : Thread nD τ).loc main_arg2) x = v at e ⊢
  revert e
  show IntOp.andi (BitVec.ofBool ((0#32).sle v)) (BitVec.ofBool (v.slt 8#32)) = 1#1 → v.toNat < 8
  rw [WordCmp.andi_ofBool, WordCmp.ofBool_eq_one_iff, Bool.and_eq_true, BitVec.sle_eq_decide, BitVec.slt_eq_decide]
  simp only [decide_eq_true_eq]
  intro ⟨h0, h8⟩
  have t0 : (0#32).toInt = 0 := rfl
  have t8 : (8#32).toInt = 8 := rfl
  rw [t0] at h0
  rw [t8] at h8
  have := BitVec.toInt_eq_toNat_cond v
  have hlt := v.isLt
  split at this <;> omega

theorem ok_of_pre (m : (ℓ : Loc nD τ sig) → Buf (Elt Ideal) ℓ) (h : Cert.Pre_Kernel8Ideal m) : Ok m := ok_of_range m (range_of_pre m h 0)

end Experts.Kernel8Ideal

end
-- ==== Proof.Experts.Down.lean ====
/-
  The experts' down projection: the array the kernel leaves, entry by entry.
-/
module

public import proofs.«01_k».proof.Proof.Experts.Kernel8Ideal.Frame
public import proofs.«01_k».proof.Proof.Experts.Kernel8Ideal.Table
public import proofs.«01_k».proof.Proof.Experts.Tiles
public import Idealize.ShloMosaic.Lib.Claim
public import Idealize.ShloMosaic.Lib.StableHlo.ReadAt
public import Idealize.ShloMosaic.Lib.Pipeline.ValueKit
public import Idealize.ShloMosaic.Lib.Pipeline.Covers

@[expose] public section

set_option maxRecDepth 16384

noncomputable section

namespace Experts.Down

open Cert.Kernel8Ideal Cert.Kernel8Ideal.Gen Experts.Kernel8Ideal Experts.Tiles Idealize.ShloMosaic Idealize.ShloMosaic.TcCoe Idealize.SL.Sem

/-- Each row of a used tile through its expert's weights, and zeros in the rows of the others. -/
def down (hid : Vec Ideal S36864x2048 .bf16) (w : Vec Ideal S8x2048x4096 .f32) (te : IVec S72 32) (nu : IVec S1 32) :
    Vec Ideal S36864x4096 .f32 := fun i =>
  if used nu ((i 0).val / 512) then
    ∑ k : Fin 2048, (show EReal from hid (ix2 (i 0) k))
      * (show EReal from w (ix3 (expert te ⟨(i 0).val / 512, by have : (i 0).val < 36864 := (i 0).isLt; omega⟩) k (i 1)))
  else (0 : EReal)

/-- An entry in a tile's row. -/
theorem down_row (hid : Vec Ideal S36864x2048 .bf16) (w : Vec Ideal S8x2048x4096 .f32) (te : IVec S72 32) (nu : IVec S1 32)
    (r : Fin 36864) (j : Fin 4096) (t : Fin 72) (ht : r.val / 512 = t.val) :
    down hid w te nu (ix2 r j : S36864x4096.Idx) = if used nu t.val then
      ∑ k : Fin 2048, (show EReal from hid (ix2 r k)) * (show EReal from w (ix3 (expert te t) k j)) else (0 : EReal) := by
  obtain ⟨t, hlt⟩ := t
  obtain rfl : r.val / 512 = t := ht
  rfl

/-- What the index maps say at each grid point. -/
theorem index_at : ∀ t : Fin grid0.N,
    cc0_transform_0 (grid0.coords t) = ![t.val % 72, 0] ∧ cc0_transform_2 (grid0.coords t) = ![t.val % 72, t.val / 72]
    ∧ (grid0.coords t 0).val = t.val / 72 ∧ (grid0.coords t 1).val = t.val % 72 := by decide +kernel

theorem points (t : Fin grid0.N) : t.val < 288 := t.isLt

variable (m : (ℓ : Loc nD τ sig) → Buf (Elt Ideal) ℓ) (hO : Ok m) (c : Dev nD)

theorem index_0 (t : Fin (cfgM m hO).N) : ((cfgM m hO).win 0).index t = ![t.val % 72, 0] := (index_at t).1
theorem index_1 (t : Fin (cfgM m hO).N) : ((cfgM m hO).win 1).index t = ![(expertAt (tbl m) (grid0.coords t)).toNat, 0, t.val / 72] :=
  (block_at_1 (tbl m) (grid0.coords t)).trans (by rw [(index_at t).2.2.1])
theorem index_2 (t : Fin (cfgM m hO).N) : ((cfgM m hO).win 2).index t = ![t.val % 72, t.val / 72] := (index_at t).2.1

/-- The stored blocks are the whole result. -/
theorem covers : ((cfgM m hO).win 2).Covers := by
  refine ⟨fun a => ?_, fun β => ?_⟩
  · match a with
    | ⟨0, _⟩ => show 0 < 512; omega
    | ⟨1, _⟩ => show 0 < 1024; omega
  · have b0 : (β (0 : Fin 2)).val < 72 := lt_of_lt_of_eq (β (0 : Fin 2)).isLt (by show (36864 + 512 - 1) / 512 = 72; rfl)
    have b1 : (β (1 : Fin 2)).val < 4 := lt_of_lt_of_eq (β (1 : Fin 2)).isLt (by show (4096 + 1024 - 1) / 1024 = 4; rfl)
    refine ⟨(⟨(β (1 : Fin 2)).val * 72 + (β (0 : Fin 2)).val, by show _ < 288; omega⟩ : Fin grid0.N), flush0_2 _ _, fun a => ⟨?_, .inl ?_⟩⟩
    · rw [index_2]
      match a with
      | ⟨0, _⟩ => show ((β (1 : Fin 2)).val * 72 + (β (0 : Fin 2)).val) % 72 = (β (0 : Fin 2)).val; omega
      | ⟨1, _⟩ => show ((β (1 : Fin 2)).val * 72 + (β (0 : Fin 2)).val) / 72 = (β (1 : Fin 2)).val; omega
    · rfl

/-- The weights as the host prepares them. -/
theorem weights (e : Fin 8) (k : Fin 2048) (j : Fin 4096) :
    V m c main_v0 (ix3 e k j : S8x2048x4096.Idx) = m ((c : Thread nD τ).loc main_arg1) (ix3 e k j : S8x2048x4096.Idx) := by
  unfold V
  simp only [hostOps0, List.flatten_cons, List.flatten_nil, List.append_nil, List.cons_append, List.nil_append]
  after_reads_at

/-- The block stored at a used tile. -/
theorem payload (x : Vec Ideal S512x2048 .bf16) (w : Vec Ideal S1x2048x1024 .bf16) (a : Fin 512) (b : Fin 1024) :
    k0_pay1 x w (ix2 a b) = ∑ k : Fin 2048, (show EReal from x (ix2 a k)) * (show EReal from w (ix3 (0 : Fin 1) k b)) := by
  unfold k0_pay1
  pointwise

/-- The block stored at another. -/
theorem payload_unused (a : Fin 512) (b : Fin 1024) : (k0_pay2 (F := Ideal)) (ix2 a b) = (0 : EReal) := by
  unfold k0_pay2
  pointwise

/-- The body's condition is that the tile is used. -/
theorem cond_iff (t : Fin grid0.N) : cond0_0 (grid0.coords t) (tbM0_1.view.readAt (Elt Ideal) (Rect.unit (s := S1) ![0] S1.size inb_S1_S1_0).toLoadRect (tbl m 1) (Shape.Idx.first (numel1_S1.symm ▸ Nat.one_pos)))
    ↔ used (m (((0 : Dev nD) : Thread nD τ).loc main_arg3)) (t.val % 72) := by
  have e : tbl m 1 = m (((0 : Dev nD) : Thread nD τ).loc main_arg3) := V_main_arg3 m 0
  have e1 : tbM0_1.view.readAt (Elt Ideal) (Rect.unit (s := S1) ![0] S1.size inb_S1_S1_0).toLoadRect (tbl m 1) (Shape.Idx.first (numel1_S1.symm ▸ Nat.one_pos))
      = m (((0 : Dev nD) : Thread nD τ).loc main_arg3) (ix1 (0 : Fin 1) : S1.Idx) := by
    rw [e]
    exact congrArg (m (((0 : Dev nD) : Thread nD τ).loc main_arg3)) (funext fun a => by
      match a with
      | ⟨0, _⟩ => exact Subsingleton.elim (α := Fin 1) _ _)
  rw [e1]
  unfold cond0_0 k0_cond1 used
  rw [(index_at t).2.2.2]
  exact ne_zero_iff _

/-- The kernel's array. -/
theorem array (hr : ∀ x : S72.Idx, (show BitVec 32 from m (((0 : Dev nD) : Thread nD τ).loc main_arg2) x).toNat < 8) :
    (dats m hO 0 c).arrAt 2 (cfgM m hO).N
    = down (m ((c : Thread nD τ).loc main_arg0)) (m ((c : Thread nD τ).loc main_arg1)) (m ((c : Thread nD τ).loc main_arg2))
        (m ((c : Thread nD τ).loc main_arg3)) := by
  obtain rfl : c = 0 := Subsingleton.elim _ _
  refine (dats m hO 0 0).arrAt_eq_of_covers 2 _ (covers m hO) fun t hf y => ?_
  blk_simp
  rw [after0_2]
  obtain ⟨a, b, rfl⟩ : ∃ (a : Fin 512) (b : Fin 1024), y = ix2 a b := ⟨y (0 : Fin 2), y (1 : Fin 2), by blk_ext⟩
  have ht := points t
  have i0 := index_0 m hO t
  have i1 := index_1 m hO t
  have i2 := index_2 m hO t
  have hemb : (((cfgM m hO).win 2).blk t).view.emb (ix2 a b : S512x1024.Idx)
      = (ix2 (⟨512 * (t.val % 72) + a, by omega⟩ : Fin 36864) (⟨1024 * (t.val / 72) + b, by omega⟩ : Fin 4096) : S36864x4096.Idx) := by
    blk_ext [i2]
  have h0 : ∀ k : Fin 2048, iblk m hO 0 0 t (ix2 a k : S512x2048.Idx) = m (((0 : Dev nD) : Thread nD τ).loc main_arg0)
      (ix2 (⟨512 * (t.val % 72) + a, by omega⟩ : Fin 36864) k : S36864x2048.Idx) := fun k => by
    blk_ext [iblk, V, i0]
  have he : expertAt (tbl m) (grid0.coords t) = m (((0 : Dev nD) : Thread nD τ).loc main_arg2) (ix1 (⟨t.val % 72, by omega⟩ : Fin 72) : S72.Idx) := by
    unfold expertAt
    rw [show tbl m 0 = m (((0 : Dev nD) : Thread nD τ).loc main_arg2) from V_main_arg2 m 0]
    exact congrArg _ (congrArg ix1 (Fin.ext (index_at t).2.2.2))
  have hx : (expertAt (tbl m) (grid0.coords t)).toNat
      = (expert (m (((0 : Dev nD) : Thread nD τ).loc main_arg2)) (⟨t.val % 72, by omega⟩ : Fin 72)).val := by
    rw [he]
    exact (Nat.mod_eq_of_lt (hr _)).symm
  generalize hE : expert (m (((0 : Dev nD) : Thread nD τ).loc main_arg2)) (⟨t.val % 72, by omega⟩ : Fin 72) = E at hx
  rw [hx] at i1
  have h1 : ∀ k : Fin 2048, iblk m hO 0 1 t (ix3 (0 : Fin 1) k b : S1x2048x1024.Idx) = V m 0 main_v0
      (ix3 E k (⟨1024 * (t.val / 72) + b, by omega⟩ : Fin 4096) : S8x2048x4096.Idx) := fun k => by
    blk_ext [iblk, i1]
  rw [hemb, down_row _ _ _ _ _ _ (⟨t.val % 72, by omega⟩ : Fin 72) (by show (512 * (t.val % 72) + a.val) / 512 = t.val % 72; omega), hE]
  by_cases hu : used (m (((0 : Dev nD) : Thread nD τ).loc main_arg3)) (t.val % 72)
  · rw [if_pos hu, outsAt0_A m hO 0 t ((cond_iff m t).2 hu)]
    unfold out0_A_2
    frame_out
    refine (payload _ _ a b).trans (Finset.sum_congr rfl fun k _ => ?_)
    exact congrArg₂ (fun x y : EReal => x * y)
      ((congrFun ((hs0_0 m hO t).read_unread (iblk m hO 0 0 t)) _).trans (h0 k))
      ((congrFun ((hs0_1 m hO t).read_unread (iblk m hO 0 1 t)) _).trans ((h1 k).trans (weights m 0 E k _)))
  · rw [if_neg hu, outsAt0_B m hO 0 t (fun h => hu ((cond_iff m t).1 h))]
    unfold out0_B_2
    frame_out
    exact payload_unused a b

end Experts.Down

end
-- ==== Proof.Experts.DownRef.lean ====
/-
  The reference's down projection of the experts, entry by entry.
-/
module

public import proofs.«01_k».proof.Proof.Experts.Down
public import proofs.«01_k».proof.Proof.Gen.Reference8Ideal.Run

@[expose] public section

set_option maxRecDepth 16384

noncomputable section

namespace Experts.Down.Ref

open Cert.Reference8Ideal Cert.Reference8Ideal.Gen Experts.Tiles Idealize.ShloMosaic Idealize.ShloMosaic.TcCoe Idealize.SL.Sem

/-- The reference's result is the down projection. -/
theorem result (x0 : FVec Ideal S36864x2048 .bf16) (x1 : FVec Ideal S8x2048x4096 .f32) (x2 : IVec S72 32) (x3 : IVec S1 32)
    (hr : ∀ x : S72.Idx, (x2 x).toNat < 8) :
    (Host.reduceAdd (select (broadcastInDim S36864x8x4096 ![0, 1, 2] bcast_S36864x8x1_S36864x8x4096_0_1_2 (broadcastInDim S36864x8x1 ![0, 1] bcast_S36864x8_S36864x8x1_0_1 (cmpi .eq (broadcastInDim S36864x8 ![0, 1] bcast_S36864x1_S36864x8_0_1 (broadcastInDim S36864x1 ![0] bcast_S36864_S36864x1_0 (shapeCast _ (broadcastInDim S72x512 ![0] bcast_S72_S72x512_0 (select (cmpi .slt (iotaInDim S72 32 0) (broadcastInDim S72 ![0] bcast_S1_S72_0 x3)) x2 (broadcastInDim S72 ![] bcast_S_S72 (id (constantI S_ 32 4294967295#32))))) shapeCasts_S72x512_S36864))) (broadcastInDim S36864x8 ![0, 1] bcast_S1x8_S36864x8_0_1 (broadcastInDim S1x8 ![1] bcast_S8_S1x8_1 (iotaInDim S8 32 0)))))) (Host.dotGeneral dot_S36864x2048_S8x2048x4096_S36864x8x4096_1_1_0_02_n_n none (extf .f32 x0 bitsLt_bf16_f32) x1) (broadcastInDim S36864x8x4096 ![] bcast_S_S36864x8x4096 (id (constant S_ .f32 0x00000000#32)))) (constant S_ .f32 0x00000000#32) reducesTo_S36864x8x4096_S36864x4096_d1 h_S_ : FVec Ideal S36864x4096 .f32) = down x0 x1 x2 x3 := by
  funext i
  obtain ⟨t, a, j, rfl⟩ : ∃ (t : Fin 72) (a : Fin 512) (j : Fin 4096), i = ix2 (⟨t * 512 + a, by omega⟩ : Fin 36864) j := by
    have hi : (i 0).val < 36864 := (i 0).isLt
    exact ⟨⟨(i 0).val / 512, by omega⟩, ⟨(i 0).val % 512, by omega⟩, i 1, by blk_ext⟩
  rw [down_row _ _ _ _ _ _ t (by show (t.val * 512 + a.val) / 512 = t.val; omega),
    ← sum_own x2 x3 t (hr _) fun e => ∑ k : Fin 2048, (show EReal from x0 (ix2 (⟨t.val * 512 + a, by omega⟩ : Fin 36864) k)) * (show EReal from x1 (ix3 e k j))]
  have hz : (constant S_ .f32 0x00000000#32 : FVec Ideal S_ .f32) ix0 = (0 : EReal) := by pointwise
  pointwise
  exact Finset.sum_congr rfl fun e _ => congrArg _ hz

end Experts.Down.Ref

end
-- ==== Proof.Experts.DownClaims.lean ====
/-
  The claims about the experts' down projection: frames, and equality of the kernel's result and
  the reference's.
-/
module

public import proofs.«01_k».proof.Defs
public import proofs.«01_k».proof.Proof.Experts.Kernel8.Frame
public import proofs.«01_k».proof.Proof.Experts.Kernel8.Table
public import proofs.«01_k».proof.Proof.Experts.Down
public import proofs.«01_k».proof.Proof.Experts.DownRef
public import Idealize.ShloMosaic.Lib.Quiescent

@[expose] public section

set_option maxRecDepth 16384

noncomputable section

namespace Experts.Down

section

open Cert.Kernel8Ideal Cert.Kernel8Ideal.Gen Experts.Kernel8Ideal Idealize.ShloMosaic Idealize.ShloMosaic.TcCoe Idealize.SL.Sem

/-- A run of the kernel leaves the array and the arguments. -/
theorem run (m : (ℓ : Loc nD τ sig) → Buf (Elt Ideal) ℓ) (ρ : Dev nD → PrngReg) (hO : Ok m)
    (hr : ∀ x : S72.Idx, (show BitVec 32 from m (((0 : Dev nD) : Thread nD τ).loc main_arg2) x).toNat < 8) :
    θ_run defs (onTc (τ := τ) (main (F := Ideal))) ⟨m, fun _ => 0, ρ⟩ (fun r => ∀ c : Dev nD,
      r.2.mem ((c.tc : Thread nD τ).loc main_v1) = down (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 2).trans (array m hO c hr),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) (run_main m ρ hO)

end

namespace Claims

open Idealize.ShloMosaic Idealize.ShloMosaic.TcCoe Idealize.SL.Sem

attribute [local instance] Cert.Kernel8.Gen.facts Cert.Kernel8Ideal.Gen.facts Cert.Reference8Ideal.Gen.facts Cert.Pre_down_experts_named.Gen.facts

theorem frame_kernel : Cert.quiescent_Kernel8 := fun m ρ h =>
  Experts.Kernel8.frame m ρ (Experts.Kernel8.ok_of_pre m h)

theorem frame_ideal : Cert.quiescent_Kernel8Ideal := fun m ρ h =>
  Experts.Kernel8Ideal.frame m ρ (Experts.Kernel8Ideal.ok_of_pre m h)

theorem frame_reference : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem frame_reference_named : Cert.quiescent_Reference8Ideal_pre_down_experts_named := fun m ρ _ => frame_reference m ρ trivial

theorem preserves : Cert.preserves_Kernel8_Kernel8Ideal := trivial

theorem algebraic : Cert.algebraic_Kernel8Ideal_Reference8Ideal := by
  intro m ρ m' ρ' hp hag
  have hr := fun c => Experts.Kernel8Ideal.range_of_pre m hp c
  refine ⟨fun c => down (m ((c.tc : Thread _ _).loc Cert.Kernel8Ideal.main_arg0)) (m ((c.tc : Thread _ _).loc Cert.Kernel8Ideal.main_arg1)) (m ((c.tc : Thread _ _).loc Cert.Kernel8Ideal.main_arg2)) (m ((c.tc : Thread _ _).loc Cert.Kernel8Ideal.main_arg3)), ?_, ?_⟩
  · exact run m ρ (Experts.Kernel8Ideal.ok_of_pre m hp) (hr 0)
  · refine (θ_run Cert.Reference8Ideal.defs _ _).mono (fun r h c => ?_) (Cert.Reference8Ideal.Value.run (F := Ideal) m' ρ')
    obtain ⟨h0, h1, h2, h3⟩ := hag c
    refine ⟨(h c).1.trans ((Ref.result _ _ _ _ fun x => ?_).trans ?_), (h c).2⟩
    · rw [h2]
      exact hr c x
    · rw [h0, h1, h2, h3]

end Claims

end Experts.Down

end
-- ==== Proof.lean ====
/-
  The claim, of eight of the layer's calls: the mLSTM recurrence, the input projection, the dense feed-forward part's hidden
  layer and down projection, the gated sum of the branches, the output projection, and the experts' hidden layer and down
  projection. Of each: frames of the kernel, its
  idealization and the reference, what the idealization keeps, and equality of the results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Pre_experts_named
public import proofs.«01_k».proof.Proof.Gen.Pre_down_experts_named
public import proofs.«01_k».proof.Proof.Experts.Kernel7.Frame
public import proofs.«01_k».proof.Proof.Experts.Kernel8.Frame
public import proofs.«01_k».proof.Proof.Experts.Kernel7Ideal.Frame
public import proofs.«01_k».proof.Proof.Experts.Kernel8Ideal.Frame
public import proofs.«01_k».proof.Proof.MLstm.Claims
public import proofs.«01_k».proof.Proof.Products.InputClaims
public import proofs.«01_k».proof.Proof.Products.HiddenClaims
public import proofs.«01_k».proof.Proof.Products.DownClaims
public import proofs.«01_k».proof.Proof.Products.MergeClaims
public import proofs.«01_k».proof.Proof.Products.OutputClaims
public import proofs.«01_k».proof.Proof.Experts.GateClaims
public import proofs.«01_k».proof.Proof.Experts.DownClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  MLstm.pre_facts, Cert.Pre_experts_named.Gen.facts, Cert.Pre_down_experts_named.Gen.facts,
  MLstm.Claims.frame_kernel, MLstm.Claims.frame_ideal, MLstm.Claims.frame_ideal_finite (h := MLstm.pre_facts),
  MLstm.Claims.frame_reference, MLstm.Claims.frame_reference_finite (h := MLstm.pre_facts),
  Products.Input.Claims.frame_kernel, Products.Input.Claims.frame_ideal, Products.Input.Claims.frame_reference,
  Products.Hidden.Claims.frame_kernel, Products.Hidden.Claims.frame_ideal, Products.Hidden.Claims.frame_reference,
  Products.Down.Claims.frame_kernel, Products.Down.Claims.frame_ideal, Products.Down.Claims.frame_reference,
  Products.Merge.Claims.frame_kernel, Products.Merge.Claims.frame_ideal, Products.Merge.Claims.frame_reference,
  Products.Output.Claims.frame_kernel, Products.Output.Claims.frame_ideal, Products.Output.Claims.frame_reference,
  Experts.Gate.Claims.frame_kernel, Experts.Gate.Claims.frame_ideal, Experts.Gate.Claims.frame_reference,
  Experts.Gate.Claims.frame_reference_named,
  Experts.Down.Claims.frame_kernel, Experts.Down.Claims.frame_ideal, Experts.Down.Claims.frame_reference,
  Experts.Down.Claims.frame_reference_named,
  MLstm.Claims.preserves, MLstm.Claims.algebraic (h := MLstm.pre_facts),
  Products.Input.Claims.preserves, Products.Input.Claims.algebraic,
  Products.Hidden.Claims.preserves, Products.Hidden.Claims.algebraic,
  Products.Down.Claims.preserves, Products.Down.Claims.algebraic,
  Products.Merge.Claims.preserves, Products.Merge.Claims.algebraic,
  Products.Output.Claims.preserves, Products.Output.Claims.algebraic,
  Experts.Gate.Claims.preserves, Experts.Gate.Claims.algebraic,
  Experts.Down.Claims.preserves, Experts.Down.Claims.algebraic⟩

end Cert.Proof

end
